-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  IdealRules.named_const.Statement Cert.KernelIdeal.κ "scale2" .f32 0x3E0293EE#32 ((((Real.sqrt 128) * (Real.log 2))⁻¹ : ℝ) : EReal)
  ∧ IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v108) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v21_0)) (v1 : (c : Dev Cert.Kernel2Ideal.nD) → Buf (Elt Ideal) ((c.tc : Thread Cert.Kernel2Ideal.nD Cert.Kernel2Ideal.τ).loc Cert.Kernel2Ideal.main_v21_1)) (v2 : (c : Dev Cert.Kernel2Ideal.nD) → Buf (Elt Ideal) ((c.tc : Thread Cert.Kernel2Ideal.nD Cert.Kernel2Ideal.τ).loc Cert.Kernel2Ideal.main_v21_2)) (v3 : (c : Dev Cert.Kernel2Ideal.nD) → Buf (Elt Ideal) ((c.tc : Thread Cert.Kernel2Ideal.nD Cert.Kernel2Ideal.τ).loc Cert.Kernel2Ideal.main_v21_3)) (v4 : (c : Dev Cert.Kernel2Ideal.nD) → Buf (Elt Ideal) ((c.tc : Thread Cert.Kernel2Ideal.nD Cert.Kernel2Ideal.τ).loc Cert.Kernel2Ideal.main_v21_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21_0) = v0 c
          ∧ r.2.mem ((c.tc : Thread Cert.Kernel2Ideal.nD Cert.Kernel2Ideal.τ).loc Cert.Kernel2Ideal.main_v21_1) = v1 c
          ∧ r.2.mem ((c.tc : Thread Cert.Kernel2Ideal.nD Cert.Kernel2Ideal.τ).loc Cert.Kernel2Ideal.main_v21_2) = v2 c
          ∧ r.2.mem ((c.tc : Thread Cert.Kernel2Ideal.nD Cert.Kernel2Ideal.τ).loc Cert.Kernel2Ideal.main_v21_3) = v3 c
          ∧ r.2.mem ((c.tc : Thread Cert.Kernel2Ideal.nD Cert.Kernel2Ideal.τ).loc Cert.Kernel2Ideal.main_v21_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v74) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_v75) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v77) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v37) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_v37) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v59) = v3 c
          ∧ r.2.mem ((c.tc : Thread Cert.Reference4Ideal.nD Cert.Reference4Ideal.τ).loc Cert.Reference4Ideal.main_v60) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_on_live [hKernel5Ideal : Cert.Kernel5Ideal.Facts] [hReference5Ideal : Cert.Reference5Ideal.Facts] [hOn_live : Cert.On_live.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![8192, 7168]⟩ : Shape).Idx, (Cert.On_live.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) i = 1#1 → r.2.mem ((c.tc : Thread Cert.Kernel5Ideal.nD Cert.Kernel5Ideal.τ).loc Cert.Kernel5Ideal.main_v0) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![8192, 7168]⟩ : Shape).Idx, (Cert.On_live.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) i = 1#1 → r.2.mem ((c.tc : Thread Cert.Reference5Ideal.nD Cert.Reference5Ideal.τ).loc Cert.Reference5Ideal.main_v2) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_on_live9 [hKernel9Ideal : Cert.Kernel9Ideal.Facts] [hReference9Ideal : Cert.Reference9Ideal.Facts] [hOn_live9 : Cert.On_live9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          (∀ i : (⟨2, ![2048, 7168]⟩ : Shape).Idx, (Cert.On_live9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) i = 1#1 → r.2.mem ((c.tc : Thread Cert.Kernel9Ideal.nD Cert.Kernel9Ideal.τ).loc Cert.Kernel9Ideal.main_v0) i = v0 c i)
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          (∀ i : (⟨2, ![2048, 7168]⟩ : Shape).Idx, (Cert.On_live9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) i = 1#1 → r.2.mem ((c.tc : Thread Cert.Reference9Ideal.nD Cert.Reference9Ideal.τ).loc Cert.Reference9Ideal.main_v5) i = v0 c i)
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hOn_live : Cert.On_live.Facts) (hOn_live9 : Cert.On_live9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_live (hKernel5Ideal := hKernel5Ideal) (hReference5Ideal := hReference5Ideal) (hOn_live := hOn_live)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_on_live9 (hKernel9Ideal := hKernel9Ideal) (hReference9Ideal := hReference9Ideal) (hOn_live9 := hOn_live9)
-- ==== On_live.lean ====
abbrev S8192x2048 : Shape := ⟨2, ![8192, 2048]⟩
abbrev S2048x7168 : Shape := ⟨2, ![2048, 7168]⟩
abbrev S8192x7168 : Shape := ⟨2, ![8192, 7168]⟩
abbrev S_ : Shape := ⟨0, ![]⟩

class Facts : Prop where
  bcast_S_S8192x7168 : S_.BroadcastsInDim S8192x7168 (![] : Fin 0 → Fin S8192x7168.rank)

variable [Facts]

def fn {F : FTy → Type} [FloatOps F] (main_arg0 : FVec F S8192x2048 .f32) (main_arg1 : FVec F S2048x7168 .bf16) : IVec S8192x7168 1 :=
  let main_v0 : IVec S8192x7168 32 := iotaInDim S8192x7168 32 1
  let main_c : IVec S_ 32 := constantI S_ 32 5760#32
  let main_v1 : IVec S8192x7168 32 := broadcastInDim S8192x7168 ![] bcast_S_S8192x7168 main_c
  let main_v2 : IVec S8192x7168 1 := cmpi .slt main_v0 main_v1
  let main_c_0 : IVec S_ 32 := constantI S_ 32 6144#32
  let main_v3 : IVec S8192x7168 32 := broadcastInDim S8192x7168 ![] bcast_S_S8192x7168 main_c_0
  let main_v4 : IVec S8192x7168 1 := cmpi .sge main_v0 main_v3
  let main_v5 : IVec S8192x7168 1 := ori main_v2 main_v4
  main_v5
-- ==== On_live9.lean ====
abbrev S8192x2048 : Shape := ⟨2, ![8192, 2048]⟩
abbrev S8192x7168 : Shape := ⟨2, ![8192, 7168]⟩
abbrev S2048x7168 : Shape := ⟨2, ![2048, 7168]⟩
abbrev S_ : Shape := ⟨0, ![]⟩

class Facts : Prop where
  bcast_S_S2048x7168 : S_.BroadcastsInDim S2048x7168 (![] : Fin 0 → Fin S2048x7168.rank)

variable [Facts]

def fn {F : FTy → Type} [FloatOps F] (main_arg0 : FVec F S8192x2048 .f32) (main_arg1 : FVec F S8192x7168 .bf16) : IVec S2048x7168 1 :=
  let main_v0 : IVec S2048x7168 32 := iotaInDim S2048x7168 32 1
  let main_c : IVec S_ 32 := constantI S_ 32 5760#32
  let main_v1 : IVec S2048x7168 32 := broadcastInDim S2048x7168 ![] bcast_S_S2048x7168 main_c
  let main_v2 : IVec S2048x7168 1 := cmpi .slt main_v0 main_v1
  let main_c_0 : IVec S_ 32 := constantI S_ 32 6144#32
  let main_v3 : IVec S2048x7168 32 := broadcastInDim S2048x7168 ![] bcast_S_S2048x7168 main_c_0
  let main_v4 : IVec S2048x7168 1 := cmpi .sge main_v0 main_v3
  let main_v5 : IVec S2048x7168 1 := ori main_v2 main_v4
  main_v5
-- ==== Pre_finite.lean ====
abbrev S8192x7168 : Shape := ⟨2, ![8192, 7168]⟩
abbrev S8192x2048 : Shape := ⟨2, ![8192, 2048]⟩
abbrev S256x1024 : Shape := ⟨2, ![256, 1024]⟩
abbrev S_ : Shape := ⟨0, ![]⟩

class Facts : Prop where
  bitsLt_bf16_f32 : FTy.bits .bf16 < FTy.bits .f32
  bcast_S_S8192x7168 : S_.BroadcastsInDim S8192x7168 (![] : Fin 0 → Fin S8192x7168.rank)
  reducesTo_S8192x7168_S_d0_1 : S8192x7168.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S8192x7168 .bf16) (main_arg1 : FVec F S8192x2048 .bf16) (main_arg2 : FVec F S256x1024 .bf16) (main_arg3 : FVec F S8192x2048 .bf16) (main_arg4 : FVec F S8192x7168 .bf16) : IVec S_ 1 :=
  let main_v0 : FVec F S8192x7168 .f32 := (extf .f32 · bitsLt_bf16_f32) main_arg0
  let main_v1 : FVec F S8192x7168 .f32 := Host.absf main_v0
  let main_cst : FVec F S_ .f32 := constant S_ .f32 0x7F800000#32
  let main_v2 : FVec F S8192x7168 .f32 := broadcastInDim S8192x7168 ![] bcast_S_S8192x7168 main_cst
  let main_v3 : IVec S8192x7168 1 := cmpf .olt main_v1 main_v2
  let main_c : IVec S_ 1 := constantI S_ 1 1#1
  let main_v4 : IVec S_ 1 := (fun x v => Host.reduce IntOp.andi x v reducesTo_S8192x7168_S_d0_1 h_S_) main_v3 main_c
  let main_v5 : FVec F S256x1024 .f32 := (extf .f32 · bitsLt_bf16_f32) main_arg2
  let main_v6 : FVec F S256x1024 .f32 := Host.absf main_v5
  let main_cst_0 : FVec F S_ .f32 := constant S_ .f32 0x7F800000#32
  let main_v7 : FVec F S256x1024 .f32 := broadcastInDim S256x1024 ![] bcast_S_S256x1024 main_cst_0
  let main_v8 : IVec S256x1024 1 := cmpf .olt main_v6 main_v7
  let main_c_1 : IVec S_ 1 := constantI S_ 1 1#1
  let main_v9 : IVec S_ 1 := (fun x v => Host.reduce IntOp.andi x v reducesTo_S256x1024_S_d0_1 h_S_) main_v8 main_c_1
  let main_v10 : IVec S_ 1 := andi main_v4 main_v9
  let main_v11 : FVec F S8192x2048 .f32 := (extf .f32 · bitsLt_bf16_f32) main_arg3
  let main_v12 : FVec F S8192x2048 .f32 := Host.absf main_v11
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_c_3 : IVec S_ 1 := constantI S_ 1 1#1
  let main_v15 : IVec S_ 1 := (fun x v => Host.reduce IntOp.andi x v reducesTo_S8192x2048_S_d0_1 h_S_) main_v14 main_c_3
  let main_v16 : IVec S_ 1 := andi main_v10 main_v15
  main_v16
-- ==== Pre_finite2.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bitsLt_bf16_f32 : FTy.bits .bf16 < FTy.bits .f32
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v14 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_v20 : IVec S_ 1 := andi main_v14 main_v19
  let main_v21 : FVec F S2048 .f32 := Host.absf main_arg4
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_c_7 : IVec S_ 1 := constantI S_ 1 1#1
  let main_v24 : IVec S_ 1 := (fun x v => Host.reduce IntOp.andi x v reducesTo_S2048_S_d0 h_S_) main_v23 main_c_7
  let main_v25 : IVec S_ 1 := andi main_v20 main_v24
  main_v25

def fn {F : FTy → Type} [FloatOps F] (main_arg0 : FVec F S8192x2048 .f32) (main_arg1 : FVec F S8192x2048 .f32) (main_arg2 : FVec F S8192x2048 .bf16) (main_arg3 : FVec F S2048x2048 .bf16) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := (extf .f32 · bitsLt_bf16_f32) main_arg2
  let main_v10 : FVec F S8192x2048 .f32 := Host.absf main_v9
  let main_cst_2 : FVec F S_ .f32 := constant S_ .f32 0x7F800000#32
  let main_v11 : FVec F S8192x2048 .f32 := broadcastInDim S8192x2048 ![] bcast_S_S8192x2048 main_cst_2
  let main_v12 : IVec S8192x2048 1 := cmpf .olt main_v10 main_v11
  let main_c_3 : IVec S_ 1 := constantI S_ 1 1#1
  let main_v13 : IVec S_ 1 := (fun x v => Host.reduce IntOp.andi x v reducesTo_S8192x2048_S_d0_1 h_S_) main_v12 main_c_3
  let main_v14 : IVec S_ 1 := andi main_v8 main_v13
  let main_v15 : FVec F S2048x2048 .f32 := (extf .f32 · bitsLt_bf16_f32) main_arg3
  let main_v16 : FVec F S2048x2048 .f32 := Host.absf main_v15
  let main_cst_4 : FVec F S_ .f32 := constant S_ .f32 0x7F800000#32
  fn_part1 (F := F) main_arg4 main_v14 main_v16 main_cst_4
-- ==== Kernel.lean ====
abbrev S8192x7168 : Shape := ⟨2, ![8192, 7168]⟩
abbrev S8192x2048 : Shape := ⟨2, ![8192, 2048]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S512x1024 : Shape := ⟨2, ![512, 1024]⟩

abbrev nBuf : Space → Nat
  | .hbm => 8
  | .vmem => 17
  | .smem => 0
  | _ => 0

abbrev bufTy : (tb : Table) → Fin (tcTables nBuf tb) → BufTy
  | .hbm, ⟨0, _⟩ => ⟨S8192x7168, .bf16⟩
  | .hbm, ⟨1, _⟩ => ⟨S8192x2048, .bf16⟩
  | .hbm, ⟨2, _⟩ => ⟨S256x1024, .bf16⟩
  | .hbm, ⟨3, _⟩ => ⟨S8192x2048, .bf16⟩
  | .hbm, ⟨4, _⟩ => ⟨S8192x7168, .bf16⟩
  | .hbm, ⟨5, _⟩ => ⟨S8192x2048, .bf16⟩
  | .hbm, ⟨6, _⟩ => ⟨S8192x7168, .bf16⟩
  | .hbm, ⟨7, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S256x1024, .bf16⟩
  | .local _ .vmem, ⟨14, _⟩ => ⟨S512x1024, .bf16⟩
  | .local _ .vmem, ⟨15, _⟩ => ⟨S512x1024, .bf16⟩
  | .local _ .vmem, ⟨16, _⟩ => ⟨S256x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem5_1 : DmaSem sig := 15
abbrev cc1_sem6_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c12_i32 : BitVec 32 := 12#32
  let c0_i32 : BitVec 32 := 0#32
  ![arg0.toNat, c12_i32.toNat]

def cc1_transform_1 (i : grid1.Coords) : Fin 2 → Nat :=
  let arg0 : BitVec 32 := BitVec.ofNat 32 (i 0).val
  let c13_i32 : BitVec 32 := 13#32
  let c0_i32 : BitVec 32 := 0#32
  ![arg0.toNat, c13_i32.toNat]

def cc1_transform_2 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_3 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c6_i32 : BitVec 32 := 6#32
  let c0_i32 : BitVec 32 := 0#32
  ![arg0.toNat, c6_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== KernelIdeal.lean ====
variable {F : FTy → Type} [FloatOps F] [Named F]
def κ : String → Option EReal := fun
  | "scale" => some (((Real.sqrt 128)⁻¹ : ℝ) : EReal)
  | "scale2" => some ((((Real.sqrt 128) * (Real.log 2))⁻¹ : ℝ) : EReal)
  | _ => none
-- ==== ReferenceIdeal.lean ====
abbrev S8192x7168 : Shape := ⟨2, ![8192, 7168]⟩
abbrev S8192x2048 : Shape := ⟨2, ![8192, 2048]⟩
abbrev S256x1024 : Shape := ⟨2, ![256, 1024]⟩
abbrev S8192x512 : Shape := ⟨2, ![8192, 512]⟩
abbrev S256x512 : Shape := ⟨2, ![256, 512]⟩
abbrev S8192x4x128 : Shape := ⟨3, ![8192, 4, 128]⟩
abbrev S256x4x128 : Shape := ⟨3, ![256, 4, 128]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S8192x1536 : Shape := ⟨2, ![8192, 1536]⟩
abbrev S8192x6144 : Shape := ⟨2, ![8192, 6144]⟩

abbrev nBuf : Space → Nat
  | .hbm => 146
  | .vmem => 0
  | .smem => 0
  | _ => 0

abbrev hbmTy0_0 (i : Nat) : BufTy := match i % 128 with
  | 0 => ⟨S8192x7168, .bf16⟩
  | 1 => ⟨S8192x2048, .bf16⟩
  | 2 => ⟨S256x1024, .bf16⟩
  | 3 => ⟨S8192x2048, .bf16⟩
  | 4 => ⟨S8192x7168, .bf16⟩
  | 5 => ⟨S8192x512, .bf16⟩
  | 6 => ⟨S8192x512, .bf16⟩
  | 7 => ⟨S8192x512, .bf16⟩
  | 8 => ⟨S8192x512, .f32⟩
  | 9 => ⟨S8192x512, .f32⟩
  | 10 => ⟨S256x1024, .f32⟩
  | 11 => ⟨S8192x512, .f32⟩
  | 12 => ⟨S256x512, .f32⟩
  | 13 => ⟨S256x512, .f32⟩
  | 14 => ⟨S8192x4x128, .f32⟩
  | 15 => ⟨S256x4x128, .f32⟩
  | 16 => ⟨S256x4x128, .f32⟩
  | 17 => ⟨S4x8192x256, .f32⟩
  | 18 => ⟨S_, .f32⟩
  | 19 => ⟨S_, .f32⟩
  | 20 => ⟨S4x8192x256, .f32⟩
  | 21 => ⟨S4x8192x256, .f32⟩
  | 22 => ⟨S_, .f32⟩
  | 23 => ⟨S4x8192, .f32⟩
  | 24 => ⟨S_, .f32⟩
  | 25 => ⟨S4x8192, .f32⟩
  | 26 => ⟨S4x8192, .f32⟩
  | 27 => ⟨S4x8192x1, .f32⟩
  | 28 => ⟨S4x8192x256, .f32⟩
  | 29 => ⟨S4x8192x256, .f32⟩
  | 30 => ⟨S4x8192x256, .f32⟩
  | 31 => ⟨S_, .f32⟩
  | 32 => ⟨S4x8192, .f32⟩
  | 33 => ⟨S4x8192x1, .f32⟩
  | 34 => ⟨S4x8192x256, .f32⟩
  | 35 => ⟨S4x8192x256, .f32⟩
  | 36 => ⟨S4x128x8192, .f32⟩
  | 37 => ⟨S8192x4x128, .f32⟩
  | 38 => ⟨S8192x512, .f32⟩
  | 39 => ⟨S256x512, .f32⟩
  | 40 => ⟨S256x512, .f32⟩
  | 41 => ⟨S8192x4x128, .f32⟩
  | 42 => ⟨S256x4x128, .f32⟩
  | 43 => ⟨S256x4x128, .f32⟩
  | 44 => ⟨S4x8192x256, .f32⟩
  | 45 => ⟨S_, .f32⟩
  | 46 => ⟨S_, .f32⟩
  | 47 => ⟨S4x8192x256, .f32⟩
  | 48 => ⟨S4x8192x256, .f32⟩
  | 49 => ⟨S_, .f32⟩
  | 50 => ⟨S4x8192, .f32⟩
  | 51 => ⟨S4x8192x1, .f32⟩
  | 52 => ⟨S4x8192x256, .f32⟩
  | 53 => ⟨S4x8192x256, .i1⟩
  | 54 => ⟨S4x8192x256, .f32⟩
  | 55 => ⟨S_, .f32⟩
  | 56 => ⟨S4x8192, .f32⟩
  | 57 => ⟨S_, .f32⟩
  | 58 => ⟨S4x8192, .f32⟩
  | 59 => ⟨S4x8192, .f32⟩
  | 60 => ⟨S_, .f32⟩
  | 61 => ⟨S4x8192, .f32⟩
  | 62 => ⟨S4x8192, .i1⟩
  | 63 => ⟨S_, .f32⟩
  | 64 => ⟨S4x8192, .f32⟩
  | 65 => ⟨S4x8192, .i1⟩
  | 66 => ⟨S_, .f32⟩
  | 67 => ⟨S4x8192, .f32⟩
  | 68 => ⟨S_, .f32⟩
  | 69 => ⟨S4x8192, .f32⟩
  | 70 => ⟨S_, .f32⟩
  | 71 => ⟨S4x8192, .f32⟩
  | 72 => ⟨S4x8192, .f32⟩
  | 73 => ⟨S4x8192, .f32⟩
  | 74 => ⟨S4x8192x1, .f32⟩
  | 75 => ⟨S4x8192x256, .f32⟩
  | 76 => ⟨S4x8192x256, .f32⟩
  | 77 => ⟨S4x8192x256, .f32⟩
  | 78 => ⟨S_, .f32⟩
  | 79 => ⟨S4x8192, .f32⟩
  | 80 => ⟨S4x8192x1, .f32⟩
  | 81 => ⟨S4x8192x256, .f32⟩
  | 82 => ⟨S4x8192x256, .f32⟩
  | 83 => ⟨S4x8192x1, .f32⟩
  | 84 => ⟨S_, .f32⟩
  | 85 => ⟨S4x8192x1, .f32⟩
  | 86 => ⟨S4x8192x1, .f32⟩
  | 87 => ⟨S4x128x8192, .f32⟩
  | 88 => ⟨S8192x4x128, .f32⟩
  | 89 => ⟨S8192x512, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S_, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x4x128, .f32⟩
  | 111 => ⟨S4x128x8192, .f32⟩
  | 112 => ⟨S4x8192x256, .f32⟩
  | 113 => ⟨S4x128x256, .f32⟩
  | 114 => ⟨S256x4x128, .f32⟩
  | 115 => ⟨S4x8192x256, .f32⟩
  | 116 => ⟨S4x8192x256, .f32⟩
  | 117 => ⟨S4x8192x256, .f32⟩
  | 118 => ⟨S_, .f32⟩
  | 119 => ⟨S4x8192, .f32⟩
  | 120 => ⟨S4x8192x1, .f32⟩
  | 121 => ⟨S4x8192x1, .f32⟩
  | 122 => ⟨S4x8192x256, .f32⟩
  | 123 => ⟨S4x8192x256, .f32⟩
  | 124 => ⟨S_, .f32⟩
  | 125 => ⟨S4x8192, .f32⟩
  | 126 => ⟨S4x8192x256, .f32⟩
  | 127 => ⟨S4x8192x256, .f32⟩
  | _ => ⟨S8192x7168, .bf16⟩

abbrev hbmTy0_1 (i : Nat) : BufTy := match i % 128 with
  | 0 => ⟨S4x8192x256, .f32⟩
  | 1 => ⟨S4x8192x256, .f32⟩
  | 2 => ⟨S4x8192x256, .f32⟩
  | 3 => ⟨S4x256x128, .f32⟩
  | 4 => ⟨S256x4x128, .f32⟩
  | 5 => ⟨S4x8192x128, .f32⟩
  | 6 => ⟨S8192x4x128, .f32⟩
  | 7 => ⟨S256x512, .f32⟩
  | 8 => ⟨S256x512, .f32⟩
  | 9 => ⟨S8192x512, .f32⟩
  | 10 => ⟨S256x1024, .f32⟩
  | 11 => ⟨S8192x1536, .bf16⟩
  | 12 => ⟨S8192x512, .bf16⟩
  | 13 => ⟨S8192x2048, .bf16⟩
  | 14 => ⟨S8192x6144, .bf16⟩
  | 15 => ⟨S8192x512, .bf16⟩
  | 16 => ⟨S8192x512, .bf16⟩
  | 17 => ⟨S8192x7168, .bf16⟩
  | _ => ⟨S8192x7168, .bf16⟩

abbrev hbmTy (i : Nat) : BufTy := match i / 128 with
  | 0 => hbmTy0_0 i
  | 1 => hbmTy0_1 i
  | _ => ⟨S8192x7168, .bf16⟩

abbrev bufTy : (tb : Table) → Fin (tcTables nBuf tb) → BufTy
  | .hbm, ⟨i, _⟩ => hbmTy i
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_12 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_call0_v0 : Ref sig .tc := ⟨.hbm, 90, rfl⟩
abbrev main_call0_v1 : Ref sig .tc := ⟨.hbm, 91, rfl⟩
abbrev main_call0_cst : Ref sig .tc := ⟨.hbm, 92, rfl⟩
abbrev main_call0_v2 : Ref sig .tc := ⟨.hbm, 93, rfl⟩
abbrev main_call0_v3 : Ref sig .tc := ⟨.hbm, 94, rfl⟩
abbrev main_call0_cst_0 : Ref sig .tc := ⟨.hbm, 95, rfl⟩
abbrev main_call0_v4 : Ref sig .tc := ⟨.hbm, 96, rfl⟩
abbrev main_v70_2 : Ref sig .tc := ⟨.hbm, 97, rfl⟩
abbrev main_call0_cst_1 : Ref sig .tc := ⟨.hbm, 98, rfl⟩
abbrev main_call0_v6 : Ref sig .tc := ⟨.hbm, 99, rfl⟩
abbrev main_call0_v7 : Ref sig .tc := ⟨.hbm, 100, rfl⟩
abbrev main_v70_1 : Ref sig .tc := ⟨.hbm, 101, rfl⟩
abbrev main_v70_0 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_14 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_15 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩

abbrev nD : Nat := 1
abbrev τ : Topo := Topo.v7x

variable {F : FTy → Type} [FloatOps F]
-- ==== Kernel2.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S256x2048 : Shape := ⟨2, ![256, 2048]⟩
abbrev S256x1 : Shape := ⟨2, ![256, 1]⟩
abbrev S256 : Shape := ⟨1, ![256]⟩

abbrev nBuf : Space → Nat
  | .hbm => 37
  | .vmem => 18
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S8192x2048, .f32⟩
  | .hbm, ⟨30, _⟩ => ⟨S8192x2048, .f32⟩
  | .hbm, ⟨31, _⟩ => ⟨S1x2048, .f32⟩
  | .hbm, ⟨32, _⟩ => ⟨S8192x2048, .bf16⟩
  | .hbm, ⟨33, _⟩ => ⟨S8192x2048, .f32⟩
  | .hbm, ⟨34, _⟩ => ⟨S1x2048, .f32⟩
  | .hbm, ⟨35, _⟩ => ⟨S1x2048, .f32⟩
  | .hbm, ⟨36, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1, .f32⟩
  | .local _ .vmem, ⟨5, _⟩ => ⟨S256x1, .f32⟩
  | .local _ .vmem, ⟨6, _⟩ => ⟨S1x2048, .f32⟩
  | .local _ .vmem, ⟨7, _⟩ => ⟨S2048x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S1x2048, .f32⟩
  | .local _ .vmem, ⟨15, _⟩ => ⟨S1x2048, .f32⟩
  | .local _ .vmem, ⟨16, _⟩ => ⟨S2048x2048, .f32⟩
  | .local _ .vmem, ⟨17, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21_0 : Ref sig .tc := ⟨.hbm, 32, rfl⟩
abbrev main_v21_1 : Ref sig .tc := ⟨.hbm, 33, rfl⟩
abbrev main_v21_2 : Ref sig .tc := ⟨.hbm, 34, rfl⟩
abbrev main_v21_3 : Ref sig .tc := ⟨.hbm, 35, rfl⟩
abbrev main_v21_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 103
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S2048x2048, .bf16⟩
  | .hbm, ⟨4, _⟩ => ⟨S2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S_, .f32⟩
  | .hbm, ⟨55, _⟩ => ⟨S2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S8192x1, .f32⟩
  | .hbm, ⟨71, _⟩ => ⟨S8192x2048, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S_, .f32⟩
  | .hbm, ⟨79, _⟩ => ⟨S8192, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x2048, .f32⟩
  | .hbm, ⟨87, _⟩ => ⟨S8192x1, .f32⟩
  | .hbm, ⟨88, _⟩ => ⟨S_, .f32⟩
  | .hbm, ⟨89, _⟩ => ⟨S8192x1, .f32⟩
  | .hbm, ⟨90, _⟩ => ⟨S8192x1, .f32⟩
  | .hbm, ⟨91, _⟩ => ⟨S_, .f32⟩
  | .hbm, ⟨92, _⟩ => ⟨S8192, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S2048x2048, .f32⟩
  | .hbm, ⟨97, _⟩ => ⟨S2048x2048, .f32⟩
  | .hbm, ⟨98, _⟩ => ⟨S8192x2048, .f32⟩
  | .hbm, ⟨99, _⟩ => ⟨S8192x2048, .bf16⟩
  | .hbm, ⟨100, _⟩ => ⟨S1x2048, .f32⟩
  | .hbm, ⟨101, _⟩ => ⟨S1x2048, .f32⟩
  | .hbm, ⟨102, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_cst_9 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_17 : Ref sig .tc := ⟨.hbm, 88, rfl⟩
abbrev main_v65 : Ref sig .tc := ⟨.hbm, 89, rfl⟩
abbrev main_v66 : Ref sig .tc := ⟨.hbm, 90, rfl⟩
abbrev main_cst_18 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩

abbrev nD : Nat := 1
abbrev τ : Topo := Topo.v7x

variable {F : FTy → Type} [FloatOps F]
-- ==== Kernel3.lean ====
abbrev S8192x7168 : Shape := ⟨2, ![8192, 7168]⟩
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S8192x1 : Shape := ⟨2, ![8192, 1]⟩
abbrev S256x1024 : Shape := ⟨2, ![256, 1024]⟩
abbrev S256x512 : Shape := ⟨2, ![256, 512]⟩
abbrev S256x2048 : Shape := ⟨2, ![256, 2048]⟩
abbrev S256x1 : Shape := ⟨2, ![256, 1]⟩
abbrev S256 : Shape := ⟨1, ![256]⟩

abbrev nBuf : Space → Nat
  | .hbm => 12
  | .vmem => 21
  | .smem => 0
  | _ => 0

abbrev bufTy : (tb : Table) → Fin (tcTables nBuf tb) → BufTy
  | .hbm, ⟨0, _⟩ => ⟨S8192x7168, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x1, .f32⟩
  | .hbm, ⟨11, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x1, .f32⟩
  | .local _ .vmem, ⟨18, _⟩ => ⟨S256x1, .f32⟩
  | .local _ .vmem, ⟨19, _⟩ => ⟨S256x2048, .bf16⟩
  | .local _ .vmem, ⟨20, _⟩ => ⟨S256x2048, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S8192x7168 : Shape := ⟨2, ![8192, 7168]⟩
abbrev S8192x2048 : Shape := ⟨2, ![8192, 2048]⟩
abbrev S2048x2048 : Shape := ⟨2, ![2048, 2048]⟩
abbrev S2048 : Shape := ⟨1, ![2048]⟩
abbrev S8192x1024 : Shape := ⟨2, ![8192, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x7168, .f32⟩
  | .hbm, ⟨7, _⟩ => ⟨S8192x2048, .f32⟩
  | .hbm, ⟨8, _⟩ => ⟨S2048x2048, .f32⟩
  | .hbm, ⟨9, _⟩ => ⟨S8192x1024, .f32⟩
  | .hbm, ⟨10, _⟩ => ⟨S8192x512, .f32⟩
  | .hbm, ⟨11, _⟩ => ⟨S8192x512, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S1x2048, .f32⟩
  | .hbm, ⟨75, _⟩ => ⟨S8192x2048, .f32⟩
  | .hbm, ⟨76, _⟩ => ⟨S8192x2048, .f32⟩
  | .hbm, ⟨77, _⟩ => ⟨S1x2048, .f32⟩
  | .hbm, ⟨78, _⟩ => ⟨S8192x2048, .f32⟩
  | .hbm, ⟨79, _⟩ => ⟨S8192x2048, .f32⟩
  | .hbm, ⟨80, _⟩ => ⟨S8192x2048, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_cst_0 : Ref sig .tc := ⟨.hbm, 51, rfl⟩
abbrev main_v20 : Ref sig .tc := ⟨.hbm, 52, rfl⟩
abbrev main_v21 : Ref sig .tc := ⟨.hbm, 53, rfl⟩
abbrev main_cst_1 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_cst_2 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]
-- ==== Kernel4.lean ====
abbrev S8192x7168 : Shape := ⟨2, ![8192, 7168]⟩
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S8192x1 : Shape := ⟨2, ![8192, 1]⟩
abbrev S1x128 : Shape := ⟨2, ![1, 128]⟩
abbrev S256x1024 : Shape := ⟨2, ![256, 1024]⟩
abbrev S256x512 : Shape := ⟨2, ![256, 512]⟩
abbrev S256x2048 : Shape := ⟨2, ![256, 2048]⟩
abbrev S256x1 : Shape := ⟨2, ![256, 1]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 14
  | .vmem => 24
  | .smem => 0
  | _ => 0

abbrev bufTy : (tb : Table) → Fin (tcTables nBuf tb) → BufTy
  | .hbm, ⟨0, _⟩ => ⟨S8192x7168, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S8192x1, .f32⟩
  | .hbm, ⟨12, _⟩ => ⟨S8192x2048, .bf16⟩
  | .hbm, ⟨13, _⟩ => ⟨S1x128, .f32⟩
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .bf16⟩
  | .local _ .vmem, ⟨7, _⟩ => ⟨S256x2048, .bf16⟩
  | .local _ .vmem, ⟨8, _⟩ => ⟨S2048x2048, .bf16⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x1, .f32⟩
  | .local _ .vmem, ⟨20, _⟩ => ⟨S256x1, .f32⟩
  | .local _ .vmem, ⟨21, _⟩ => ⟨S256x2048, .bf16⟩
  | .local _ .vmem, ⟨22, _⟩ => ⟨S256x2048, .bf16⟩
  | .local _ .vmem, ⟨23, _⟩ => ⟨S1x128, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S8192x7168 : Shape := ⟨2, ![8192, 7168]⟩
abbrev S8192x2048 : Shape := ⟨2, ![8192, 2048]⟩
abbrev S2048x2048 : Shape := ⟨2, ![2048, 2048]⟩
abbrev S2048 : Shape := ⟨1, ![2048]⟩
abbrev S8192x1024 : Shape := ⟨2, ![8192, 1024]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S8192x2048, .f32⟩
  | .hbm, ⟨7, _⟩ => ⟨S8192x7168, .f32⟩
  | .hbm, ⟨8, _⟩ => ⟨S8192x2048, .f32⟩
  | .hbm, ⟨9, _⟩ => ⟨S2048x2048, .f32⟩
  | .hbm, ⟨10, _⟩ => ⟨S8192x1024, .f32⟩
  | .hbm, ⟨11, _⟩ => ⟨S8192x512, .f32⟩
  | .hbm, ⟨12, _⟩ => ⟨S8192x512, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S_, .f32⟩
  | .hbm, ⟨28, _⟩ => ⟨S8192x512, .f32⟩
  | .hbm, ⟨29, _⟩ => ⟨S8192x512, .f32⟩
  | .hbm, ⟨30, _⟩ => ⟨S_, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S8192x512, .f32⟩
  | .hbm, ⟨40, _⟩ => ⟨S8192x512, .f32⟩
  | .hbm, ⟨41, _⟩ => ⟨S_, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S1x2048, .f32⟩
  | .hbm, ⟨76, _⟩ => ⟨S8192x2048, .f32⟩
  | .hbm, ⟨77, _⟩ => ⟨S8192x2048, .f32⟩
  | .hbm, ⟨78, _⟩ => ⟨S1x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S_, .f32⟩
  | .hbm, ⟨84, _⟩ => ⟨S8192x2048, .f32⟩
  | .hbm, ⟨85, _⟩ => ⟨S8192x2048, .f32⟩
  | .hbm, ⟨86, _⟩ => ⟨S_, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S8192, .f32⟩
  | .hbm, ⟨99, _⟩ => ⟨S_, .f32⟩
  | .hbm, ⟨100, _⟩ => ⟨S8192, .f32⟩
  | .hbm, ⟨101, _⟩ => ⟨S8192, .f32⟩
  | .hbm, ⟨102, _⟩ => ⟨S8192x2048, .f32⟩
  | .hbm, ⟨103, _⟩ => ⟨S8192x2048, .f32⟩
  | .hbm, ⟨104, _⟩ => ⟨S8192x2048, .bf16⟩
  | .hbm, ⟨105, _⟩ => ⟨S1x128, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_cst_0 : Ref sig .tc := ⟨.hbm, 52, rfl⟩
abbrev main_v20 : Ref sig .tc := ⟨.hbm, 53, rfl⟩
abbrev main_v21 : Ref sig .tc := ⟨.hbm, 54, rfl⟩
abbrev main_cst_1 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_cst_3 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_cst_5 : Ref sig .tc := ⟨.hbm, 83, rfl⟩
abbrev main_v46 : Ref sig .tc := ⟨.hbm, 84, rfl⟩
abbrev main_v47 : Ref sig .tc := ⟨.hbm, 85, rfl⟩
abbrev main_cst_6 : Ref sig .tc := ⟨.hbm, 86, rfl⟩
abbrev main_v48 : Ref sig .tc := ⟨.hbm, 87, rfl⟩
abbrev main_cst_7 : Ref sig .tc := ⟨.hbm, 88, rfl⟩
abbrev main_v49 : Ref sig .tc := ⟨.hbm, 89, rfl⟩
abbrev main_v50 : Ref sig .tc := ⟨.hbm, 90, rfl⟩
abbrev main_cst_8 : Ref sig .tc := ⟨.hbm, 91, rfl⟩
abbrev main_v51 : Ref sig .tc := ⟨.hbm, 92, rfl⟩
abbrev main_cst_9 : Ref sig .tc := ⟨.hbm, 93, rfl⟩
abbrev main_v52 : Ref sig .tc := ⟨.hbm, 94, rfl⟩
abbrev main_cst_10 : Ref sig .tc := ⟨.hbm, 95, rfl⟩
abbrev main_cst_11 : Ref sig .tc := ⟨.hbm, 96, rfl⟩
abbrev main_v53 : Ref sig .tc := ⟨.hbm, 97, rfl⟩
abbrev main_v54 : Ref sig .tc := ⟨.hbm, 98, rfl⟩
abbrev main_cst_12 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩

abbrev nD : Nat := 1
abbrev τ : Topo := Topo.v7x

variable {F : FTy → Type} [FloatOps F]
-- ==== Kernel5.lean ====
abbrev S8192x2048 : Shape := ⟨2, ![8192, 2048]⟩
abbrev S2048x7168 : Shape := ⟨2, ![2048, 7168]⟩
abbrev S8192x7168 : Shape := ⟨2, ![8192, 7168]⟩
abbrev S1024x2048 : Shape := ⟨2, ![1024, 2048]⟩
abbrev S2048x1024 : Shape := ⟨2, ![2048, 1024]⟩
abbrev S1024x1024 : Shape := ⟨2, ![1024, 1024]⟩
abbrev S2048x640 : Shape := ⟨2, ![2048, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x7168, .bf16⟩
  | .hbm, ⟨2, _⟩ => ⟨S8192x7168, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond1 (i : grid0.Coords) : BitVec 1 :=
  let arg1 : BitVec 32 := BitVec.ofNat 32 (i 1).val
  let c5_i32 : BitVec 32 := 5#32
  let v0 : BitVec 1 := Scalar.cmpi .eq arg1 c5_i32
  let v2 : BitVec 32 := Scalar.extui v0
  let c0_i32 : BitVec 32 := 0#32
  let v3 : BitVec 1 := Scalar.cmpi .ne v2 c0_i32
  v3

def k0_cond2 (i : grid0.Coords) : BitVec 1 :=
  let arg1 : BitVec 32 := BitVec.ofNat 32 (i 1).val
  let c5_i32_0 : BitVec 32 := 5#32
  let v1 : BitVec 1 := Scalar.cmpi .ne arg1 c5_i32_0
  let v4 : BitVec 32 := Scalar.extui v1
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S2048x7168 : Shape := ⟨2, ![2048, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x7168, .bf16⟩
  | .hbm, ⟨2, _⟩ => ⟨S2048x7168, .f32⟩
  | .hbm, ⟨3, _⟩ => ⟨S8192x7168, .f32⟩
  | .hbm, ⟨4, _⟩ => ⟨S8192x7168, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048x1024, .bf16⟩
  | .hbm, ⟨2, _⟩ => ⟨S256x1024, .bf16⟩
  | .local _ .vmem, ⟨0, _⟩ => ⟨S256x2048, .f32⟩
  | .local _ .vmem, ⟨1, _⟩ => ⟨S2048x1024, .bf16⟩
  | .local _ .vmem, ⟨2, _⟩ => ⟨S256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x1024, .bf16⟩
  | .hbm, ⟨2, _⟩ => ⟨S2048x1024, .f32⟩
  | .hbm, ⟨3, _⟩ => ⟨S256x1024, .f32⟩
  | .hbm, ⟨4, _⟩ => ⟨S256x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S_, .f32⟩
  | .hbm, ⟨3, _⟩ => ⟨S2048x1024, .f32⟩
  | .hbm, ⟨4, _⟩ => ⟨S256x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x7168 : Shape := ⟨2, ![8192, 7168]⟩
abbrev S2048x7168 : Shape := ⟨2, ![2048, 7168]⟩
abbrev S8192x2048 : Shape := ⟨2, ![8192, 2048]⟩
abbrev S1024x1792 : Shape := ⟨2, ![1024, 1792]⟩
abbrev S1024x1024 : Shape := ⟨2, ![1024, 1024]⟩
abbrev S1024x384 : Shape := ⟨2, ![1024, 384]⟩

abbrev nBuf : Space → Nat
  | .hbm => 4
  | .vmem => 9
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S8192x2048, .f32⟩
  | .hbm, ⟨3, _⟩ => ⟨S8192x2048, .f32⟩
  | .local _ .vmem, ⟨0, _⟩ => ⟨S1024x1792, .bf16⟩
  | .local _ .vmem, ⟨1, _⟩ => ⟨S1024x1792, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x7168 : Shape := ⟨2, ![8192, 7168]⟩
abbrev S2048x7168 : Shape := ⟨2, ![2048, 7168]⟩
abbrev S8192x2048 : Shape := ⟨2, ![8192, 2048]⟩
abbrev S2048x5760 : Shape := ⟨2, ![2048, 5760]⟩
abbrev S2048x1024 : Shape := ⟨2, ![2048, 1024]⟩
abbrev S2048x6784 : Shape := ⟨2, ![2048, 6784]⟩
abbrev S_ : Shape := ⟨0, ![]⟩
abbrev S8192x6784 : Shape := ⟨2, ![8192, 6784]⟩
abbrev S8192x5760 : Shape := ⟨2, ![8192, 5760]⟩
abbrev S8192x1024 : Shape := ⟨2, ![8192, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S8192x2048, .f32⟩
  | .hbm, ⟨3, _⟩ => ⟨S2048x5760, .bf16⟩
  | .hbm, ⟨4, _⟩ => ⟨S2048x1024, .bf16⟩
  | .hbm, ⟨5, _⟩ => ⟨S2048x6784, .bf16⟩
  | .hbm, ⟨6, _⟩ => ⟨S2048x6784, .f32⟩
  | .hbm, ⟨7, _⟩ => ⟨S_, .f32⟩
  | .hbm, ⟨8, _⟩ => ⟨S8192x2048, .f32⟩
  | .hbm, ⟨9, _⟩ => ⟨S8192x6784, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x5760, .bf16⟩
  | .hbm, ⟨14, _⟩ => ⟨S8192x1024, .bf16⟩
  | .hbm, ⟨15, _⟩ => ⟨S8192x6784, .bf16⟩
  | .hbm, ⟨16, _⟩ => ⟨S8192x6784, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S8192x2048 : Shape := ⟨2, ![8192, 2048]⟩
abbrev S8192x7168 : Shape := ⟨2, ![8192, 7168]⟩
abbrev S2048x7168 : Shape := ⟨2, ![2048, 7168]⟩
abbrev S1024x1024 : Shape := ⟨2, ![1024, 1024]⟩
abbrev S1024x1792 : Shape := ⟨2, ![1024, 1792]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x7168, .bf16⟩
  | .hbm, ⟨2, _⟩ => ⟨S2048x7168, .bf16⟩
  | .local _ .vmem, ⟨0, _⟩ => ⟨S1024x1024, .f32⟩
  | .local _ .vmem, ⟨1, _⟩ => ⟨S1024x1024, .f32⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | .local _ .vmem, ⟨6, _⟩ => ⟨S1024x1792, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond5 (i : grid0.Coords) : BitVec 1 :=
  let arg2 : BitVec 32 := BitVec.ofNat 32 (i 2).val
  let c7_i32_1 : BitVec 32 := 7#32
  let v4 : BitVec 1 := Scalar.cmpi .eq arg2 c7_i32_1
  let arg1 : BitVec 32 := BitVec.ofNat 32 (i 1).val
  let c3_i32_9 : BitVec 32 := 3#32
  let v21 : BitVec 1 := Scalar.cmpi .eq arg1 c3_i32_9
  let v23 : BitVec 1 := Scalar.andi v4 v21
  let v24 : BitVec 32 := Scalar.extui v23
  let c0_i32_11 : BitVec 32 := 0#32
  let v25 : BitVec 1 := Scalar.cmpi .ne v24 c0_i32_11
  v25

def k0_cond6 (i : grid0.Coords) : BitVec 1 :=
  let arg2 : BitVec 32 := BitVec.ofNat 32 (i 2).val
  let c7_i32_1 : BitVec 32 := 7#32
  let v4 : BitVec 1 := Scalar.cmpi .eq arg2 c7_i32_1
  let arg1 : BitVec 32 := BitVec.ofNat 32 (i 1).val
  let c3_i32_10 : BitVec 32 := 3#32
  let v22 : BitVec 1 := Scalar.cmpi .ne arg1 c3_i32_10
  let v26 : BitVec 1 := Scalar.andi v4 v22
  let v27 : BitVec 32 := Scalar.extui v26
  let c0_i32_12 : BitVec 32 := 0#32
  let v28 : BitVec 1 := Scalar.cmpi .ne v27 c0_i32_12
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x7168, .bf16⟩
  | .hbm, ⟨2, _⟩ => ⟨S_, .f32⟩
  | .hbm, ⟨3, _⟩ => ⟨S2048x7168, .f32⟩
  | .hbm, ⟨4, _⟩ => ⟨S8192x7168, .f32⟩
  | .hbm, ⟨5, _⟩ => ⟨S8192x7168, .f32⟩
  | .hbm, ⟨6, _⟩ => ⟨S7168x2048, .f32⟩
  | .hbm, ⟨7, _⟩ => ⟨S2048x7168, .f32⟩
  | .hbm, ⟨8, _⟩ => ⟨S2048x7168, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.RealMath.lean ====
/-
  The memory cross-attention over the real numbers, one query row of one head at a time: its forward value and the
  derivatives its backward pass returns. Nothing here mentions a program.
-/
module

public import Idealize.ShloMosaic.Lib.IdealHost
public import Idealize.ShloMosaic.Lib.Pointwise

@[expose] public section

noncomputable section

namespace Cert.Mem

open Idealize.ShloMosaic

/-! ## Real sums among the extended reals -/

/-- A finite sum of reals, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greatest of finitely many reals, at least one, folded from minus infinity, is a real. -/
theorem fold_max_coe {n : ℕ} (s : Fin (n + 1) → ℝ) :
    ∃ M : ℝ, (Finset.univ : Finset (Fin (n + 1))).fold max (⊥ : EReal) (fun k => ((s k : ℝ) : EReal)) = (M : EReal) := by
  have key : ∀ t : Finset (Fin (n + 1)),
      (t.fold max (⊥ : EReal) (fun k => ((s k : ℝ) : EReal)) = ⊥ ∧ t = ∅)
      ∨ ∃ M : ℝ, t.fold max (⊥ : EReal) (fun k => ((s k : ℝ) : EReal)) = (M : EReal) := by
    classical
    intro t
    induction t using Finset.induction_on with
    | empty => left; simp
    | insert a t ha ih =>
      right
      rw [Finset.fold_insert ha]
      rcases ih with ⟨h, -⟩ | ⟨M, h⟩
      · exact ⟨s a, by rw [h]; simp⟩
      · exact ⟨max (s a) M, by rw [h]; exact (EReal.coe_strictMono.monotone.map_max).symm⟩
  rcases key Finset.univ with ⟨-, h⟩ | h
  · exact absurd h (Finset.univ_nonempty (α := Fin (n + 1))).ne_empty
  · exact h

/-- Dividing a real by a nonzero real among the extended reals is the real quotient. -/
theorem div_coe_coe {x y : ℝ} (h : y ≠ 0) : Ideal.div (x : EReal) (y : EReal) = ((x / y : ℝ) : EReal) := by
  rw [Ideal.div_coe h, ← EReal.coe_mul]; congr 1; ring

/-! ## The row functions -/

/-- The score scale, one over the root of the head width. -/
def scl : ℝ := (Real.sqrt 128)⁻¹

/-- The score of memory slot `j`: the query row times that slot's key. -/
def score (q : Fin 128 → ℝ) (K : Fin 256 → Fin 128 → ℝ) (j : Fin 256) : ℝ := ∑ d, q d * K j d

/-- The sum of the exponentials of the scaled scores. -/
def part (q : Fin 128 → ℝ) (K : Fin 256 → Fin 128 → ℝ) : ℝ := ∑ j, Real.exp (scl * score q K j)

/-- The attention weight of memory slot `j`: the softmax of the scaled scores. -/
def prob (q : Fin 128 → ℝ) (K : Fin 256 → Fin 128 → ℝ) (j : Fin 256) : ℝ := Real.exp (scl * score q K j) / part q K

/-- The mixed value: the weights times the memory values. -/
def mix (q : Fin 128 → ℝ) (K V : Fin 256 → Fin 128 → ℝ) (d : Fin 128) : ℝ := ∑ j, prob q K j * V j d

/-- The derivative with respect to the weight of slot `j`, of an upstream derivative `u`. -/
def dprob (V : Fin 256 → Fin 128 → ℝ) (u : Fin 128 → ℝ) (j : Fin 256) : ℝ := ∑ d, u d * V j d

/-- The derivative with respect to the scaled score of slot `j`. -/
def dscore (q : Fin 128 → ℝ) (K V : Fin 256 → Fin 128 → ℝ) (u : Fin 128 → ℝ) (j : Fin 256) : ℝ :=
  prob q K j * (dprob V u j - ∑ k, prob q K k * dprob V u k)

/-- The derivative with respect to the query row. -/
def dquery (q : Fin 128 → ℝ) (K V : Fin 256 → Fin 128 → ℝ) (u : Fin 128 → ℝ) (d : Fin 128) : ℝ :=
  (∑ j, dscore q K V u j * K j d) * scl

/-- The logistic function. -/
def sgm (z : ℝ) : ℝ := (1 + Real.exp (-z))⁻¹

/-- The gate's value. -/
def silu (z : ℝ) : ℝ := z * sgm z

/-- The gate's derivative. -/
def dsilu (z : ℝ) : ℝ := sgm z * (1 + z * (1 - sgm z))

theorem part_pos (q : Fin 128 → ℝ) (K : Fin 256 → Fin 128 → ℝ) : 0 < part q K :=
  Finset.sum_pos (fun _ _ => Real.exp_pos _) Finset.univ_nonempty

theorem one_add_exp_pos (z : ℝ) : 0 < 1 + Real.exp (-z) := by positivity

/-- The score scale for powers of two: the score scale over the logarithm of two. -/
def scl2 : ℝ := (Real.sqrt 128 * Real.log 2)⁻¹

/-- A power of two of a score under the second scale is the exponential under the first. -/
theorem rpow_scl2 (s : ℝ) : Real.rpow 2 (s * scl2) = Real.exp (scl * s) := by
  have h2 : Real.log 2 ≠ 0 := (Real.log_pos (by norm_num)).ne'
  show (2 : ℝ) ^ (s * scl2) = _
  rw [Real.rpow_def_of_pos (by norm_num)]
  congr 1
  unfold scl2 scl
  rw [mul_inv]
  field_simp

/-- The weight of a slot does not depend on what is subtracted from every score: powers of two. -/
theorem prob_eq_rpow (q : Fin 128 → ℝ) (K : Fin 256 → Fin 128 → ℝ) (M : ℝ) (j : Fin 256) :
    Real.rpow 2 (score q K j * scl2 - M) / ∑ k, Real.rpow 2 (score q K k * scl2 - M) = prob q K j := by
  have h : ∀ k, Real.rpow 2 (score q K k * scl2 - M) = Real.exp (scl * score q K k) / Real.rpow 2 M := fun k => by
    rw [← rpow_scl2]; exact Real.rpow_sub (by norm_num) _ _
  have hM : Real.rpow 2 M ≠ 0 := (Real.rpow_pos_of_pos (by norm_num) M).ne'
  simp only [h, ← Finset.sum_div]
  unfold prob part
  have := (part_pos q K).ne'
  unfold part at this
  field_simp

/-- The weight of a slot does not depend on what is subtracted from every score: exponentials. -/
theorem prob_eq_exp (q : Fin 128 → ℝ) (K : Fin 256 → Fin 128 → ℝ) (M : ℝ) (j : Fin 256) :
    Real.exp (score q K j * scl - M) / ∑ k, Real.exp (score q K k * scl - M) = prob q K j := by
  have h : ∀ k, Real.exp (score q K k * scl - M) = Real.exp (scl * score q K k) / Real.exp M := fun k => by
    rw [← Real.exp_sub, mul_comm]
  have hM : Real.exp M ≠ 0 := (Real.exp_pos M).ne'
  simp only [h, ← Finset.sum_div]
  unfold prob part
  have := (part_pos q K).ne'
  unfold part at this
  field_simp

/-! ## The four heads side by side -/

/-- One head's 128 columns of a row of 512. -/
def headq (x : Fin 512 → ℝ) (g : Fin 4) (d : Fin 128) : ℝ := x ⟨128 * g.val + d.val, by omega⟩

/-- One head's keys: 128 columns of the first half of the memory. -/
def headk (M : Fin 256 → Fin 1024 → ℝ) (g : Fin 4) (j : Fin 256) (d : Fin 128) : ℝ := M j ⟨128 * g.val + d.val, by omega⟩

/-- One head's values: 128 columns of the second half of the memory. -/
def headv (M : Fin 256 → Fin 1024 → ℝ) (g : Fin 4) (j : Fin 256) (d : Fin 128) : ℝ := M j ⟨512 + (128 * g.val + d.val), by omega⟩

/-- The head a column of 512 lies in. -/
def hd (e : Fin 512) : Fin 4 := ⟨e.val / 128, by omega⟩

/-- The place of a column of 512 in its head. -/
def pl (e : Fin 512) : Fin 128 := ⟨e.val % 128, by omega⟩

theorem hd_mk (g : Fin 4) (d : Fin 128) (h : 128 * g.val + d.val < 512) : hd ⟨128 * g.val + d.val, h⟩ = g :=
  Fin.ext (by show (128 * g.val + d.val) / 128 = g.val; omega)

theorem pl_mk (g : Fin 4) (d : Fin 128) (h : 128 * g.val + d.val < 512) : pl ⟨128 * g.val + d.val, h⟩ = d :=
  Fin.ext (by show (128 * g.val + d.val) % 128 = d.val; omega)

/-- The derivative that reaches the mixed value: the upstream derivative times the gate. -/
def up (z ct : Fin 512 → ℝ) (e : Fin 512) : ℝ := ct e * silu (z e)

/-- A row of the attention's result. -/
def rowMix (q : Fin 512 → ℝ) (M : Fin 256 → Fin 1024 → ℝ) (e : Fin 512) : ℝ :=
  mix (headq q (hd e)) (headk M (hd e)) (headv M (hd e)) (pl e)

/-- A row of the query's derivative. -/
def rowDq (q z ct : Fin 512 → ℝ) (M : Fin 256 → Fin 1024 → ℝ) (e : Fin 512) : ℝ :=
  dquery (headq q (hd e)) (headk M (hd e)) (headv M (hd e)) (headq (up z ct) (hd e)) (pl e)

/-- A row of the gate's derivative. -/
def rowDz (q z ct : Fin 512 → ℝ) (M : Fin 256 → Fin 1024 → ℝ) (e : Fin 512) : ℝ := ct e * rowMix q M e * dsilu (z e)

/-- A row of the derivative of the projection's last 1024 columns: the queries' half, then the gates' half. -/
def rowDh (q z ct : Fin 512 → ℝ) (M : Fin 256 → Fin 1024 → ℝ) (c : Fin 1024) : ℝ :=
  if h : c.val < 512 then rowDq q z ct M ⟨c.val, h⟩ else rowDz q z ct M ⟨c.val - 512, by omega⟩

/-- What one row adds to the key's derivative, before the scale. -/
def rowDk (q z ct : Fin 512 → ℝ) (M : Fin 256 → Fin 1024 → ℝ) (j : Fin 256) (e : Fin 512) : ℝ :=
  dscore (headq q (hd e)) (headk M (hd e)) (headv M (hd e)) (headq (up z ct) (hd e)) j * headq q (hd e) (pl e)

/-- What one row adds to the memory value's derivative. -/
def rowDv (q z ct : Fin 512 → ℝ) (M : Fin 256 → Fin 1024 → ℝ) (j : Fin 256) (e : Fin 512) : ℝ :=
  prob (headq q (hd e)) (headk M (hd e)) j * headq (up z ct) (hd e) (pl e)

/-- The memory's derivative over a set of rows: the keys' half, then the values' half. -/
def memGrad {ι : Type} [Fintype ι] (q z ct : ι → Fin 512 → ℝ) (M : Fin 256 → Fin 1024 → ℝ) (j : Fin 256) (c : Fin 1024) : ℝ :=
  if h : c.val < 512 then (∑ r, rowDk (q r) (z r) (ct r) M j ⟨c.val, h⟩) * scl
  else ∑ r, rowDv (q r) (z r) (ct r) M j ⟨c.val - 512, by omega⟩

theorem rowMix_head (q : Fin 512 → ℝ) (M : Fin 256 → Fin 1024 → ℝ) (g : Fin 4) (d : Fin 128) (h : 128 * g.val + d.val < 512) :
    rowMix q M ⟨128 * g.val + d.val, h⟩ = mix (headq q g) (headk M g) (headv M g) d := by
  unfold rowMix; rw [hd_mk, pl_mk]

theorem rowDh_query (q z ct : Fin 512 → ℝ) (M : Fin 256 → Fin 1024 → ℝ) (g : Fin 4) (d : Fin 128) (h : 128 * g.val + d.val < 1024) :
    rowDh q z ct M ⟨128 * g.val + d.val, h⟩ = dquery (headq q g) (headk M g) (headv M g) (headq (up z ct) g) d := by
  unfold rowDh
  rw [dif_pos (show 128 * g.val + d.val < 512 by omega)]
  unfold rowDq; rw [hd_mk, pl_mk]

theorem rowDh_gate (q z ct : Fin 512 → ℝ) (M : Fin 256 → Fin 1024 → ℝ) (e : Fin 512) (h : 512 + e.val < 1024) :
    rowDh q z ct M ⟨512 + e.val, h⟩ = ct e * rowMix q M e * dsilu (z e) := by
  unfold rowDh
  rw [dif_neg (show ¬512 + e.val < 512 by omega)]
  have : (⟨512 + e.val - 512, by omega⟩ : Fin 512) = e := Fin.ext (by show 512 + e.val - 512 = e.val; omega)
  unfold rowDz; rw [this]

theorem memGrad_key {ι : Type} [Fintype ι] (q z ct : ι → Fin 512 → ℝ) (M : Fin 256 → Fin 1024 → ℝ) (j : Fin 256) (g : Fin 4)
    (d : Fin 128) (h : 128 * g.val + d.val < 1024) : memGrad q z ct M j ⟨128 * g.val + d.val, h⟩
      = (∑ r, dscore (headq (q r) g) (headk M g) (headv M g) (headq (up (z r) (ct r)) g) j * headq (q r) g d) * scl := by
  unfold memGrad
  rw [dif_pos (show 128 * g.val + d.val < 512 by omega)]
  unfold rowDk; simp only [hd_mk, pl_mk]

theorem memGrad_val {ι : Type} [Fintype ι] (q z ct : ι → Fin 512 → ℝ) (M : Fin 256 → Fin 1024 → ℝ) (j : Fin 256) (g : Fin 4)
    (d : Fin 128) (h : 512 + (128 * g.val + d.val) < 1024) : memGrad q z ct M j ⟨512 + (128 * g.val + d.val), h⟩
      = ∑ r, prob (headq (q r) g) (headk M g) j * headq (up (z r) (ct r)) g d := by
  unfold memGrad
  rw [dif_neg (show ¬512 + (128 * g.val + d.val) < 512 by omega)]
  have : (⟨512 + (128 * g.val + d.val) - 512, by omega⟩ : Fin 512) = ⟨128 * g.val + d.val, by omega⟩ :=
    Fin.ext (by show 512 + (128 * g.val + d.val) - 512 = 128 * g.val + d.val; omega)
  unfold rowDv; simp only [this, hd_mk, pl_mk]

end Cert.Mem

end
-- ==== Proof.MemBlock.lean ====
/-
  What one grid point of the two calls computes, read at an index: each payload of the two kernel bodies, at arrays
  whose entries are real numbers, is one of the row functions of `RealMath`. The four heads print four payloads that are
  the same function; those are equal by unfolding.
-/
module

public import proofs.«01_k».proof.Proof.RealMath
public import proofs.«01_k».proof.Proof.Gen.KernelIdeal.Skeleton

@[expose] public section

set_option maxRecDepth 16384

noncomputable section

namespace Cert.Mem

open Idealize.ShloMosaic Cert.KernelIdeal Cert.KernelIdeal.Gen

theorem scale_eq : (Named.named κ "scale" 0x3DB504F3#32 : Ideal .f32) = ((scl : ℝ) : EReal) :=
  IdealRules.named_const.ideal_named_scalar _ _ _ _ rfl

theorem scale2_eq : (Named.named κ "scale2" 0x3E0293EE#32 : Ideal .f32) = ((scl2 : ℝ) : EReal) :=
  IdealRules.named_const.ideal_named_scalar _ _ _ _ rfl

theorem ofBits_bot : Ideal.ofBits .f32 0xFF800000#32 = (⊥ : EReal) := by simp [Ideal.ofBits, Ideal.ieee]

theorem exp2_real (x : ℝ) : FloatOps.exp2 (F := Ideal) (φ := .f32) (x : EReal) = ((Real.rpow 2 x : ℝ) : EReal) := Ideal.exp2_coe x

section Head

variable {q : Fin 512 → Fin 128 → ℝ} {k v : Fin 256 → Fin 128 → ℝ} {u : Fin 512 → Fin 128 → ℝ}
variable {Q U : Vec Ideal S512x128 .bf16} {K V : Vec Ideal S256x128 .bf16}

/-- The weights of a block of rows. -/
theorem probs_apply (hQ : ∀ r d, Q (ix2 r d) = ((q r d : ℝ) : EReal)) (hK : ∀ j d, K (ix2 j d) = ((k j d : ℝ) : EReal))
    (r : Fin 512) (j : Fin 256) : k1_pay19 (F := Ideal) Q K (ix2 r j) = ((prob (q r) k j : ℝ) : EReal) := by
  unfold k1_pay19
  pointwise
  have hs : ∀ x : Fin 256, (∑ y, q r y * k x y) * scl2 = score (q r) k x * scl2 := fun x => rfl
  obtain ⟨M, hM⟩ := fold_max_coe (n := 255) fun x => score (q r) k x * scl2
  simp only [hQ, hK, scale2_eq, ← EReal.coe_mul, coe_sum, hs, ofBits_bot]
  rw [hM]
  simp only [← EReal.coe_sub, exp2_real, coe_sum]
  rw [div_coe_coe, prob_eq_rpow]
  exact (Finset.sum_pos (fun _ _ => Real.rpow_pos_of_pos (by norm_num) _) Finset.univ_nonempty).ne'

/-- The mixed values of a block of rows. -/
theorem mix_apply (hQ : ∀ r d, Q (ix2 r d) = ((q r d : ℝ) : EReal)) (hK : ∀ j d, K (ix2 j d) = ((k j d : ℝ) : EReal))
    (hV : ∀ j d, V (ix2 j d) = ((v j d : ℝ) : EReal)) (r : Fin 512) (d : Fin 128) :
    k0_pay2 (F := Ideal) Q K V (ix2 r d) = ((mix (q r) k v d : ℝ) : EReal) := by
  have h : k0_pay2 (F := Ideal) Q K V = k0_pay4 (F := Ideal) (k1_pay19 (F := Ideal) Q K) V := rfl
  rw [h]
  unfold k0_pay4
  pointwise
  simp only [probs_apply hQ hK, hV, ← EReal.coe_mul, coe_sum]
  rfl

/-- The scores' derivatives of a block of rows. -/
theorem dscore_apply {P : Vec Ideal S512x256 .f32} (hP : ∀ r j, P (ix2 r j) = ((prob (q r) k j : ℝ) : EReal))
    (hU : ∀ r d, U (ix2 r d) = ((u r d : ℝ) : EReal)) (hV : ∀ j d, V (ix2 j d) = ((v j d : ℝ) : EReal))
    (r : Fin 512) (j : Fin 256) : k1_pay1 (F := Ideal) P U V (ix2 r j) = ((dscore (q r) k v (u r) j : ℝ) : EReal) := by
  unfold k1_pay1
  pointwise
  simp only [hP, hU, hV, ← EReal.coe_mul, ← EReal.coe_sub, coe_sum]
  rfl

/-- The queries' derivatives of a block of rows. -/
theorem dquery_apply {P : Vec Ideal S512x256 .f32} (hP : ∀ r j, P (ix2 r j) = ((prob (q r) k j : ℝ) : EReal))
    (hU : ∀ r d, U (ix2 r d) = ((u r d : ℝ) : EReal)) (hV : ∀ j d, V (ix2 j d) = ((v j d : ℝ) : EReal))
    (hK : ∀ j d, K (ix2 j d) = ((k j d : ℝ) : EReal)) (r : Fin 512) (d : Fin 128) :
    k1_pay2 (F := Ideal) P U V K (ix2 r d) = ((dquery (q r) k v (u r) d : ℝ) : EReal) := by
  unfold k1_pay2
  pointwise
  simp only [dscore_apply hP hU hV, hK, scale_eq, ← EReal.coe_mul, coe_sum]
  rfl

/-- What a block of rows adds to the keys' derivatives. -/
theorem dkey_apply {P : Vec Ideal S512x256 .f32} (hQ : ∀ r d, Q (ix2 r d) = ((q r d : ℝ) : EReal))
    (hP : ∀ r j, P (ix2 r j) = ((prob (q r) k j : ℝ) : EReal))
    (hU : ∀ r d, U (ix2 r d) = ((u r d : ℝ) : EReal)) (hV : ∀ j d, V (ix2 j d) = ((v j d : ℝ) : EReal))
    (X : Vec Ideal S256x128 .f32) (j : Fin 256) (d : Fin 128) :
    k1_pay3 (F := Ideal) Q P U V X (ix2 j d)
      = X (ix2 j d) + (((∑ r, dscore (q r) k v (u r) j * q r d) * scl : ℝ) : EReal) := by
  unfold k1_pay3
  pointwise
  simp only [dscore_apply hP hU hV, hQ, scale_eq, ← EReal.coe_mul, coe_sum]

/-- What a block of rows adds to the memory values' derivatives. -/
theorem dval_apply {P : Vec Ideal S512x256 .f32} (hP : ∀ r j, P (ix2 r j) = ((prob (q r) k j : ℝ) : EReal))
    (hU : ∀ r d, U (ix2 r d) = ((u r d : ℝ) : EReal))
    (X : Vec Ideal S256x128 .f32) (j : Fin 256) (d : Fin 128) :
    k1_pay4 (F := Ideal) P U X (ix2 j d) = X (ix2 j d) + ((∑ r, prob (q r) k j * u r d : ℝ) : EReal) := by
  unfold k1_pay4
  pointwise
  simp only [hP, hU, ← EReal.coe_mul, coe_sum]

end Head

section Gate

variable {z y t : Fin 512 → Fin 512 → ℝ}
variable {Z Y T : Vec Ideal S512x512 .bf16}

/-- The gate's logistic function of a block. -/
theorem sigma_apply (hZ : ∀ r e, Z (ix2 r e) = ((z r e : ℝ) : EReal)) (r e : Fin 512) :
    k1_pay7 (F := Ideal) Z (ix2 r e) = ((sgm (z r e) : ℝ) : EReal) := by
  unfold k1_pay7 k1_pay6
  pointwise
  rw [hZ, zero_sub, ← EReal.coe_neg, Ideal.exp_coe, ← EReal.coe_one, ← EReal.coe_add, div_coe_coe (one_add_exp_pos _).ne']
  unfold sgm
  rw [one_div]

/-- The derivative that reaches the mixed value, of a block. -/
theorem up_apply (hZ : ∀ r e, Z (ix2 r e) = ((z r e : ℝ) : EReal)) (hY : ∀ r e, Y (ix2 r e) = ((y r e : ℝ) : EReal))
    (r e : Fin 512) : k1_pay9 (F := Ideal) Z Y (ix2 r e) = ((up (z r) (y r) e : ℝ) : EReal) := by
  unfold k1_pay9 k1_pay8 k1_pay6
  pointwise
  rw [sigma_apply hZ, hZ, hY, ← EReal.coe_mul, ← EReal.coe_mul]
  rfl

/-- The gate's derivative of a block. -/
theorem dz_apply (hZ : ∀ r e, Z (ix2 r e) = ((z r e : ℝ) : EReal)) (hY : ∀ r e, Y (ix2 r e) = ((y r e : ℝ) : EReal))
    (hT : ∀ r e, T (ix2 r e) = ((t r e : ℝ) : EReal)) (r e : Fin 512) :
    k1_pay10 (F := Ideal) Z Y T (ix2 r e) = ((y r e * t r e * dsilu (z r e) : ℝ) : EReal) := by
  unfold k1_pay10 k1_pay8 k1_pay6
  pointwise
  rw [sigma_apply hZ, hZ, hY, hT]
  simp only [← EReal.coe_one, ← EReal.coe_mul, ← EReal.coe_sub, ← EReal.coe_add]
  rfl

end Gate

/-! ## The four heads print the same functions -/

section Same

variable {F : FTy → Type} [FloatOps F] [Named F]

theorem fwd_head1 (Q : Vec F S512x128 .bf16) (K V : Vec F S256x128 .bf16) : k0_pay4 (k0_pay3 Q K) V = k0_pay2 Q K V := rfl
theorem fwd_head2 (Q : Vec F S512x128 .bf16) (K V : Vec F S256x128 .bf16) : k0_pay5 Q K V = k0_pay2 Q K V := rfl
theorem fwd_head3 (Q : Vec F S512x128 .bf16) (K V : Vec F S256x128 .bf16) :
    k0_pay1 (k0_pay6 Q K) (k0_pay7 Q K) V = k0_pay2 Q K V := rfl

theorem probs_head0 (Q : Vec F S512x128 .bf16) (K : Vec F S256x128 .bf16) : k1_pay13 (k1_pay11 Q K) (k1_pay12 Q K) = k1_pay19 Q K := rfl
theorem probs_head2 (Q : Vec F S512x128 .bf16) (K : Vec F S256x128 .bf16) : k1_pay28 Q K = k1_pay19 Q K := rfl
theorem probs_head3 (Q : Vec F S512x128 .bf16) (K : Vec F S256x128 .bf16) : k1_pay35 Q K = k1_pay19 Q K := rfl

theorem dq_head0 (D : FVec F S512x512 .f32) (Q : Vec F S512x128 .bf16) (K V W : Vec F S256x128 .bf16) :
    k1_pay16 D (k1_pay11 Q K) (k1_pay12 Q K) V W = k1_pay2 (k1_pay19 Q K) (k1_pay14 D) V W := rfl
theorem dq_head1 (D : FVec F S512x512 .f32) (Q : Vec F S512x128 .bf16) (K V W : Vec F S256x128 .bf16) :
    k1_pay22 D Q K V W = k1_pay2 (k1_pay19 Q K) (k1_pay20 D) V W := rfl
theorem dq_head2 (D : FVec F S512x512 .f32) (Q : Vec F S512x128 .bf16) (K V W : Vec F S256x128 .bf16) :
    k1_pay32 (k1_pay31 D Q K V W) = k1_pay2 (k1_pay19 Q K) (k1_pay29 D) V W := rfl
theorem dq_head3 (D : FVec F S512x512 .f32) (Q : Vec F S512x128 .bf16) (K V W : Vec F S256x128 .bf16) :
    k1_pay2 (k1_pay35 Q K) (k1_pay36 D) V W = k1_pay2 (k1_pay19 Q K) (k1_pay36 D) V W := rfl

theorem dk_head0 (D : FVec F S512x512 .f32) (Q : Vec F S512x128 .bf16) (K V : Vec F S256x128 .bf16) (X : Vec F S256x128 .f32) :
    k1_pay17 D Q (k1_pay11 Q K) (k1_pay12 Q K) V X = k1_pay3 Q (k1_pay19 Q K) (k1_pay14 D) V X := rfl
theorem dk_head1 (D : FVec F S512x512 .f32) (Q : Vec F S512x128 .bf16) (K V : Vec F S256x128 .bf16) (X : Vec F S256x128 .f32) :
    k1_pay26 (k1_pay23 X) (k1_pay24 D Q K V) k1_pay25 = k1_pay3 Q (k1_pay19 Q K) (k1_pay20 D) V X := rfl
theorem dk_head2 (D : FVec F S512x512 .f32) (Q : Vec F S512x128 .bf16) (K V : Vec F S256x128 .bf16) (X : Vec F S256x128 .f32) :
    k1_pay33 Q (k1_pay30 D Q K V) X = k1_pay3 Q (k1_pay19 Q K) (k1_pay29 D) V X := rfl
theorem dk_head3 (D : FVec F S512x512 .f32) (Q : Vec F S512x128 .bf16) (K V : Vec F S256x128 .bf16) (X : Vec F S256x128 .f32) :
    k1_pay3 Q (k1_pay35 Q K) (k1_pay36 D) V X = k1_pay3 Q (k1_pay19 Q K) (k1_pay36 D) V X := rfl

theorem dv_head0 (D : FVec F S512x512 .f32) (Q : Vec F S512x128 .bf16) (K : Vec F S256x128 .bf16) (X : Vec F S256x128 .f32) :
    k1_pay18 D (k1_pay11 Q K) (k1_pay12 Q K) X = k1_pay4 (k1_pay19 Q K) (k1_pay14 D) X := rfl
theorem dv_head1 (D : FVec F S512x512 .f32) (Q : Vec F S512x128 .bf16) (K : Vec F S256x128 .bf16) (X : Vec F S256x128 .f32) :
    k1_pay27 (k1_pay19 Q K) (k1_pay20 D) X = k1_pay4 (k1_pay19 Q K) (k1_pay20 D) X := rfl
theorem dv_head2 (D : FVec F S512x512 .f32) (Q : Vec F S512x128 .bf16) (K : Vec F S256x128 .bf16) (X : Vec F S256x128 .f32) :
    k1_pay34 (k1_pay28 Q K) (k1_pay29 D) X = k1_pay4 (k1_pay19 Q K) (k1_pay29 D) X := rfl
theorem dv_head3 (D : FVec F S512x512 .f32) (Q : Vec F S512x128 .bf16) (K : Vec F S256x128 .bf16) (X : Vec F S256x128 .f32) :
    k1_pay4 (k1_pay35 Q K) (k1_pay36 D) X = k1_pay4 (k1_pay19 Q K) (k1_pay36 D) X := rfl

end Same

/-! ## A head's columns of the derivative that reaches the mixed value -/

section Slices

variable {F : FTy → Type} [FloatOps F] [Named F]

theorem slice_head0 (D : FVec Ideal S512x512 .f32) (r : Fin 512) (d : Fin 128) : k1_pay14 (F := Ideal) D (ix2 r d) = D (ix2 r ⟨0 + d.val, by omega⟩) := by
  unfold k1_pay14; pointwise
theorem slice_head1 (D : FVec Ideal S512x512 .f32) (r : Fin 512) (d : Fin 128) : k1_pay20 (F := Ideal) D (ix2 r d) = D (ix2 r ⟨128 + d.val, by omega⟩) := by
  unfold k1_pay20; pointwise
theorem slice_head2 (D : FVec Ideal S512x512 .f32) (r : Fin 512) (d : Fin 128) : k1_pay29 (F := Ideal) D (ix2 r d) = D (ix2 r ⟨256 + d.val, by omega⟩) := by
  unfold k1_pay29; pointwise
theorem slice_head3 (D : FVec Ideal S512x512 .f32) (r : Fin 512) (d : Fin 128) : k1_pay36 (F := Ideal) D (ix2 r d) = D (ix2 r ⟨384 + d.val, by omega⟩) := by
  unfold k1_pay36; pointwise

end Slices

end Cert.Mem

end
-- ==== Proof.MemPieces.lean ====
/-
  The stores of one grid point, each a block of one function of the index: the loads of a head's columns, the head's
  slice of the derivative that reaches the mixed value, and the payload stored through each rectangle.
-/
module

public import proofs.«01_k».proof.Proof.MemBlock
public import Idealize.ShloMosaic.Lib.Pipeline.ReadBack
public import Idealize.ShloMosaic.Lib.Pipeline.ValueKit.Tiles

@[expose] public section

set_option maxRecDepth 16384

noncomputable section

namespace Cert.Mem

open Idealize.ShloMosaic Cert.KernelIdeal Cert.KernelIdeal.Gen

variable {q z y : Fin 512 → Fin 512 → ℝ} {M : Fin 256 → Fin 1024 → ℝ}
variable {A Z Y T : Vec Ideal S512x512 .bf16} {B : Vec Ideal S256x1024 .bf16}

/-- A head's columns of the query block. -/
theorem ld_q (hA : ∀ r e, A (ix2 r e) = ((q r e : ℝ) : EReal)) (g : Fin 4) {o : ℕ} (ho : o = 128 * g.val)
    (inb : ∀ a, (![0, o] : Fin 2 → ℕ) a + (![512, 128] : Fin 2 → ℕ) a ≤ S512x512.size a) (r : Fin 512) (d : Fin 128) :
    (View.ld A (Rect.unit (s := S512x512) ![0, o] ![512, 128] inb) : Vec Ideal S512x128 .bf16) (ix2 r d)
      = ((headq (q r) g d : ℝ) : EReal) :=
  (View.ld_unit_apply_of A ![0, o] ![512, 128] inb (ix2 r d) (ix2 r ⟨128 * g.val + d.val, by omega⟩) fun a => by
    match a with
    | ⟨0, _⟩ => show r.val = 0 + r.val; omega
    | ⟨1, _⟩ => show 128 * g.val + d.val = o + d.val; omega).trans (hA _ _)

/-- A head's keys. -/
theorem ld_k (hB : ∀ j e, B (ix2 j e) = ((M j e : ℝ) : EReal)) (g : Fin 4) {o : ℕ} (ho : o = 128 * g.val)
    (inb : ∀ a, (![0, o] : Fin 2 → ℕ) a + (![256, 128] : Fin 2 → ℕ) a ≤ S256x1024.size a) (j : Fin 256) (d : Fin 128) :
    (View.ld B (Rect.unit (s := S256x1024) ![0, o] ![256, 128] inb) : Vec Ideal S256x128 .bf16) (ix2 j d)
      = ((headk M g j d : ℝ) : EReal) :=
  (View.ld_unit_apply_of B ![0, o] ![256, 128] inb (ix2 j d) (ix2 j ⟨128 * g.val + d.val, by omega⟩) fun a => by
    match a with
    | ⟨0, _⟩ => show j.val = 0 + j.val; omega
    | ⟨1, _⟩ => show 128 * g.val + d.val = o + d.val; omega).trans (hB _ _)

/-- A head's values. -/
theorem ld_v (hB : ∀ j e, B (ix2 j e) = ((M j e : ℝ) : EReal)) (g : Fin 4) {o : ℕ} (ho : o = 512 + 128 * g.val)
    (inb : ∀ a, (![0, o] : Fin 2 → ℕ) a + (![256, 128] : Fin 2 → ℕ) a ≤ S256x1024.size a) (j : Fin 256) (d : Fin 128) :
    (View.ld B (Rect.unit (s := S256x1024) ![0, o] ![256, 128] inb) : Vec Ideal S256x128 .bf16) (ix2 j d)
      = ((headv M g j d : ℝ) : EReal) :=
  (View.ld_unit_apply_of B ![0, o] ![256, 128] inb (ix2 j d) (ix2 j ⟨512 + (128 * g.val + d.val), by omega⟩) fun a => by
    match a with
    | ⟨0, _⟩ => show j.val = 0 + j.val; omega
    | ⟨1, _⟩ => show 512 + (128 * g.val + d.val) = o + d.val; omega).trans (hB _ _)

section Up

variable (hZ : ∀ r e, Z (ix2 r e) = ((z r e : ℝ) : EReal)) (hY : ∀ r e, Y (ix2 r e) = ((y r e : ℝ) : EReal))
include hZ hY

theorem up_head0 (r : Fin 512) (d : Fin 128) :
    k1_pay14 (F := Ideal) (k1_pay9 Z Y) (ix2 r d) = ((headq (up (z r) (y r)) 0 d : ℝ) : EReal) :=
  (slice_head0 _ r d).trans (up_apply hZ hY _ _)
theorem up_head1 (r : Fin 512) (d : Fin 128) :
    k1_pay20 (F := Ideal) (k1_pay9 Z Y) (ix2 r d) = ((headq (up (z r) (y r)) 1 d : ℝ) : EReal) :=
  (slice_head1 _ r d).trans (up_apply hZ hY _ _)
theorem up_head2 (r : Fin 512) (d : Fin 128) :
    k1_pay29 (F := Ideal) (k1_pay9 Z Y) (ix2 r d) = ((headq (up (z r) (y r)) 2 d : ℝ) : EReal) :=
  (slice_head2 _ r d).trans (up_apply hZ hY _ _)
theorem up_head3 (r : Fin 512) (d : Fin 128) :
    k1_pay36 (F := Ideal) (k1_pay9 Z Y) (ix2 r d) = ((headq (up (z r) (y r)) 3 d : ℝ) : EReal) :=
  (slice_head3 _ r d).trans (up_apply hZ hY _ _)

end Up

/-! ## Each store is a block of one function -/

/-- What a grid point leaves of the attention's result. -/
def mixAt (q : Fin 512 → Fin 512 → ℝ) (M : Fin 256 → Fin 1024 → ℝ) : Vec Ideal S512x512 .bf16 :=
  fun i => ((rowMix (q (i 0)) M (i 1) : ℝ) : EReal)

/-- What a grid point leaves of the projection's derivative. -/
def dhAt (q z y : Fin 512 → Fin 512 → ℝ) (M : Fin 256 → Fin 1024 → ℝ) : Vec Ideal S512x1024 .bf16 :=
  fun i => ((rowDh (q (i 0)) (z (i 0)) (y (i 0)) M (i 1) : ℝ) : EReal)

/-- What a grid point leaves in the memory's derivative, over what it found there. -/
def gradAt (X : Vec Ideal S256x1024 .f32) (q z y : Fin 512 → Fin 512 → ℝ) (M : Fin 256 → Fin 1024 → ℝ) : Vec Ideal S256x1024 .f32 :=
  fun i => X i + ((memGrad q z y M (i 0) (i 1) : ℝ) : EReal)

/-- An index a unit rectangle of full height places, at its coordinates. -/
theorem emb_cols {n w o k : ℕ} (inb : ∀ a, (![0, o] : Fin 2 → ℕ) a + (![n, k] : Fin 2 → ℕ) a ≤ (⟨2, ![n, w]⟩ : Shape).size a)
    (r : Fin n) (d : Fin k) (h : o + d.val < w) :
    (Rect.unit (s := ⟨2, ![n, w]⟩) ![0, o] ![n, k] inb).emb (ix2 r d) = (ix2 r ⟨o + d.val, h⟩ : (⟨2, ![n, w]⟩ : Shape).Idx) :=
  funext fun a => Fin.ext <| by
    match a with
    | ⟨0, _⟩ => show 0 + 1 * r.val = r.val; omega
    | ⟨1, _⟩ => show o + 1 * d.val = o + d.val; omega

section Pieces

variable (hA : ∀ r e, A (ix2 r e) = ((q r e : ℝ) : EReal)) (hB : ∀ j e, B (ix2 j e) = ((M j e : ℝ) : EReal))
include hA hB

theorem probs_head (g : Fin 4) {o : ℕ} (ho : o = 128 * g.val) (iq) (ik) (r : Fin 512) (j : Fin 256) :
    k1_pay19 (F := Ideal) (View.ld A (Rect.unit (s := S512x512) ![0, o] ![512, 128] iq))
      (View.ld B (Rect.unit (s := S256x1024) ![0, o] ![256, 128] ik)) (ix2 r j)
      = ((prob (headq (q r) g) (headk M g) j : ℝ) : EReal) :=
  probs_apply (q := fun r => headq (q r) g) (k := headk M g) (ld_q hA g ho iq) (ld_k hB g ho ik) r j

/-- The store of one head of the attention's result. -/
theorem mix_piece (g : Fin 4) {o o' : ℕ} (ho : o = 128 * g.val) (ho' : o' = 512 + 128 * g.val) (iq) (ik) (iv) (ir)
    (x : S512x128.Idx) :
    k0_pay2 (F := Ideal) (View.ld A (Rect.unit (s := S512x512) ![0, o] ![512, 128] iq))
      (View.ld B (Rect.unit (s := S256x1024) ![0, o] ![256, 128] ik))
      (View.ld B (Rect.unit (s := S256x1024) ![0, o'] ![256, 128] iv)) x
      = mixAt q M ((Rect.unit (s := S512x512) ![0, o] ![512, 128] ir).emb x) := by
  obtain ⟨r, d, rfl⟩ : ∃ r d, x = ix2 r d := ⟨_, _, eq_ix2 x⟩
  rw [emb_cols ir r d (by omega), mix_apply (q := fun r => headq (q r) g) (ld_q hA g ho iq) (ld_k hB g ho ik) (ld_v hB g ho' iv)]
  subst ho
  exact congrArg _ (rowMix_head (q r) M g d (by omega)).symm

variable {U : Vec Ideal S512x128 .bf16} (g : Fin 4) (hU : ∀ r d, U (ix2 r d) = ((headq (up (z r) (y r)) g d : ℝ) : EReal))
include hU

/-- The store of one head of the queries' derivative. -/
theorem dq_piece {o o' : ℕ} (ho : o = 128 * g.val) (ho' : o' = 512 + 128 * g.val) (iq) (ik) (iv) (ir)
    (x : S512x128.Idx) :
    k1_pay2 (F := Ideal) (k1_pay19 (View.ld A (Rect.unit (s := S512x512) ![0, o] ![512, 128] iq))
        (View.ld B (Rect.unit (s := S256x1024) ![0, o] ![256, 128] ik))) U
      (View.ld B (Rect.unit (s := S256x1024) ![0, o'] ![256, 128] iv))
      (View.ld B (Rect.unit (s := S256x1024) ![0, o] ![256, 128] ik)) x
      = dhAt q z y M ((Rect.unit (s := S512x1024) ![0, o] ![512, 128] ir).emb x) := by
  obtain ⟨r, d, rfl⟩ : ∃ r d, x = ix2 r d := ⟨_, _, eq_ix2 x⟩
  rw [emb_cols ir r d (by omega), dquery_apply (q := fun r => headq (q r) g) (u := fun r => headq (up (z r) (y r)) g)
    (probs_head hA hB g ho iq ik) hU (ld_v hB g ho' iv) (ld_k hB g ho ik)]
  subst ho
  exact congrArg _ (rowDh_query (q r) (z r) (y r) M g d (by omega)).symm

/-- The store of one head of the keys' derivative. -/
theorem dk_piece (X : Vec Ideal S256x1024 .f32) {o o' : ℕ} (ho : o = 128 * g.val) (ho' : o' = 512 + 128 * g.val) (iq) (ik) (iv)
    (x : S256x128.Idx) :
    k1_pay3 (F := Ideal) (View.ld A (Rect.unit (s := S512x512) ![0, o] ![512, 128] iq))
      (k1_pay19 (View.ld A (Rect.unit (s := S512x512) ![0, o] ![512, 128] iq))
        (View.ld B (Rect.unit (s := S256x1024) ![0, o] ![256, 128] ik))) U
      (View.ld B (Rect.unit (s := S256x1024) ![0, o'] ![256, 128] iv))
      (View.ld X (Rect.unit (s := S256x1024) ![0, o] ![256, 128] ik)) x
      = gradAt X q z y M ((Rect.unit (s := S256x1024) ![0, o] ![256, 128] ik).emb x) := by
  obtain ⟨j, d, rfl⟩ : ∃ j d, x = ix2 j d := ⟨_, _, eq_ix2 x⟩
  rw [dkey_apply (q := fun r => headq (q r) g) (u := fun r => headq (up (z r) (y r)) g)
    (ld_q hA g ho iq) (probs_head hA hB g ho iq ik) hU (ld_v hB g ho' iv)]
  show X ((Rect.unit (s := S256x1024) ![0, o] ![256, 128] ik).emb (ix2 j d)) + _ = _
  rw [emb_cols ik j d (by omega)]
  subst ho
  exact congrArg _ (congrArg _ (memGrad_key q z y M j g d (by omega)).symm)

/-- The store of one head of the memory values' derivative. -/
theorem dv_piece (X : Vec Ideal S256x1024 .f32) {o o' : ℕ} (ho : o = 128 * g.val) (ho' : o' = 512 + 128 * g.val) (iq) (ik) (iv)
    (x : S256x128.Idx) :
    k1_pay4 (F := Ideal) (k1_pay19 (View.ld A (Rect.unit (s := S512x512) ![0, o] ![512, 128] iq))
        (View.ld B (Rect.unit (s := S256x1024) ![0, o] ![256, 128] ik))) U
      (View.ld X (Rect.unit (s := S256x1024) ![0, o'] ![256, 128] iv)) x
      = gradAt X q z y M ((Rect.unit (s := S256x1024) ![0, o'] ![256, 128] iv).emb x) := by
  obtain ⟨j, d, rfl⟩ : ∃ j d, x = ix2 j d := ⟨_, _, eq_ix2 x⟩
  rw [dval_apply (q := fun r => headq (q r) g) (u := fun r => headq (up (z r) (y r)) g) (probs_head hA hB g ho iq ik) hU]
  show X ((Rect.unit (s := S256x1024) ![0, o'] ![256, 128] iv).emb (ix2 j d)) + _ = _
  rw [emb_cols iv j d (by omega)]
  subst ho'
  have e : (⟨512 + 128 * g.val + d.val, by omega⟩ : Fin 1024) = ⟨512 + (128 * g.val + d.val), by omega⟩ :=
    Fin.ext (Nat.add_assoc _ _ _)
  rw [e]
  exact congrArg _ (congrArg _ (memGrad_val q z y M j g d (by omega)).symm)

end Pieces

/-- The store of the gate's derivative. -/
theorem dz_piece (hZ : ∀ r e, Z (ix2 r e) = ((z r e : ℝ) : EReal)) (hY : ∀ r e, Y (ix2 r e) = ((y r e : ℝ) : EReal))
    (hT : ∀ r e, T (ix2 r e) = ((rowMix (q r) M e : ℝ) : EReal)) (ir) (x : S512x512.Idx) :
    k1_pay10 (F := Ideal) Z Y T x = dhAt q z y M ((Rect.unit (s := S512x1024) ![0, 512] ![512, 512] ir).emb x) := by
  obtain ⟨r, e, rfl⟩ : ∃ r e, x = ix2 r e := ⟨_, _, eq_ix2 x⟩
  rw [emb_cols ir r e (by omega), dz_apply (t := fun r e => rowMix (q r) M e) hZ hY hT]
  exact congrArg _ (rowDh_gate (q r) (z r) (y r) M e (by omega)).symm

end Cert.Mem

end
-- ==== Proof.MemPoint.lean ====
/-
  What one grid point of the two calls leaves in each output's buffer.
-/
module

public import proofs.«01_k».proof.Proof.MemPieces
public import proofs.«01_k».proof.Proof.Gen.KernelIdeal.Frame

@[expose] public section

set_option maxRecDepth 16384

noncomputable section

namespace Cert.Mem

open Idealize.ShloMosaic Idealize.ShloMosaic.TcCoe Cert.KernelIdeal Cert.KernelIdeal.Gen

variable (V : (c : Dev nD) → (b : Ref sig .tc) → Buf (Elt Ideal) ((c : Thread nD τ).loc b)) (c : Dev nD)
variable {q z y : Fin 512 → Fin 512 → ℝ} {M : Fin 256 → Fin 1024 → ℝ}

/-- The forward call's block. -/
theorem point_mix (t : Fin cfg0.N)
    (hA : ∀ r e, (iblk0 V c 0 t : Vec Ideal S512x512 .bf16) (ix2 r e) = ((q r e : ℝ) : EReal))
    (hB : ∀ j e, (iblk0 V c 1 t : Vec Ideal S256x1024 .bf16) (ix2 j e) = ((M j e : ℝ) : EReal)) :
    outsAt0 V c t = mixAt q M := by
  unfold outsAt0
  frame_out
  funext i
  refine View.canon_apply_of_pieces (mixAt q M) _ (View.PiecesOf.mem ?_) i (View.cover_of_tiled_head _ _ _ (by rfl) i)
  refine ⟨?_, ?_, ?_, ?_, trivial⟩
  · exact mix_piece hA hB 3 rfl rfl _ _ _ inb_S512x512_S512x128_0_384
  · exact mix_piece hA hB 2 rfl rfl _ _ _ inb_S512x512_S512x128_0_256
  · exact mix_piece hA hB 1 rfl rfl _ _ _ inb_S512x512_S512x128_0_128
  · exact mix_piece hA hB 0 rfl rfl _ _ _ inb_S512x512_S512x128_0_0

variable (t : Fin cfg1.N)
variable (hA : ∀ r e, (iblk1 V c 0 t : Vec Ideal S512x512 .bf16) (ix2 r e) = ((q r e : ℝ) : EReal))
variable (hZ : ∀ r e, (iblk1 V c 1 t : Vec Ideal S512x512 .bf16) (ix2 r e) = ((z r e : ℝ) : EReal))
variable (hY : ∀ r e, (iblk1 V c 3 t : Vec Ideal S512x512 .bf16) (ix2 r e) = ((y r e : ℝ) : EReal))
variable (hB : ∀ j e, (iblk1 V c 4 t : Vec Ideal S256x1024 .bf16) (ix2 j e) = ((M j e : ℝ) : EReal))
include hA hZ hY hB

/-- The backward call's block of the projection's derivative, whichever case the point is in. -/
theorem point_dh (hT : ∀ r e, (iblk1 V c 2 t : Vec Ideal S512x512 .bf16) (ix2 r e) = ((rowMix (q r) M e : ℝ) : EReal)) :
    (outsAt1 V c t.val t.isLt).1 = dhAt q z y M := by
  by_cases h0 : t.val % 16 = 0
  · have hc := cover1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)
    rw [outsAt1_A V c t h0]
    frame_out [↓View.readCov_skip, ↓View.readCov_fill]
    frame_out [↓View.readCov_skip, ↓View.readCov_fill] at hc
    funext i
    refine View.canon_apply_of_pieces (dhAt q z y M) _ (View.PiecesOf.mem ?_) i (hc i)
    refine ⟨?_, ?_, ?_, ?_, ?_, trivial⟩
    · exact dq_piece hA hB 3 (up_head3 hZ hY) rfl rfl _ _ _ inb_S512x1024_S512x128_0_384
    · exact dq_piece hA hB 2 (up_head2 hZ hY) rfl rfl _ _ _ inb_S512x1024_S512x128_0_256
    · exact dq_piece hA hB 1 (up_head1 hZ hY) rfl rfl _ _ _ inb_S512x1024_S512x128_0_128
    · exact dq_piece hA hB 0 (up_head0 hZ hY) rfl rfl _ _ _ inb_S512x1024_S512x128_0_0
    · exact dz_piece hZ hY hT inb_S512x1024_S512x512_0_512
  · have hc := cover1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2
    rw [outsAt1_B V c t h0]
    frame_out
    frame_out at hc
    funext i
    refine View.canon_apply_of_pieces (dhAt q z y M) _ (View.PiecesOf.mem ?_) i (hc i)
    refine ⟨?_, ?_, ?_, ?_, ?_, trivial⟩
    · exact dq_piece hA hB 3 (up_head3 hZ hY) rfl rfl _ _ _ inb_S512x1024_S512x128_0_384
    · exact dq_piece hA hB 2 (up_head2 hZ hY) rfl rfl _ _ _ inb_S512x1024_S512x128_0_256
    · exact dq_piece hA hB 1 (up_head1 hZ hY) rfl rfl _ _ _ inb_S512x1024_S512x128_0_128
    · exact dq_piece hA hB 0 (up_head0 hZ hY) rfl rfl _ _ _ inb_S512x1024_S512x128_0_0
    · exact dz_piece hZ hY hT inb_S512x1024_S512x512_0_512

/-- The first point: the memory's derivative over the zeros it has just stored. -/
theorem point_grad_first (h0 : t.val % 16 = 0) :
    (outsAt1 V c t.val t.isLt).2 = gradAt (k1_pay5 (F := Ideal)) q z y M := by
  rw [outsAt1_A V c t h0]
  frame_out [↓View.readCov_skip, ↓View.readCov_fill]
  funext i
  refine View.canon_append_of_piecesOf (gradAt (k1_pay5 (F := Ideal)) q z y M) [_] [_, _, _, _, _, _, _, _]
    ⟨?_, ?_, ?_, ?_, ?_, ?_, ?_, ?_, trivial⟩ i (View.cover_of_tiled_head _ _ _ (by rfl) i)
  · exact dv_piece hA hB 3 (up_head3 hZ hY) _ rfl rfl _ _ _
  · exact dk_piece hA hB 3 (up_head3 hZ hY) _ rfl rfl _ _ _
  · exact dv_piece hA hB 2 (up_head2 hZ hY) _ rfl rfl _ _ _
  · exact dk_piece hA hB 2 (up_head2 hZ hY) _ rfl rfl _ _ _
  · exact dv_piece hA hB 1 (up_head1 hZ hY) _ rfl rfl _ _ _
  · exact dk_piece hA hB 1 (up_head1 hZ hY) _ rfl rfl _ _ _
  · exact dv_piece hA hB 0 (up_head0 hZ hY) _ rfl rfl _ _ _
  · exact dk_piece hA hB 0 (up_head0 hZ hY) _ rfl rfl _ _ _

/-- A later point: the memory's derivative over what the point before left. -/
theorem point_grad_next (h0 : ¬t.val % 16 = 0) :
    (outsAt1 V c t.val t.isLt).2
      = gradAt (outsAt1 V c (t.val - 1) (Nat.lt_of_le_of_lt (Nat.sub_le _ _) t.isLt)).2 q z y M := by
  rw [outsAt1_B V c t h0]
  frame_out
  funext i
  refine View.canon_apply_of_pieces (gradAt (outsAt1 V c (t.val - 1) (Nat.lt_of_le_of_lt (Nat.sub_le _ _) t.isLt)).2 q z y M) _
    (View.PiecesOf.mem ?_) i (View.cover_of_tiled_head _ _ _ (by rfl) i)
  refine ⟨?_, ?_, ?_, ?_, ?_, ?_, ?_, ?_, trivial⟩
  · exact dv_piece hA hB 3 (up_head3 hZ hY) _ rfl rfl _ _ _
  · exact dk_piece hA hB 3 (up_head3 hZ hY) _ rfl rfl _ _ _
  · exact dv_piece hA hB 2 (up_head2 hZ hY) _ rfl rfl _ _ _
  · exact dk_piece hA hB 2 (up_head2 hZ hY) _ rfl rfl _ _ _
  · exact dv_piece hA hB 1 (up_head1 hZ hY) _ rfl rfl _ _ _
  · exact dk_piece hA hB 1 (up_head1 hZ hY) _ rfl rfl _ _ _
  · exact dv_piece hA hB 0 (up_head0 hZ hY) _ rfl rfl _ _ _
  · exact dk_piece hA hB 0 (up_head0 hZ hY) _ rfl rfl _ _ _

end Cert.Mem

end
-- ==== Proof.MemArray.lean ====
/-
  What the arrays hold after the two calls, when what the calls read are arrays of real numbers: the result blocks side
  by side, and the memory's derivative summed over the grid.
-/
module

public import proofs.«01_k».proof.Proof.MemPoint
public import Idealize.ShloMosaic.Lib.Pipeline.ValueKit.Partial

@[expose] public section

set_option maxRecDepth 16384

noncomputable section

namespace Cert.Mem

open Idealize.ShloMosaic Idealize.ShloMosaic.TcCoe Cert.KernelIdeal Cert.KernelIdeal.Gen

/-! ## The columns each call reads -/

/-- The queries' columns of the projection. -/
def qcol (H : Fin 8192 → Fin 7168 → ℝ) (R : Fin 8192) (e : Fin 512) : ℝ := H R ⟨6144 + e.val, by omega⟩

/-- The gates' columns of the projection. -/
def zcol (H : Fin 8192 → Fin 7168 → ℝ) (R : Fin 8192) (e : Fin 512) : ℝ := H R ⟨6656 + e.val, by omega⟩

/-- The upstream derivative's columns. -/
def ycol (D : Fin 8192 → Fin 2048 → ℝ) (R : Fin 8192) (e : Fin 512) : ℝ := D R ⟨1536 + e.val, by omega⟩

/-- A block's row in the array. -/
def row {N : ℕ} (hN : N = 16) (t : Fin N) (r : Fin 512) : Fin 8192 := ⟨512 * t.val + r.val, by omega⟩

theorem index0 : ∀ t : Fin cfg0.N, (win0_0.index t 0 = t.val ∧ win0_0.index t 1 = 12) ∧ (win0_1.index t 0 = 0 ∧ win0_1.index t 1 = 0)
    ∧ (win0_2.index t 0 = t.val ∧ win0_2.index t 1 = 3) := by decide +kernel

theorem index1 : ∀ t : Fin cfg1.N, (win1_0.index t 0 = t.val ∧ win1_0.index t 1 = 12) ∧ (win1_1.index t 0 = t.val ∧ win1_1.index t 1 = 13)
    ∧ (win1_2.index t 0 = t.val ∧ win1_2.index t 1 = 3) ∧ (win1_3.index t 0 = t.val ∧ win1_3.index t 1 = 3)
    ∧ (win1_4.index t 0 = 0 ∧ win1_4.index t 1 = 0) ∧ (win1_5.index t 0 = t.val ∧ win1_5.index t 1 = 6)
    ∧ (win1_6.index t 0 = 0 ∧ win1_6.index t 1 = 0) := by decide +kernel

variable (V : (c : Dev nD) → (b : Ref sig .tc) → Buf (Elt Ideal) ((c : Thread nD τ).loc b)) (c : Dev nD)
variable {H : Fin 8192 → Fin 7168 → ℝ} {M : Fin 256 → Fin 1024 → ℝ} {D : Fin 8192 → Fin 2048 → ℝ}

section Forward

variable (hH : ∀ R C, (V c main_arg0 : Vec Ideal S8192x7168 .bf16) (ix2 R C) = ((H R C : ℝ) : EReal))
variable (hM : ∀ j C, (V c main_arg2 : Vec Ideal S256x1024 .bf16) (ix2 j C) = ((M j C : ℝ) : EReal))

include hH in
theorem blk0_q (t : Fin cfg0.N) (r e : Fin 512) :
    (iblk0 V c 0 t : Vec Ideal S512x512 .bf16) (ix2 r e) = ((qcol H (row N_0 t r) e : ℝ) : EReal) := by
  unfold iblk0
  rw [View.read_apply]
  refine (congrArg (V c main_arg0) (funext fun a => Fin.ext ?_)).trans (hH (row N_0 t r) ⟨6144 + e.val, by omega⟩)
  match a with
  | ⟨0, _⟩ => show win0_0.index t 0 * 512 + 1 * r.val = 512 * t.val + r.val; rw [(index0 t).1.1]; omega
  | ⟨1, _⟩ => show win0_0.index t 1 * 512 + 1 * e.val = 6144 + e.val; rw [(index0 t).1.2]; omega

include hM in
theorem blk0_m (t : Fin cfg0.N) (j : Fin 256) (e : Fin 1024) :
    (iblk0 V c 1 t : Vec Ideal S256x1024 .bf16) (ix2 j e) = ((M j e : ℝ) : EReal) := by
  unfold iblk0
  rw [View.read_apply]
  refine (congrArg (V c main_arg2) (funext fun a => Fin.ext ?_)).trans (hM j e)
  match a with
  | ⟨0, _⟩ => show win0_1.index t 0 * 256 + 1 * j.val = j.val; rw [(index0 t).2.1.1]; omega
  | ⟨1, _⟩ => show win0_1.index t 1 * 1024 + 1 * e.val = e.val; rw [(index0 t).2.1.2]; omega

/-- The attention's result over the array's last 512 columns, the rest as it was. -/
def mixArr (X : Vec Ideal S8192x2048 .bf16) (H : Fin 8192 → Fin 7168 → ℝ) (M : Fin 256 → Fin 1024 → ℝ) : Vec Ideal S8192x2048 .bf16 :=
  fun i => if h : 1536 ≤ (i 1).val then ((rowMix (qcol H (i 0)) M ⟨(i 1).val - 1536, by have : (i 1).val < 2048 := (i 1).isLt; omega⟩ : ℝ) : EReal) else X i

theorem mixArr_at (X : Vec Ideal S8192x2048 .bf16) (H : Fin 8192 → Fin 7168 → ℝ) (M : Fin 256 → Fin 1024 → ℝ) (R : Fin 8192) (e : Fin 512)
    (h : 1536 + e.val < 2048) : mixArr X H M (ix2 R ⟨1536 + e.val, h⟩) = ((rowMix (qcol H R) M e : ℝ) : EReal) := by
  unfold mixArr
  refine (dif_pos (show 1536 ≤ 1536 + e.val by omega)).trans ?_
  have : (⟨1536 + e.val - 1536, by omega⟩ : Fin 512) = e := Fin.ext (by show 1536 + e.val - 1536 = e.val; omega)
  exact congrArg (fun e' => ((rowMix (qcol H R) M e' : ℝ) : EReal)) this

theorem mixArr_out (X : Vec Ideal S8192x2048 .bf16) (H : Fin 8192 → Fin 7168 → ℝ) (M : Fin 256 → Fin 1024 → ℝ) (i : S8192x2048.Idx)
    (h : ¬1536 ≤ (i 1).val) : mixArr X H M i = X i := dif_neg h

include hH hM in
/-- The forward call's array. -/
theorem array_mix : (dat0 V c).arrAt 2 cfg0.N = mixArr (V c main_v0) H M := by
  refine (dat0 V c).arrAt_eq_of_coversWhere_of_agree 2 (mixArr (V c main_v0) H M) (fun β => β (1 : Fin 2) = 3) (by decide +kernel)
    (fun t hf y => ?_) (fun j hj => ?_)
  · blk_simp
    rw [after0_2, point_mix V c t (blk0_q V c hH t) (blk0_m V c hM t)]
    obtain ⟨r, e, rfl⟩ : ∃ r e, y = ix2 r e := ⟨_, _, eq_ix2 y⟩
    have he : ((cfg0.win 2).blk t).view.emb (ix2 r e) = (ix2 (row N_0 t r) ⟨1536 + e.val, by omega⟩ : S8192x2048.Idx) :=
      funext fun a => Fin.ext <| by
        match a with
        | ⟨0, _⟩ => show win0_2.index t 0 * 512 + 1 * r.val = 512 * t.val + r.val; rw [(index0 t).2.2.1]; omega
        | ⟨1, _⟩ => show win0_2.index t 1 * 512 + 1 * e.val = 1536 + e.val; rw [(index0 t).2.2.2]; omega
    exact (mixArr_at (V c main_v0) H M (row N_0 t r) e (by omega)).symm.trans (congrArg (mixArr (V c main_v0) H M) he.symm)
  · rw [A_eq0]
    refine (mixArr_out (V c main_v0) H M _ fun h => hj ?_).symm
    have h1 : (j 1).val < 2048 := (j 1).isLt
    show (j 1).val / 512 = 3
    have h2 : 1536 ≤ (j 1).val := h
    omega

end Forward

section Backward

variable (hH : ∀ R C, (V c main_arg0 : Vec Ideal S8192x7168 .bf16) (ix2 R C) = ((H R C : ℝ) : EReal))
variable (hM : ∀ j C, (V c main_arg2 : Vec Ideal S256x1024 .bf16) (ix2 j C) = ((M j C : ℝ) : EReal))
variable (hD : ∀ R C, (V c main_arg3 : Vec Ideal S8192x2048 .bf16) (ix2 R C) = ((D R C : ℝ) : EReal))
variable (X : Vec Ideal S8192x2048 .bf16) (hR : (V c main_v0 : Vec Ideal S8192x2048 .bf16) = mixArr X H M)

include hH in
theorem blk1_q (t : Fin cfg1.N) (r e : Fin 512) :
    (iblk1 V c 0 t : Vec Ideal S512x512 .bf16) (ix2 r e) = ((qcol H (row N_1 t r) e : ℝ) : EReal) := by
  unfold iblk1
  rw [View.read_apply]
  refine (congrArg (V c main_arg0) (funext fun a => Fin.ext ?_)).trans (hH (row N_1 t r) ⟨6144 + e.val, by omega⟩)
  match a with
  | ⟨0, _⟩ => show win1_0.index t 0 * 512 + 1 * r.val = 512 * t.val + r.val; rw [(index1 t).1.1]; omega
  | ⟨1, _⟩ => show win1_0.index t 1 * 512 + 1 * e.val = 6144 + e.val; rw [(index1 t).1.2]; omega

include hH in
theorem blk1_z (t : Fin cfg1.N) (r e : Fin 512) :
    (iblk1 V c 1 t : Vec Ideal S512x512 .bf16) (ix2 r e) = ((zcol H (row N_1 t r) e : ℝ) : EReal) := by
  unfold iblk1
  rw [View.read_apply]
  refine (congrArg (V c main_arg0) (funext fun a => Fin.ext ?_)).trans (hH (row N_1 t r) ⟨6656 + e.val, by omega⟩)
  match a with
  | ⟨0, _⟩ => show win1_1.index t 0 * 512 + 1 * r.val = 512 * t.val + r.val; rw [(index1 t).2.1.1]; omega
  | ⟨1, _⟩ => show win1_1.index t 1 * 512 + 1 * e.val = 6656 + e.val; rw [(index1 t).2.1.2]; omega

include hR in
theorem blk1_r (t : Fin cfg1.N) (r e : Fin 512) :
    (iblk1 V c 2 t : Vec Ideal S512x512 .bf16) (ix2 r e) = ((rowMix (qcol H (row N_1 t r)) M e : ℝ) : EReal) := by
  unfold iblk1
  rw [View.read_apply]
  refine (congrArg (V c main_v0) (funext fun a => Fin.ext ?_)).trans
    ((congrFun hR (ix2 (row N_1 t r) ⟨1536 + e.val, by omega⟩)).trans (mixArr_at X H M (row N_1 t r) e (by omega)))
  match a with
  | ⟨0, _⟩ => show win1_2.index t 0 * 512 + 1 * r.val = 512 * t.val + r.val; rw [(index1 t).2.2.1.1]; omega
  | ⟨1, _⟩ => show win1_2.index t 1 * 512 + 1 * e.val = 1536 + e.val; rw [(index1 t).2.2.1.2]; omega

include hD in
theorem blk1_y (t : Fin cfg1.N) (r e : Fin 512) :
    (iblk1 V c 3 t : Vec Ideal S512x512 .bf16) (ix2 r e) = ((ycol D (row N_1 t r) e : ℝ) : EReal) := by
  unfold iblk1
  rw [View.read_apply]
  refine (congrArg (V c main_arg3) (funext fun a => Fin.ext ?_)).trans (hD (row N_1 t r) ⟨1536 + e.val, by omega⟩)
  match a with
  | ⟨0, _⟩ => show win1_3.index t 0 * 512 + 1 * r.val = 512 * t.val + r.val; rw [(index1 t).2.2.2.1.1]; omega
  | ⟨1, _⟩ => show win1_3.index t 1 * 512 + 1 * e.val = 1536 + e.val; rw [(index1 t).2.2.2.1.2]; omega

include hM in
theorem blk1_m (t : Fin cfg1.N) (j : Fin 256) (e : Fin 1024) :
    (iblk1 V c 4 t : Vec Ideal S256x1024 .bf16) (ix2 j e) = ((M j e : ℝ) : EReal) := by
  unfold iblk1
  rw [View.read_apply]
  refine (congrArg (V c main_arg2) (funext fun a => Fin.ext ?_)).trans (hM j e)
  match a with
  | ⟨0, _⟩ => show win1_4.index t 0 * 256 + 1 * j.val = j.val; rw [(index1 t).2.2.2.2.1.1]; omega
  | ⟨1, _⟩ => show win1_4.index t 1 * 1024 + 1 * e.val = e.val; rw [(index1 t).2.2.2.2.1.2]; omega

/-- The projection's derivative over the array's last 1024 columns, the rest as it was. -/
def dhArr (Y : Vec Ideal S8192x7168 .bf16) (H : Fin 8192 → Fin 7168 → ℝ) (D : Fin 8192 → Fin 2048 → ℝ) (M : Fin 256 → Fin 1024 → ℝ) :
    Vec Ideal S8192x7168 .bf16 :=
  fun i => if h : 6144 ≤ (i 1).val then ((rowDh (qcol H (i 0)) (zcol H (i 0)) (ycol D (i 0)) M
    ⟨(i 1).val - 6144, by have : (i 1).val < 7168 := (i 1).isLt; omega⟩ : ℝ) : EReal) else Y i

theorem dhArr_at (Y : Vec Ideal S8192x7168 .bf16) (R : Fin 8192) (e : Fin 1024) (h : 6144 + e.val < 7168) :
    dhArr Y H D M (ix2 R ⟨6144 + e.val, h⟩) = ((rowDh (qcol H R) (zcol H R) (ycol D R) M e : ℝ) : EReal) := by
  unfold dhArr
  refine (dif_pos (show 6144 ≤ 6144 + e.val by omega)).trans ?_
  have : (⟨6144 + e.val - 6144, by omega⟩ : Fin 1024) = e := Fin.ext (by show 6144 + e.val - 6144 = e.val; omega)
  exact congrArg (fun e' => ((rowDh (qcol H R) (zcol H R) (ycol D R) M e' : ℝ) : EReal)) this

theorem dhArr_out (Y : Vec Ideal S8192x7168 .bf16) (i : S8192x7168.Idx) (h : ¬6144 ≤ (i 1).val) : dhArr Y H D M i = Y i := dif_neg h

include hH hM hD hR in
/-- The backward call's array of the projection's derivative. -/
theorem array_dh : (dat1 V c).arrAt 5 cfg1.N = dhArr (V c main_v1_0) H D M := by
  refine (dat1 V c).arrAt_eq_of_coversWhere_of_agree 5 (dhArr (V c main_v1_0) H D M) (fun β => β (1 : Fin 2) = 6) (by decide +kernel)
    (fun t hf y => ?_) (fun j hj => ?_)
  · blk_simp
    rw [after1_5, point_dh V c t (blk1_q V c hH t) (blk1_z V c hH t) (blk1_y V c hD t) (blk1_m V c hM t) (blk1_r V c X hR t)]
    obtain ⟨r, e, rfl⟩ : ∃ r e, y = ix2 r e := ⟨_, _, eq_ix2 y⟩
    have he : ((cfg1.win 5).blk t).view.emb (ix2 r e) = (ix2 (row N_1 t r) ⟨6144 + e.val, by omega⟩ : S8192x7168.Idx) :=
      funext fun a => Fin.ext <| by
        match a with
        | ⟨0, _⟩ => show win1_5.index t 0 * 512 + 1 * r.val = 512 * t.val + r.val; rw [(index1 t).2.2.2.2.2.1.1]; omega
        | ⟨1, _⟩ => show win1_5.index t 1 * 1024 + 1 * e.val = 6144 + e.val; rw [(index1 t).2.2.2.2.2.1.2]; omega
    exact (dhArr_at (V c main_v1_0) (row N_1 t r) e (by omega)).symm.trans (congrArg (dhArr (V c main_v1_0) H D M) he.symm)
  · rw [A_eq1]
    refine (dhArr_out (V c main_v1_0) _ fun h => hj ?_).symm
    have h1 : (j 1).val < 7168 := (j 1).isLt
    show (j 1).val / 1024 = 6
    have h2 : 6144 ≤ (j 1).val := h
    omega

/-- The memory's derivative, over every row. -/
def gradArr (H : Fin 8192 → Fin 7168 → ℝ) (D : Fin 8192 → Fin 2048 → ℝ) (M : Fin 256 → Fin 1024 → ℝ) : Vec Ideal S256x1024 .f32 :=
  fun i => ((memGrad (qcol H) (zcol H) (ycol D) M (i 0) (i 1) : ℝ) : EReal)

/-- The sixteen blocks' sums are the sum over every row. -/
theorem sum_blocks (N : ℕ) (hN : N = 16) (j : Fin 256) (e : Fin 1024) :
    ∑ t : Fin N, memGrad (fun r => qcol H (row hN t r)) (fun r => zcol H (row hN t r)) (fun r => ycol D (row hN t r)) M j e
      = memGrad (qcol H) (zcol H) (ycol D) M j e := by
  subst hN
  have key : ∀ f : Fin 8192 → ℝ, ∑ t : Fin 16, ∑ r : Fin 512, f (row rfl t r) = ∑ R, f R := fun f => by
    refine Eq.trans (Finset.sum_congr rfl fun t _ => Finset.sum_congr rfl fun r _ => congrArg f (Fin.ext ?_))
      (Fin.sum_mul_add_fin 16 512 f)
    show 512 * t.val + r.val = t.val * 512 + r.val
    omega
  unfold memGrad
  by_cases h : e.val < 512
  · simp only [dif_pos h, ← Finset.sum_mul]
    rw [key fun R => rowDk (qcol H R) (zcol H R) (ycol D R) M j ⟨e.val, h⟩]
  · simp only [dif_neg h]
    rw [key fun R => rowDv (qcol H R) (zcol H R) (ycol D R) M j ⟨e.val - 512, by omega⟩]

theorem zero_block (i : S256x1024.Idx) : k1_pay5 (F := Ideal) i = 0 := by
  obtain ⟨r, e, rfl⟩ : ∃ r e, i = ix2 r e := ⟨_, _, eq_ix2 i⟩
  unfold k1_pay5
  pointwise

include hH hM hD in
/-- The backward call's array of the memory's derivative. -/
theorem array_grad : (dat1 V c).arrAt 6 cfg1.N = gradArr H D M := by
  have hN : cfg1.N = 16 := N_1
  refine (dat1 V c).arrAt_eq_of_covers 6 (gradArr H D M) (by decide +kernel) fun t hf y => ?_
  blk_simp
  rw [after1_6]
  have ht : t.val + 1 = cfg1.N := by have := (flush1_6 t).mp hf; have := t.isLt; omega
  rw [Pipeline.eq_sum_fin_of_reset_step_apply_last (fun n h => (outsAt1 V c n h).2) 16 (k1_pay5 (F := Ideal))
    (fun t i => ((memGrad (fun r => qcol H (row N_1 t r)) (fun r => zcol H (row N_1 t r)) (fun r => ycol D (row N_1 t r)) M (i 0) (i 1) : ℝ) : EReal))
    (fun t h i => congrFun (point_grad_first V c t (blk1_q V c hH t) (blk1_z V c hH t) (blk1_y V c hD t) (blk1_m V c hM t) h) i)
    (fun t h i => congrFun (point_grad_next V c t (blk1_q V c hH t) (blk1_z V c hH t) (blk1_y V c hD t) (blk1_m V c hM t) h) i)
    (le_of_eq N_1) t ht, zero_block, zero_add, coe_sum]
  obtain ⟨r, e, rfl⟩ : ∃ r e, y = ix2 r e := ⟨_, _, eq_ix2 y⟩
  have he : ((cfg1.win 6).blk t).view.emb (ix2 r e) = (ix2 r e : S256x1024.Idx) :=
    funext fun a => Fin.ext <| by
      match a with
      | ⟨0, _⟩ => show win1_6.index t 0 * 256 + 1 * r.val = r.val; rw [(index1 t).2.2.2.2.2.2.1]; omega
      | ⟨1, _⟩ => show win1_6.index t 1 * 1024 + 1 * e.val = e.val; rw [(index1 t).2.2.2.2.2.2.2]; omega
  exact (congrArg (fun x : ℝ => (x : EReal)) (sum_blocks cfg1.N N_1 r e)).trans (congrArg (gradArr H D M) he.symm)

end Backward

end Cert.Mem

end
-- ==== Proof.MemRun.lean ====
/-
  The two calls' program run from any memory: what its three results are when the arguments are arrays of real numbers.
-/
module

public import proofs.«01_k».proof.Proof.MemArray
public import proofs.«01_k».proof.Proof.Gen.KernelIdeal.Frame

@[expose] public section

set_option maxRecDepth 16384

noncomputable section

namespace Cert.Mem

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! ## The arrays when the program ends -/

section Arrays

variable (m : (ℓ : Loc nD τ sig) → Buf (Elt Ideal) ℓ) (ρ : Dev nD → PrngReg) (c : Dev nD)
variable {H : Fin 8192 → Fin 7168 → ℝ} {M : Fin 256 → Fin 1024 → ℝ} {D : Fin 8192 → Fin 2048 → ℝ}
variable (hH : ∀ R C, (m ((c.tc : Thread nD τ).loc main_arg0) : Vec Ideal S8192x7168 .bf16) (ix2 R C) = ((H R C : ℝ) : EReal))
variable (hM : ∀ j C, (m ((c.tc : Thread nD τ).loc main_arg2) : Vec Ideal S256x1024 .bf16) (ix2 j C) = ((M j C : ℝ) : EReal))
variable (hD : ∀ R C, (m ((c.tc : Thread nD τ).loc main_arg3) : Vec Ideal S8192x2048 .bf16) (ix2 R C) = ((D R C : ℝ) : EReal))

/-- The forward call's array starts as a copy of the second argument. -/
theorem copied_mix : V1 m ρ c main_v0 = m ((c.tc : Thread nD τ).loc main_arg1) := by
  show StableHlo.after hostOps0 (W0 m ρ c) _ = _
  after_results
  rfl

/-- The backward call's array starts as a copy of the last argument. -/
theorem copied_dh : V3 m ρ c main_v1_0 = m ((c.tc : Thread nD τ).loc main_arg4) := by
  have h : W2 m ρ c (Proc.devRef .tc main_arg4) = m ((c.tc : Thread nD τ).loc main_arg4) := W2_args m ρ c _ (by decide)
  refine Eq.trans ?_ h
  show StableHlo.after hostOps1 (W2 m ρ c) _ = _
  after_results
  rfl

include hH hM in
/-- The backward call reads the forward call's result. -/
theorem mix_entry : V3 m ρ c main_v0 = mixArr (m ((c.tc : Thread nD τ).loc main_arg1)) H M := by
  have h0 := W1_args m ρ c main_arg0 (by decide)
  have h2 := W1_args m ρ c main_arg2 (by decide)
  refine (W3_of m ρ c main_v0 (by decide)).trans ((W2_arr m ρ c 2).trans ?_)
  rw [array_mix (V1 m ρ) c (H := H) (M := M) (fun R C => (congrFun h0 _).trans (hH R C)) (fun j C => (congrFun h2 _).trans (hM j C)),
    copied_mix]

include hH hM in
/-- The first result when the program ends. -/
theorem final_mix : W4 m ρ c (Proc.devRef .tc main_v0) = mixArr (m ((c.tc : Thread nD τ).loc main_arg1)) H M := by
  refine (W4_of m ρ c main_v0 (by decide)).trans ?_
  exact mix_entry m ρ c hH hM

include hH hM hD in
/-- The second result when the program ends. -/
theorem final_dh : W4 m ρ c (Proc.devRef .tc main_v1_0) = dhArr (m ((c.tc : Thread nD τ).loc main_arg4)) H D M := by
  have h0 := W3_args m ρ c main_arg0 (by decide)
  have h2 := W3_args m ρ c main_arg2 (by decide)
  have h3 := W3_args m ρ c main_arg3 (by decide)
  refine (W4_arr m ρ c 5).trans ?_
  rw [array_dh (V3 m ρ) c (H := H) (M := M) (D := D) (hH := fun R C => (congrFun h0 _).trans (hH R C))
    (hM := fun j C => (congrFun h2 _).trans (hM j C)) (hD := fun R C => (congrFun h3 _).trans (hD R C))
    (X := m ((c.tc : Thread nD τ).loc main_arg1)) (hR := mix_entry m ρ c hH hM), copied_dh]

include hH hM hD in
/-- The third result when the program ends. -/
theorem final_grad : W4 m ρ c (Proc.devRef .tc main_v1_1) = gradArr H D M := by
  have h0 := W3_args m ρ c main_arg0 (by decide)
  have h2 := W3_args m ρ c main_arg2 (by decide)
  have h3 := W3_args m ρ c main_arg3 (by decide)
  exact (W4_arr m ρ c 6).trans (array_grad (V3 m ρ) c (H := H) (M := M) (D := D) (hH := fun R C => (congrFun h0 _).trans (hH R C))
    (hM := fun j C => (congrFun h2 _).trans (hM j C)) (hD := fun R C => (congrFun h3 _).trans (hD R C)))

end Arrays

/-! ## The run -/

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory the program ends with its results at the last contents of their arrays, its arguments as they were. -/
theorem run_results : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_v1_0) = W4 m ρ c (Proc.devRef .tc main_v1_0)
      ∧ r.2.mem ((c.tc : Thread nD τ).loc main_v1_1) = W4 m ρ c (Proc.devRef .tc main_v1_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v0 (by decide)), h c _ (mem_uc main_v1_0 (by decide)), h c _ (mem_uc main_v1_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Mem

end
-- ==== Proof.MemReference.lean ====
/-
  The reference's results, stage by stage, when its arguments are arrays of real numbers: the attention over the memory,
  and the derivatives with respect to the projection and the memory.
-/
module

public import proofs.«01_k».proof.Proof.MemArray
public import proofs.«01_k».proof.Proof.Gen.ReferenceIdeal.Read

@[expose] public section

set_option maxRecDepth 16384

noncomputable section

namespace Cert.Mem

open Idealize.ShloMosaic Idealize.ShloMosaic.TcCoe Cert.ReferenceIdeal Cert.ReferenceIdeal.Gen Cert.ReferenceIdeal.Read

/-! ## Where each stage reads -/

theorem at_idx_main_v0 (R : Fin 8192) (e : Fin 512) : idx_main_v0 (ix2 R e) = ix2 R ⟨6144 + e.val, by omega⟩ := by
  funext a
  match a with
  | ⟨0, _⟩ => rfl
  | ⟨1, _⟩ => rfl

theorem at_idx_main_v1 (R : Fin 8192) (e : Fin 512) : idx_main_v1 (ix2 R e) = ix2 R ⟨6656 + e.val, by omega⟩ := by
  funext a
  match a with
  | ⟨0, _⟩ => rfl
  | ⟨1, _⟩ => rfl

theorem at_idx_main_v2 (R : Fin 8192) (e : Fin 512) : idx_main_v2 (ix2 R e) = ix2 R ⟨1536 + e.val, by omega⟩ := by
  funext a
  match a with
  | ⟨0, _⟩ => rfl
  | ⟨1, _⟩ => rfl

theorem at_idx_main_v7 (j : Fin 256) (e : Fin 512) : idx_main_v7 (ix2 j e) = ix2 j ⟨e.val, by omega⟩ := by
  funext a
  match a with
  | ⟨0, _⟩ => rfl
  | ⟨1, _⟩ => rfl

theorem at_idx_main_v8 (j : Fin 256) (e : Fin 512) : idx_main_v8 (ix2 j e) = ix2 j ⟨512 + e.val, by omega⟩ := by
  funext a
  match a with
  | ⟨0, _⟩ => rfl
  | ⟨1, _⟩ => rfl

theorem at_idx_main_v9 (R : Fin 8192) (g : Fin 4) (d : Fin 128) : idx_main_v9 (ix3 R g d) = ix2 R ⟨128 * g.val + d.val, by omega⟩ := by
  funext a
  match a with
  | ⟨0, _⟩ => exact Fin.ext (by show ((R.val * 4 + g.val) * 128 + d.val) / 512 = R.val; omega)
  | ⟨1, _⟩ => exact Fin.ext (by show ((R.val * 4 + g.val) * 128 + d.val) % 512 = 128 * g.val + d.val; omega)

theorem at_idx_main_v75 (R : Fin 8192) (g : Fin 4) (d : Fin 128) : idx_main_v75 (ix3 R g d) = ix2 R ⟨128 * g.val + d.val, by omega⟩ := by
  funext a
  match a with
  | ⟨0, _⟩ => exact Fin.ext (by show ((R.val * 4 + g.val) * 128 + d.val) / 512 = R.val; omega)
  | ⟨1, _⟩ => exact Fin.ext (by show ((R.val * 4 + g.val) * 128 + d.val) % 512 = 128 * g.val + d.val; omega)

theorem at_idx_main_v10 (j : Fin 256) (g : Fin 4) (d : Fin 128) : idx_main_v10 (ix3 j g d) = ix2 j ⟨128 * g.val + d.val, by omega⟩ := by
  funext a
  match a with
  | ⟨0, _⟩ => exact Fin.ext (by show ((j.val * 4 + g.val) * 128 + d.val) / 512 = j.val; omega)
  | ⟨1, _⟩ => exact Fin.ext (by show ((j.val * 4 + g.val) * 128 + d.val) % 512 = 128 * g.val + d.val; omega)

theorem at_idx_main_v11 (j : Fin 256) (g : Fin 4) (d : Fin 128) : idx_main_v11 (ix3 j g d) = ix2 j ⟨128 * g.val + d.val, by omega⟩ := by
  funext a
  match a with
  | ⟨0, _⟩ => exact Fin.ext (by show ((j.val * 4 + g.val) * 128 + d.val) / 512 = j.val; omega)
  | ⟨1, _⟩ => exact Fin.ext (by show ((j.val * 4 + g.val) * 128 + d.val) % 512 = 128 * g.val + d.val; omega)

theorem at_lidx_main_v12 (g : Fin 4) (R : Fin 8192) (j : Fin 256) (k : Fin 128) : lidx_main_v12 (ix3 g R j) k = ix3 R g k := by
  funext a
  match a with
  | ⟨0, _⟩ => rfl
  | ⟨1, _⟩ => rfl
  | ⟨2, _⟩ => rfl

theorem at_ridx_main_v12 (g : Fin 4) (R : Fin 8192) (j : Fin 256) (k : Fin 128) : ridx_main_v12 (ix3 g R j) k = ix3 j g k := by
  funext a
  match a with
  | ⟨0, _⟩ => rfl
  | ⟨1, _⟩ => rfl
  | ⟨2, _⟩ => rfl

theorem at_idx_main_v19 (g : Fin 4) (R : Fin 8192) : idx_main_v19 (ix3 g R 0) = ix2 g R := by
  funext a
  match a with
  | ⟨0, _⟩ => rfl
  | ⟨1, _⟩ => rfl

theorem at_idx_main_v24 (g : Fin 4) (R : Fin 8192) : idx_main_v24 (ix3 g R 0) = ix2 g R := by
  funext a
  match a with
  | ⟨0, _⟩ => rfl
  | ⟨1, _⟩ => rfl

theorem at_idx_main_v61 (g : Fin 4) (R : Fin 8192) : idx_main_v61 (ix3 g R 0) = ix2 g R := by
  funext a
  match a with
  | ⟨0, _⟩ => rfl
  | ⟨1, _⟩ => rfl

theorem at_idx_main_v20 (g : Fin 4) (R : Fin 8192) (j : Fin 256) : idx_main_v20 (ix3 g R j) = ix3 g R 0 := by
  funext a
  match a with
  | ⟨0, _⟩ => rfl
  | ⟨1, _⟩ => rfl
  | ⟨2, _⟩ => rfl

theorem at_idx_main_v25 (g : Fin 4) (R : Fin 8192) (j : Fin 256) : idx_main_v25 (ix3 g R j) = ix3 g R 0 := by
  funext a
  match a with
  | ⟨0, _⟩ => rfl
  | ⟨1, _⟩ => rfl
  | ⟨2, _⟩ => rfl

theorem at_idx_main_v80 (g : Fin 4) (R : Fin 8192) (j : Fin 256) : idx_main_v80 (ix3 g R j) = ix3 g R 0 := by
  funext a
  match a with
  | ⟨0, _⟩ => rfl
  | ⟨1, _⟩ => rfl
  | ⟨2, _⟩ => rfl

theorem at_idx_main_v86 (g : Fin 4) (R : Fin 8192) (j : Fin 256) : idx_main_v86 (ix3 g R j) = ix3 g R 0 := by
  funext a
  match a with
  | ⟨0, _⟩ => rfl
  | ⟨1, _⟩ => rfl
  | ⟨2, _⟩ => rfl

theorem at_idx_main_v23 (g : Fin 4) (R : Fin 8192) (k : Fin 256) : idx_main_v23 (ix2 g R) k = ix3 g R k := by
  funext a
  match a with
  | ⟨0, _⟩ => rfl
  | ⟨1, _⟩ => rfl
  | ⟨2, _⟩ => rfl

theorem at_idx_main_v83 (g : Fin 4) (R : Fin 8192) (k : Fin 256) : idx_main_v83 (ix2 g R) k = ix3 g R k := by
  funext a
  match a with
  | ⟨0, _⟩ => rfl
  | ⟨1, _⟩ => rfl
  | ⟨2, _⟩ => rfl

theorem at_idx_main_v84 (g : Fin 4) (R : Fin 8192) : idx_main_v84 (ix3 g R 0) = ix2 g R := by
  funext a
  match a with
  | ⟨0, _⟩ => exact Fin.ext (by show ((g.val * 8192 + R.val) * 1 + 0) / 8192 = g.val; omega)
  | ⟨1, _⟩ => exact Fin.ext (by show ((g.val * 8192 + R.val) * 1 + 0) % 8192 = R.val; omega)

theorem at_idx_main_v88 (g : Fin 4) (R : Fin 8192) (k : Fin 1) : idx_main_v88 (ix2 g R) k = ix3 g R k := by
  funext a
  match a with
  | ⟨0, _⟩ => rfl
  | ⟨1, _⟩ => rfl
  | ⟨2, _⟩ => rfl

theorem at_idx_main_v89 (g : Fin 4) (R : Fin 8192) (j : Fin 256) : idx_main_v89 (ix3 g R j) = ix2 g R := by
  funext a
  match a with
  | ⟨0, _⟩ => rfl
  | ⟨1, _⟩ => rfl

theorem at_lidx_main_v27 (g : Fin 4) (d : Fin 128) (R : Fin 8192) (k : Fin 256) : lidx_main_v27 (ix3 g d R) k = ix3 k g d := by
  funext a
  match a with
  | ⟨0, _⟩ => rfl
  | ⟨1, _⟩ => rfl
  | ⟨2, _⟩ => rfl

theorem at_ridx_main_v27 (g : Fin 4) (d : Fin 128) (R : Fin 8192) (k : Fin 256) : ridx_main_v27 (ix3 g d R) k = ix3 g R k := by
  funext a
  match a with
  | ⟨0, _⟩ => rfl
  | ⟨1, _⟩ => rfl
  | ⟨2, _⟩ => rfl

theorem at_idx_main_v28 (R : Fin 8192) (g : Fin 4) (d : Fin 128) : idx_main_v28 (ix3 R g d) = ix3 g d R := by
  funext a
  match a with
  | ⟨0, _⟩ => rfl
  | ⟨1, _⟩ => rfl
  | ⟨2, _⟩ => rfl

theorem at_idx_main_v29 (R : Fin 8192) (e : Fin 512) : idx_main_v29 (ix2 R e) = ix3 R (hd e) (pl e) := by
  funext a
  match a with
  | ⟨0, _⟩ => exact Fin.ext (by show (R.val * 512 + e.val) / 512 = R.val; omega)
  | ⟨1, _⟩ => exact Fin.ext (by show (R.val * 512 + e.val) / 128 % 4 = e.val / 128; omega)
  | ⟨2, _⟩ => exact Fin.ext (by show (R.val * 512 + e.val) % 128 = e.val % 128; omega)

theorem at_idx_main_v100 (R : Fin 8192) (e : Fin 512) : idx_main_v100 (ix2 R e) = ix3 R (hd e) (pl e) := by
  funext a
  match a with
  | ⟨0, _⟩ => exact Fin.ext (by show (R.val * 512 + e.val) / 512 = R.val; omega)
  | ⟨1, _⟩ => exact Fin.ext (by show (R.val * 512 + e.val) / 128 % 4 = e.val / 128; omega)
  | ⟨2, _⟩ => exact Fin.ext (by show (R.val * 512 + e.val) % 128 = e.val % 128; omega)

theorem at_idx_main_v98 (j : Fin 256) (e : Fin 512) : idx_main_v98 (ix2 j e) = ix3 j (hd e) (pl e) := by
  funext a
  match a with
  | ⟨0, _⟩ => exact Fin.ext (by show (j.val * 512 + e.val) / 512 = j.val; omega)
  | ⟨1, _⟩ => exact Fin.ext (by show (j.val * 512 + e.val) / 128 % 4 = e.val / 128; omega)
  | ⟨2, _⟩ => exact Fin.ext (by show (j.val * 512 + e.val) % 128 = e.val % 128; omega)

theorem at_idx_main_v99 (j : Fin 256) (e : Fin 512) : idx_main_v99 (ix2 j e) = ix3 j (hd e) (pl e) := by
  funext a
  match a with
  | ⟨0, _⟩ => exact Fin.ext (by show (j.val * 512 + e.val) / 512 = j.val; omega)
  | ⟨1, _⟩ => exact Fin.ext (by show (j.val * 512 + e.val) / 128 % 4 = e.val / 128; omega)
  | ⟨2, _⟩ => exact Fin.ext (by show (j.val * 512 + e.val) % 128 = e.val % 128; omega)

theorem at_idx_main_v76 (g : Fin 4) (d : Fin 128) (R : Fin 8192) : idx_main_v76 (ix3 g d R) = ix3 R g d := by
  funext a
  match a with
  | ⟨0, _⟩ => rfl
  | ⟨1, _⟩ => rfl
  | ⟨2, _⟩ => rfl

theorem at_lidx_main_v77 (g : Fin 4) (R : Fin 8192) (j : Fin 256) (k : Fin 128) : lidx_main_v77 (ix3 g R j) k = ix3 g k R := by
  funext a
  match a with
  | ⟨0, _⟩ => rfl
  | ⟨1, _⟩ => rfl
  | ⟨2, _⟩ => rfl

theorem at_ridx_main_v77 (g : Fin 4) (R : Fin 8192) (j : Fin 256) (k : Fin 128) : ridx_main_v77 (ix3 g R j) k = ix3 j g k := by
  funext a
  match a with
  | ⟨0, _⟩ => rfl
  | ⟨1, _⟩ => rfl
  | ⟨2, _⟩ => rfl

theorem at_lidx_main_v78 (g : Fin 4) (d : Fin 128) (j : Fin 256) (k : Fin 8192) : lidx_main_v78 (ix3 g d j) k = ix3 g d k := by
  funext a
  match a with
  | ⟨0, _⟩ => rfl
  | ⟨1, _⟩ => rfl
  | ⟨2, _⟩ => rfl

theorem at_ridx_main_v78 (g : Fin 4) (d : Fin 128) (j : Fin 256) (k : Fin 8192) : ridx_main_v78 (ix3 g d j) k = ix3 g k j := by
  funext a
  match a with
  | ⟨0, _⟩ => rfl
  | ⟨1, _⟩ => rfl
  | ⟨2, _⟩ => rfl

theorem at_idx_main_v79 (j : Fin 256) (g : Fin 4) (d : Fin 128) : idx_main_v79 (ix3 j g d) = ix3 g d j := by
  funext a
  match a with
  | ⟨0, _⟩ => rfl
  | ⟨1, _⟩ => rfl
  | ⟨2, _⟩ => rfl

theorem at_lidx_main_v94 (g : Fin 4) (j : Fin 256) (d : Fin 128) (k : Fin 8192) : lidx_main_v94 (ix3 g j d) k = ix3 g k j := by
  funext a
  match a with
  | ⟨0, _⟩ => rfl
  | ⟨1, _⟩ => rfl
  | ⟨2, _⟩ => rfl

theorem at_ridx_main_v94 (g : Fin 4) (j : Fin 256) (d : Fin 128) (k : Fin 8192) : ridx_main_v94 (ix3 g j d) k = ix3 k g d := by
  funext a
  match a with
  | ⟨0, _⟩ => rfl
  | ⟨1, _⟩ => rfl
  | ⟨2, _⟩ => rfl

theorem at_idx_main_v95 (j : Fin 256) (g : Fin 4) (d : Fin 128) : idx_main_v95 (ix3 j g d) = ix3 g j d := by
  funext a
  match a with
  | ⟨0, _⟩ => rfl
  | ⟨1, _⟩ => rfl
  | ⟨2, _⟩ => rfl

theorem at_lidx_main_v96 (g : Fin 4) (R : Fin 8192) (d : Fin 128) (k : Fin 256) : lidx_main_v96 (ix3 g R d) k = ix3 g R k := by
  funext a
  match a with
  | ⟨0, _⟩ => rfl
  | ⟨1, _⟩ => rfl
  | ⟨2, _⟩ => rfl

theorem at_ridx_main_v96 (g : Fin 4) (R : Fin 8192) (d : Fin 128) (k : Fin 256) : ridx_main_v96 (ix3 g R d) k = ix3 k g d := by
  funext a
  match a with
  | ⟨0, _⟩ => rfl
  | ⟨1, _⟩ => rfl
  | ⟨2, _⟩ => rfl

theorem at_idx_main_v97 (R : Fin 8192) (g : Fin 4) (d : Fin 128) : idx_main_v97 (ix3 R g d) = ix3 g R d := by
  funext a
  match a with
  | ⟨0, _⟩ => rfl
  | ⟨1, _⟩ => rfl
  | ⟨2, _⟩ => rfl

/-! ## The constants -/

theorem lit_one : Ideal.ofBits .f32 0x3F800000#32 = ((1 : ℝ) : EReal) := by rw [Ideal.ofBits_one_f32]; rfl

theorem lit_128 : Ideal.ofBits .f32 0x43000000#32 = ((128 : ℝ) : EReal) := by
  simp [Ideal.ofBits, Ideal.ieee, -EReal.coe_mul]; norm_num

/-- One over the root of 128. -/
theorem scale_val (i : S_.Idx) : val_main_v13 (F := Ideal) i = ((scl : ℝ) : EReal) := by
  rw [val_main_v13_apply, val_main_cst_apply]
  show Ideal.rsqrt (Ideal.ofBits .f32 0x43000000#32) = _
  rw [lit_128]
  rw [Ideal.rsqrt_coe, if_neg (by norm_num), if_neg (by norm_num)]; rfl

/-! ## The forward stages -/

section Stages

variable {x0 : (⟨S8192x7168, .bf16⟩ : BufTy).Contents (Elt Ideal)} {x2 : (⟨S256x1024, .bf16⟩ : BufTy).Contents (Elt Ideal)}
variable {x3 : (⟨S8192x2048, .bf16⟩ : BufTy).Contents (Elt Ideal)}
variable {H : Fin 8192 → Fin 7168 → ℝ} {M : Fin 256 → Fin 1024 → ℝ} {D : Fin 8192 → Fin 2048 → ℝ}
variable (hH : ∀ R C, x0 (ix2 R C) = ((H R C : ℝ) : EReal)) (hM : ∀ j C, x2 (ix2 j C) = ((M j C : ℝ) : EReal))
variable (hD : ∀ R C, x3 (ix2 R C) = ((D R C : ℝ) : EReal))

include hH in
theorem query_val (R : Fin 8192) (g : Fin 4) (d : Fin 128) : val_main_v9 (F := Ideal) x0 (ix3 R g d) = ((headq (qcol H R) g d : ℝ) : EReal) := by
  rw [val_main_v9_apply, at_idx_main_v9, val_main_v3_apply, val_main_v0_apply, at_idx_main_v0]
  exact hH _ _

include hM in
theorem key_val (j : Fin 256) (g : Fin 4) (d : Fin 128) : val_main_v10 (F := Ideal) x2 (ix3 j g d) = ((headk M g j d : ℝ) : EReal) := by
  rw [val_main_v10_apply, at_idx_main_v10, val_main_v7_apply, at_idx_main_v7, val_main_v5_apply]
  exact hM _ _

include hM in
theorem value_val (j : Fin 256) (g : Fin 4) (d : Fin 128) : val_main_v11 (F := Ideal) x2 (ix3 j g d) = ((headv M g j d : ℝ) : EReal) := by
  rw [val_main_v11_apply, at_idx_main_v11, val_main_v8_apply, at_idx_main_v8, val_main_v5_apply]
  exact hM _ _

include hH in
theorem gate_val (R : Fin 8192) (e : Fin 512) : val_main_v4 (F := Ideal) x0 (ix2 R e) = ((zcol H R e : ℝ) : EReal) := by
  rw [val_main_v4_apply, val_main_v1_apply, at_idx_main_v1]
  exact hH _ _

include hD in
theorem upstream_val (R : Fin 8192) (e : Fin 512) : val_main_v6 (F := Ideal) x3 (ix2 R e) = ((ycol D R e : ℝ) : EReal) := by
  rw [val_main_v6_apply, val_main_v2_apply, at_idx_main_v2]
  exact hD _ _

include hH hM in
/-- The scaled scores. -/
theorem score_val (g : Fin 4) (R : Fin 8192) (j : Fin 256) :
    val_main_v15 (F := Ideal) x0 x2 (ix3 g R j) = ((score (headq (qcol H R) g) (headk M g) j * scl : ℝ) : EReal) := by
  rw [val_main_v15_apply, val_main_v12_apply, val_main_v14_apply, scale_val]
  simp only [at_lidx_main_v12, at_ridx_main_v12, query_val hH, key_val hM, ← EReal.coe_mul, coe_sum]
  exact (EReal.coe_mul _ _).symm

include hH hM in
/-- The greatest scaled score of a row is a real. -/
theorem max_val (g : Fin 4) (R : Fin 8192) : ∃ μ : ℝ, val_main_v18 (F := Ideal) x0 x2 (ix2 g R) = (μ : EReal) := by
  obtain ⟨μ, hμ⟩ := fold_max_coe (n := 255) fun j => score (headq (qcol H R) g) (headk M g) j * scl
  refine ⟨μ, ?_⟩
  rw [val_main_v18_apply, val_main_v17_apply, val_main_cst_1_apply]
  have h : val_main_v16 (F := Ideal) x0 x2 (ix2 g R) = (μ : EReal) := by
    have hs := score_val hH hM g R
    unfold val_main_v16
    generalize val_main_v15 (F := Ideal) x0 x2 = y at hs ⊢
    pointwise
    simp only [hs]
    exact hμ
  rw [h]
  show max (Ideal.ofBits .f32 0xFF800000#32) (μ : EReal) = _
  rw [ofBits_bot]; exact max_eq_right bot_le

/-- The greatest scaled score of a row. -/
def top (x0 : (⟨S8192x7168, .bf16⟩ : BufTy).Contents (Elt Ideal)) (x2 : (⟨S256x1024, .bf16⟩ : BufTy).Contents (Elt Ideal)) (g : Fin 4) (R : Fin 8192) : ℝ :=
  (val_main_v18 (F := Ideal) x0 x2 (ix2 g R)).toReal

/-- The exponential of a scaled score less the greatest of its row. -/
def expo (x0 : (⟨S8192x7168, .bf16⟩ : BufTy).Contents (Elt Ideal)) (x2 : (⟨S256x1024, .bf16⟩ : BufTy).Contents (Elt Ideal)) (H : Fin 8192 → Fin 7168 → ℝ) (M : Fin 256 → Fin 1024 → ℝ)
    (g : Fin 4) (R : Fin 8192) (j : Fin 256) : ℝ := Real.exp (score (headq (qcol H R) g) (headk M g) j * scl - top x0 x2 g R)

theorem expo_sum_pos (g : Fin 4) (R : Fin 8192) : 0 < ∑ j, expo x0 x2 H M g R j :=
  Finset.sum_pos (fun _ _ => Real.exp_pos _) Finset.univ_nonempty

theorem expo_prob (g : Fin 4) (R : Fin 8192) (j : Fin 256) :
    expo x0 x2 H M g R j / ∑ k, expo x0 x2 H M g R k = prob (headq (qcol H R) g) (headk M g) j := prob_eq_exp _ _ _ _

include hH hM in
theorem expo_val (g : Fin 4) (R : Fin 8192) (j : Fin 256) : val_main_v22 (F := Ideal) x0 x2 (ix3 g R j) = ((expo x0 x2 H M g R j : ℝ) : EReal) := by
  have ht : val_main_v18 (F := Ideal) x0 x2 (ix2 g R) = ((top x0 x2 g R : ℝ) : EReal) := by
    obtain ⟨μ, hμ⟩ := max_val hH hM g R
    unfold top; rw [hμ]; rfl
  rw [val_main_v22_apply, val_main_v21_apply, score_val hH hM, val_main_v20_apply, at_idx_main_v20, val_main_v19_apply, at_idx_main_v19, ht]
  show Ideal.exp (((_ : ℝ) : EReal) - ((_ : ℝ) : EReal)) = _
  rw [← EReal.coe_sub, Ideal.exp_coe]; rfl

include hH hM in
theorem sum_val (g : Fin 4) (R : Fin 8192) : val_main_v23 (F := Ideal) x0 x2 (ix2 g R) = ((∑ j, expo x0 x2 H M g R j : ℝ) : EReal) := by
  rw [val_main_v23_apply, val_main_cst_2_apply]
  simp only [at_idx_main_v23, expo_val hH hM, coe_sum]
  show Ideal.ofBits .f32 0x00000000#32 + _ = _
  rw [Ideal.ofBits_zero_f32, zero_add]

include hH hM in
/-- The weights. -/
theorem prob_val (g : Fin 4) (R : Fin 8192) (j : Fin 256) :
    val_main_v26 (F := Ideal) x0 x2 (ix3 g R j) = ((prob (headq (qcol H R) g) (headk M g) j : ℝ) : EReal) := by
  rw [val_main_v26_apply, expo_val hH hM, val_main_v25_apply, at_idx_main_v25, val_main_v24_apply, at_idx_main_v24, sum_val hH hM]
  exact (div_coe_coe (expo_sum_pos g R).ne').trans (by rw [expo_prob])

include hH hM in
/-- The attention's result. -/
theorem mix_val (R : Fin 8192) (e : Fin 512) : val_main_v29 (F := Ideal) x0 x2 (ix2 R e) = ((rowMix (qcol H R) M e : ℝ) : EReal) := by
  rw [val_main_v29_apply, at_idx_main_v29, val_main_v28_apply, at_idx_main_v28, val_main_v27_apply]
  simp only [at_lidx_main_v27, at_ridx_main_v27, value_val hM, prob_val hH hM, ← EReal.coe_mul, coe_sum]
  unfold rowMix mix
  simp only [mul_comm]

/-! ## The gate -/

include hH in
theorem sigma_val (R : Fin 8192) (e : Fin 512) : val_main_v70_2 (F := Ideal) x0 (ix2 R e) = ((sgm (zcol H R e) : ℝ) : EReal) := by
  rw [val_main_v70_2_apply, val_main_call0_v4_apply, val_main_call0_cst_0_apply, val_main_call0_v3_apply, val_main_call0_v2_apply,
    val_main_call0_cst_apply, val_main_call0_v1_apply, val_main_call0_v0_apply, gate_val hH]
  show Ideal.div (Ideal.ofBits .f32 0x3F800000#32) (Ideal.ofBits .f32 0x3F800000#32 + Ideal.exp (-((zcol H R e : ℝ) : EReal))) = _
  rw [lit_one, ← EReal.coe_neg, Ideal.exp_coe, ← EReal.coe_add, div_coe_coe (one_add_exp_pos _).ne', one_div]; rfl

include hH in
theorem silu_val (R : Fin 8192) (e : Fin 512) : val_main_v70_0 (F := Ideal) x0 (ix2 R e) = ((silu (zcol H R e) : ℝ) : EReal) := by
  rw [val_main_v70_0_apply, gate_val hH, sigma_val hH]
  exact (EReal.coe_mul _ _).symm

include hH in
theorem dsig_val (R : Fin 8192) (e : Fin 512) :
    val_main_v70_1 (F := Ideal) x0 (ix2 R e) = ((sgm (zcol H R e) * (1 - sgm (zcol H R e)) : ℝ) : EReal) := by
  rw [val_main_v70_1_apply, val_main_call0_v7_apply, val_main_call0_v6_apply, val_main_call0_cst_1_apply, sigma_val hH]
  show ((_ : ℝ) : EReal) * (Ideal.ofBits .f32 0x3F800000#32 - ((_ : ℝ) : EReal)) = _
  rw [lit_one, ← EReal.coe_sub, ← EReal.coe_mul]

include hH hM hD in
/-- The gate's derivative. -/
theorem dz_val (R : Fin 8192) (e : Fin 512) :
    val_main_v74 (F := Ideal) x0 x2 x3 (ix2 R e) = ((rowDz (qcol H R) (zcol H R) (ycol D R) M e : ℝ) : EReal) := by
  have hy : val_main_v72 (F := Ideal) x0 x2 x3 (ix2 R e) = ((rowMix (qcol H R) M e * ycol D R e : ℝ) : EReal) := by
    rw [val_main_v72_apply, upstream_val hD]
    have h : val_main_v69 (F := Ideal) x0 x2 = val_main_v29 (F := Ideal) x0 x2 := rfl
    rw [h, mix_val hH hM]; exact (EReal.coe_mul _ _).symm
  rw [val_main_v74_apply, val_main_call1_v1_apply, val_main_call1_v2_apply, val_main_call1_v0_apply, hy, gate_val hH, sigma_val hH, dsig_val hH]
  show ((_ : ℝ) : EReal) * ((_ : ℝ) : EReal) + ((_ : ℝ) : EReal) * ((_ : ℝ) : EReal) * ((_ : ℝ) : EReal) = _
  simp only [← EReal.coe_mul, ← EReal.coe_add]
  unfold rowDz dsilu
  congr 1; ring

include hH hD in
/-- What reaches the attention's result. -/
theorem up_val (R : Fin 8192) (e : Fin 512) : val_main_v73 (F := Ideal) x0 x3 (ix2 R e) = ((up (zcol H R) (ycol D R) e : ℝ) : EReal) := by
  rw [val_main_v73_apply, upstream_val hD, silu_val hH]
  exact (EReal.coe_mul _ _).symm

include hH hD in
theorem up_head_val (g : Fin 4) (d : Fin 128) (R : Fin 8192) :
    val_main_v76 (F := Ideal) x0 x3 (ix3 g d R) = ((headq (up (zcol H R) (ycol D R)) g d : ℝ) : EReal) := by
  rw [val_main_v76_apply, at_idx_main_v76, val_main_v75_apply, at_idx_main_v75]
  exact up_val hH hD _ _

/-! ## The backward stages -/

theorem saved_expo : val_main_v59 (F := Ideal) x0 x2 = val_main_v22 (F := Ideal) x0 x2 := rfl

theorem saved_sum : val_main_v60 (F := Ideal) x0 x2 = val_main_v23 (F := Ideal) x0 x2 := rfl

theorem saved_prob : val_main_v63 (F := Ideal) x0 x2 = val_main_v26 (F := Ideal) x0 x2 := rfl

include hH hM hD in
theorem dprob_val (g : Fin 4) (R : Fin 8192) (j : Fin 256) :
    val_main_v77 (F := Ideal) x0 x2 x3 (ix3 g R j) = ((dprob (headv M g) (headq (up (zcol H R) (ycol D R)) g) j : ℝ) : EReal) := by
  rw [val_main_v77_apply]
  have h : val_main_v34 (F := Ideal) x2 = val_main_v11 (F := Ideal) x2 := rfl
  simp only [h, at_lidx_main_v77, at_ridx_main_v77, up_head_val hH hD, value_val hM, ← EReal.coe_mul, coe_sum]
  rfl

include hH hM in
theorem inv_val (g : Fin 4) (R : Fin 8192) : val_main_v66 (F := Ideal) x0 x2 (ix3 g R 0)
    = ((1 / ((∑ j, expo x0 x2 H M g R j) * ∑ j, expo x0 x2 H M g R j) : ℝ) : EReal) := by
  rw [val_main_v66_apply, val_main_v65_apply, val_main_cst_13_apply, val_main_v64_apply, val_main_v61_apply, at_idx_main_v61, saved_sum,
    sum_val hH hM]
  show Ideal.div (Ideal.ofBits .f32 0x3F800000#32) (((_ : ℝ) : EReal) * ((_ : ℝ) : EReal)) = _
  rw [lit_one, ← EReal.coe_mul, div_coe_coe (mul_pos (expo_sum_pos g R) (expo_sum_pos g R)).ne']

include hH hM hD in
theorem dot_val (g : Fin 4) (R : Fin 8192) : val_main_v88 (F := Ideal) x0 x2 x3 (ix2 g R)
    = ((-∑ j, dprob (headv M g) (headq (up (zcol H R) (ycol D R)) g) j
        * (1 / ((∑ j, expo x0 x2 H M g R j) * ∑ j, expo x0 x2 H M g R j)) * expo x0 x2 H M g R j : ℝ) : EReal) := by
  have h82 : ∀ j, val_main_v82 (F := Ideal) x0 x2 x3 (ix3 g R j) = ((dprob (headv M g) (headq (up (zcol H R) (ycol D R)) g) j
        * (1 / ((∑ j, expo x0 x2 H M g R j) * ∑ j, expo x0 x2 H M g R j)) * expo x0 x2 H M g R j : ℝ) : EReal) := fun j => by
    rw [val_main_v82_apply, val_main_v81_apply, dprob_val hH hM hD, val_main_v80_apply, at_idx_main_v80, inv_val hH hM, saved_expo,
      expo_val hH hM]
    show ((_ : ℝ) : EReal) * ((_ : ℝ) : EReal) * ((_ : ℝ) : EReal) = _
    simp only [← EReal.coe_mul]
  rw [val_main_v88_apply, val_main_cst_15_apply, Fin.sum_univ_one, at_idx_main_v88, val_main_v85_apply, val_main_v84_apply, at_idx_main_v84,
    val_main_v83_apply, val_main_cst_14_apply]
  simp only [at_idx_main_v83, h82, coe_sum]
  show Ideal.ofBits .f32 0x00000000#32 + -(Ideal.ofBits .f32 0x00000000#32 + ((_ : ℝ) : EReal)) = _
  rw [Ideal.ofBits_zero_f32, zero_add, zero_add, ← EReal.coe_neg]

include hH hM hD in
/-- The derivative with respect to the raw scores. -/
theorem dscore_val (g : Fin 4) (R : Fin 8192) (j : Fin 256) : val_main_v93 (F := Ideal) x0 x2 x3 (ix3 g R j)
    = ((dscore (headq (qcol H R) g) (headk M g) (headv M g) (headq (up (zcol H R) (ycol D R)) g) j * scl : ℝ) : EReal) := by
  rw [val_main_v93_apply, val_main_v91_apply, val_main_v90_apply, val_main_v87_apply, dprob_val hH hM hD, val_main_v86_apply,
    at_idx_main_v86, val_main_v61_apply, at_idx_main_v61, saved_sum, sum_val hH hM, val_main_v89_apply, at_idx_main_v89,
    dot_val hH hM hD, saved_expo, expo_val hH hM, val_main_v92_apply]
  have h : val_main_v36 (F := Ideal) = val_main_v13 (F := Ideal) := rfl
  rw [h, scale_val]
  show (Ideal.div ((_ : ℝ) : EReal) ((_ : ℝ) : EReal) + ((_ : ℝ) : EReal)) * ((_ : ℝ) : EReal) * ((_ : ℝ) : EReal) = _
  have hS := (expo_sum_pos (x0 := x0) (x2 := x2) (H := H) (M := M) g R).ne'
  rw [div_coe_coe hS]
  simp only [← EReal.coe_mul, ← EReal.coe_add]
  congr 2
  unfold dscore
  simp only [← expo_prob (x0 := x0) (x2 := x2)]
  generalize (∑ j, expo x0 x2 H M g R j) = S at hS
  have hk : ∀ k, expo x0 x2 H M g R k / S * dprob (headv M g) (headq (up (zcol H R) (ycol D R)) g) k
      = S * (dprob (headv M g) (headq (up (zcol H R) (ycol D R)) g) k * (1 / (S * S)) * expo x0 x2 H M g R k) := fun k => by field_simp
  simp only [hk, ← Finset.mul_sum]
  field_simp
  ring

include hH hM hD in
/-- The query's derivative. -/
theorem dq_val (R : Fin 8192) (e : Fin 512) :
    val_main_v100 (F := Ideal) x0 x2 x3 (ix2 R e) = ((rowDq (qcol H R) (zcol H R) (ycol D R) M e : ℝ) : EReal) := by
  rw [val_main_v100_apply, at_idx_main_v100, val_main_v97_apply, at_idx_main_v97, val_main_v96_apply]
  have h : val_main_v33 (F := Ideal) x2 = val_main_v10 (F := Ideal) x2 := rfl
  simp only [h, at_lidx_main_v96, at_ridx_main_v96, dscore_val hH hM hD, key_val hM, ← EReal.coe_mul, coe_sum]
  unfold rowDq dquery
  rw [Finset.sum_mul]
  simp only [mul_right_comm]

include hH hM hD in
/-- The keys' half of the memory's derivative. -/
theorem dk_val (j : Fin 256) (e : Fin 512) : val_main_v99 (F := Ideal) x0 x2 x3 (ix2 j e)
    = (((∑ R, rowDk (qcol H R) (zcol H R) (ycol D R) M j e) * scl : ℝ) : EReal) := by
  rw [val_main_v99_apply, at_idx_main_v99, val_main_v95_apply, at_idx_main_v95, val_main_v94_apply]
  have h : val_main_v32 (F := Ideal) x0 = val_main_v9 (F := Ideal) x0 := rfl
  simp only [h, at_lidx_main_v94, at_ridx_main_v94, dscore_val hH hM hD, query_val hH, ← EReal.coe_mul, coe_sum]
  unfold rowDk
  rw [Finset.sum_mul]
  simp only [mul_right_comm]

include hH hM hD in
/-- The values' half of the memory's derivative. -/
theorem dv_val (j : Fin 256) (e : Fin 512) : val_main_v98 (F := Ideal) x0 x2 x3 (ix2 j e)
    = ((∑ R, rowDv (qcol H R) (zcol H R) (ycol D R) M j e : ℝ) : EReal) := by
  rw [val_main_v98_apply, at_idx_main_v98, val_main_v79_apply, at_idx_main_v79, val_main_v78_apply]
  simp only [saved_prob, at_lidx_main_v78, at_ridx_main_v78, prob_val hH hM, up_head_val hH hD, ← EReal.coe_mul, coe_sum]
  unfold rowDv
  simp only [mul_comm]

/-! ## The three results -/

include hH hM in
theorem result_mix (x1 : (⟨S8192x2048, .bf16⟩ : BufTy).Contents (Elt Ideal)) : val_main_v104 (F := Ideal) x0 x1 x2 = mixArr x1 H M := by
  funext i
  obtain ⟨R, C, rfl⟩ : ∃ R C, i = ix2 R C := ⟨_, _, eq_ix2 i⟩
  unfold val_main_v104
  by_cases h : 1536 ≤ C.val
  · rw [concatenate_pair_apply_right (s₁ := S8192x1536) (s₂ := S8192x512) 1 _ _ _ (ix2 R C) rfl rfl (ix2 R ⟨C.val - 1536, by omega⟩)
      (fun b hb => by match b with | ⟨0, _⟩ => rfl | ⟨1, _⟩ => exact absurd rfl hb) (by show C.val - 1536 + 1536 = C.val; omega)]
    have hr : mixArr x1 H M (ix2 R C) = ((rowMix (qcol H R) M ⟨C.val - 1536, by omega⟩ : ℝ) : EReal) := dif_pos h
    rw [hr]
    exact mix_val hH hM R _
  · rw [concatenate_pair_apply_left (s₁ := S8192x1536) (s₂ := S8192x512) 1 _ _ _ (ix2 R C) rfl (ix2 R ⟨C.val, by omega⟩)
      (fun b => by match b with | ⟨0, _⟩ => rfl | ⟨1, _⟩ => rfl), val_main_v102_apply, mixArr_out x1 H M _ h]
    exact congrArg x1 (funext fun a => match a with | ⟨0, _⟩ => rfl | ⟨1, _⟩ => rfl)

include hH hM hD in
theorem result_grad : val_main_v101 (F := Ideal) x0 x2 x3 = gradArr H D M := by
  funext i
  obtain ⟨j, C, rfl⟩ : ∃ j C, i = ix2 j C := ⟨_, _, eq_ix2 i⟩
  have hr : gradArr H D M (ix2 j C) = ((memGrad (qcol H) (zcol H) (ycol D) M j C : ℝ) : EReal) := rfl
  unfold val_main_v101
  by_cases h : C.val < 512
  · rw [concatenate_pair_apply_left (s₁ := S256x512) (s₂ := S256x512) 1 _ _ _ (ix2 j C) rfl (ix2 j ⟨C.val, h⟩)
      (fun b => by match b with | ⟨0, _⟩ => rfl | ⟨1, _⟩ => rfl), dk_val hH hM hD, hr]
    unfold memGrad
    rw [dif_pos h]
  · rw [concatenate_pair_apply_right (s₁ := S256x512) (s₂ := S256x512) 1 _ _ _ (ix2 j C) rfl rfl (ix2 j ⟨C.val - 512, by omega⟩)
      (fun b hb => by match b with | ⟨0, _⟩ => rfl | ⟨1, _⟩ => exact absurd rfl hb) (by show C.val - 512 + 512 = C.val; omega),
      dv_val hH hM hD, hr]
    unfold memGrad
    rw [dif_neg h]

include hH hM hD in
theorem result_dh (x4 : (⟨S8192x7168, .bf16⟩ : BufTy).Contents (Elt Ideal)) : val_main_v108 (F := Ideal) x0 x2 x3 x4 = dhArr x4 H D M := by
  funext i
  obtain ⟨R, C, rfl⟩ : ∃ R C, i = ix2 R C := ⟨_, _, eq_ix2 i⟩
  unfold val_main_v108
  by_cases h : 6144 ≤ C.val
  · have hr : dhArr x4 H D M (ix2 R C) = ((rowDh (qcol H R) (zcol H R) (ycol D R) M ⟨C.val - 6144, by omega⟩ : ℝ) : EReal) := dif_pos h
    rw [hr]
    unfold rowDh
    by_cases h2 : C.val - 6144 < 512
    · rw [concatenate_apply_piece 1 _ _ (ix2 R C) 1 (by show 1 < 3; omega) S8192x512 (val_main_v106 (F := Ideal) x0 x2 x3) rfl rfl 6144 rfl
        (ix2 R ⟨C.val - 6144, h2⟩) (Fin.forall_fin_two.mpr ⟨fun _ => rfl, fun hb => absurd rfl hb⟩)
        (by show 6144 + (C.val - 6144) = C.val; omega)]
      rw [dif_pos h2]
      exact dq_val hH hM hD R _
    · rw [concatenate_apply_piece 1 _ _ (ix2 R C) 2 (by show 2 < 3; omega) S8192x512 (val_main_v107 (F := Ideal) x0 x2 x3) rfl rfl 6656 rfl
        (ix2 R ⟨C.val - 6144 - 512, by omega⟩) (Fin.forall_fin_two.mpr ⟨fun _ => rfl, fun hb => absurd rfl hb⟩)
        (by show 6656 + (C.val - 6144 - 512) = C.val; omega)]
      rw [dif_neg h2]
      exact dz_val hH hM hD R _
  · rw [concatenate_apply_piece 1 _ _ (ix2 R C) 0 (by show 0 < 3; omega) S8192x6144 (val_main_v105 (F := Ideal) x4) rfl rfl 0 rfl
      (ix2 R ⟨C.val, by omega⟩) (Fin.forall_fin_two.mpr ⟨fun _ => rfl, fun hb => absurd rfl hb⟩)
      (by show 0 + C.val = C.val; omega), val_main_v105_apply, dhArr_out x4 _ h]
    exact congrArg x4 (funext fun a => match a with | ⟨0, _⟩ => rfl | ⟨1, _⟩ => rfl)

end Stages

end Cert.Mem

end
-- ==== Proof.MemFinite.lean ====
/-
  The precondition read: every entry of the projection, the memory and the upstream derivative is a real number.
-/
module

public import proofs.«01_k».proof.Proof.Gen.Pre_finite
public import Idealize.ShloMosaic.Lib.ReduceAll
public import Idealize.ShloMosaic.Lib.IdealHost
public import Idealize.ShloMosaic.Lib.Pointwise

@[expose] public section

set_option maxRecDepth 16384

noncomputable section

namespace Cert.Mem

open Idealize.ShloMosaic Cert.Pre_finite Cert.Pre_finite.Facts

theorem ofBits_top : Ideal.ofBits .f32 0x7F800000#32 = (⊤ : EReal) := by simp [Ideal.ofBits, Ideal.ieee]

theorem scalar_and (a b : BitVec 1) (h : IntOp.andi a b = 1#1) : a = 1#1 ∧ b = 1#1 := by
  unfold IntOp.andi at h
  revert h; revert a b; decide

/-- A magnitude below infinity is a real number's. -/
theorem real_of_lt_top (x : EReal) (h : Ideal.cmp .olt (max x (-x)) (⊤ : EReal) = 1#1) : x = ((x.toReal : ℝ) : EReal) := by
  have hlt : max x (-x) < ⊤ := by
    by_contra hc
    unfold Ideal.cmp at h
    simp only [hc] at h
    revert h; decide
  have h1 : x ≠ ⊤ := fun e => by rw [e] at hlt; exact absurd (le_max_left _ _) (not_le.mpr hlt)
  have h2 : x ≠ ⊥ := fun e => by rw [e] at hlt; exact absurd (le_max_right (⊥ : EReal) (-⊥)) (not_le.mpr (by simpa using hlt))
  exact (EReal.coe_toReal h1 h2).symm

instance : Subsingleton S_.Idx := ⟨fun a b => funext fun i => i.elim0⟩

section Read

variable [Cert.Pre_finite.Facts]
variable (x0 : FVec Ideal S8192x7168 .bf16) (x1 : FVec Ideal S8192x2048 .bf16) (x2 : FVec Ideal S256x1024 .bf16)
variable (x3 : FVec Ideal S8192x2048 .bf16) (x4 : FVec Ideal S8192x7168 .bf16)

/-- What the precondition says, entry by entry. -/
theorem finite_of_pre (h : Cert.Pre_finite.fn (F := Ideal) x0 x1 x2 x3 x4 = fun _ => 1#1) :
    (∀ R C, x0 (ix2 R C) = (((x0 (ix2 R C) : EReal).toReal : ℝ) : EReal)) ∧ (∀ R C, x2 (ix2 R C) = (((x2 (ix2 R C) : EReal).toReal : ℝ) : EReal))
      ∧ (∀ R C, x3 (ix2 R C) = (((x3 (ix2 R C) : EReal).toReal : ℝ) : EReal)) := by
  have h0 := congrFun h (Shape.Idx.first h_S_)
  unfold Cert.Pre_finite.fn at h0
  obtain ⟨h01, h3⟩ := scalar_and _ _ h0
  obtain ⟨h1, h2⟩ := scalar_and _ _ h01
  refine ⟨fun R C => ?_, fun R C => ?_, fun R C => ?_⟩
  · have e := Host.reduce_andi_all _ _ _ _ _ h1 (ix2 R C)
    refine real_of_lt_top _ (Eq.trans ?_ e)
    rw [← ofBits_top]; rfl
  · have e := Host.reduce_andi_all _ _ _ _ _ h2 (ix2 R C)
    refine real_of_lt_top _ (Eq.trans ?_ e)
    rw [← ofBits_top]; rfl
  · have e := Host.reduce_andi_all _ _ _ _ _ h3 (ix2 R C)
    refine real_of_lt_top _ (Eq.trans ?_ e)
    rw [← ofBits_top]; rfl

end Read

end Cert.Mem

end
-- ==== Proof.NormMath.lean ====
/-
  The layer norm's backward pass over the real numbers, one row at a time: what the call computes from the normalised row,
  and the derivative as it comes out of differentiating mean, variance and reciprocal root one by one. Nothing here mentions
  a program.
-/
module

public import proofs.«01_k».proof.Proof.RealMath

@[expose] public section

noncomputable section

namespace Cert.Norm

open Idealize.ShloMosaic Cert.Mem

/-- The mean of a row. -/
def mean (f : Fin 2048 → ℝ) : ℝ := (∑ k, f k) / 2048

/-- The layer norm's small constant, the float word's rational. -/
def eps : ℝ := 10995116 / 1099511627776

/-- The residual's scale, the float word's rational. -/
def alpha : ℝ := 14107901 / 8388608

/-- A row less its mean. -/
def cen (u : Fin 2048 → ℝ) (j : Fin 2048) : ℝ := u j - mean u

/-- A row's variance and the small constant. -/
def vrn (u : Fin 2048 → ℝ) : ℝ := mean (fun k => cen u k * cen u k) + eps

/-- One over the root of that. -/
def rs (u : Fin 2048 → ℝ) : ℝ := (Real.sqrt (vrn u))⁻¹

/-- The normalised row. -/
def xhat (u : Fin 2048 → ℝ) (j : Fin 2048) : ℝ := cen u j * rs u

/-- The derivative of the row, from the normalised row `x`, the reciprocal root `r`, the scale `l` and the upstream
    derivative `g`. -/
def rowDu (g l x : Fin 2048 → ℝ) (r : ℝ) (j : Fin 2048) : ℝ :=
  r * (g j * l j - mean (fun k => g k * l k) - x j * mean (fun k => g k * l k * x k))

theorem eps_pos : 0 < eps := by unfold eps; norm_num

theorem vrn_pos (u : Fin 2048 → ℝ) : 0 < vrn u := by
  have : 0 ≤ ∑ k, cen u k * cen u k := Finset.sum_nonneg fun k _ => mul_self_nonneg _
  have := eps_pos
  unfold vrn mean
  positivity

theorem sum_cen (u : Fin 2048 → ℝ) : ∑ k, cen u k = 0 := by
  unfold cen mean
  rw [Finset.sum_sub_distrib, Finset.sum_const, Finset.card_univ, Fintype.card_fin, nsmul_eq_mul]
  push_cast
  ring

/-- The reciprocal root over the variance is its cube. -/
theorem rs_div (u : Fin 2048 → ℝ) : rs u / vrn u = rs u * (rs u * rs u) := by
  have h : rs u * rs u = (vrn u)⁻¹ := by
    unfold rs; rw [← mul_inv, Real.mul_self_sqrt (vrn_pos u).le]
  rw [h, div_eq_mul_inv]

/-- What the chain rule's variance branch hands to each entry's square. -/
def vbr (g l u : Fin 2048 → ℝ) : ℝ := (∑ k, cen u k * (g k * l k)) * (-(1 / 2) * (rs u / vrn u)) / 2048

/-- Differentiating mean, variance and reciprocal root one by one gives the same row. -/
theorem chain_du (g l u : Fin 2048 → ℝ) (j : Fin 2048) :
    g j * l j * rs u + vbr g l u * (2 * cen u j)
      + (∑ k, -(g k * l k * rs u) + ∑ k, -(vbr g l u * (2 * cen u k))) / 2048
      = rowDu g l (xhat u) (rs u) j := by
  have h2 : ∑ k, -(vbr g l u * (2 * cen u k)) = 0 := by
    rw [Finset.sum_neg_distrib, ← Finset.mul_sum, ← Finset.mul_sum, sum_cen]; ring
  have h1 : ∑ k, -(g k * l k * rs u) = -((∑ k, g k * l k) * rs u) := by
    rw [Finset.sum_neg_distrib, Finset.sum_mul]
  have h3 : ∑ k, g k * l k * xhat u k = (∑ k, cen u k * (g k * l k)) * rs u := by
    rw [Finset.sum_mul]
    exact Finset.sum_congr rfl fun k _ => by unfold xhat; ring
  rw [h1, h2]
  unfold rowDu vbr
  rw [rs_div]
  unfold mean
  rw [h3]
  unfold xhat
  ring

/-! ## The float words -/

theorem lit_2048 : Ideal.ofBits .f32 0x45000000#32 = ((2048 : ℝ) : EReal) := by
  simp [Ideal.ofBits, Ideal.ieee, -EReal.coe_mul]; norm_num

theorem lit_eps : Ideal.ofBits .f32 0x3727C5AC#32 = ((eps : ℝ) : EReal) := by
  unfold eps
  simp [Ideal.ofBits, Ideal.ieee, -EReal.coe_mul]; norm_num

theorem lit_alpha : Ideal.ofBits .f32 0x3FD744FD#32 = ((alpha : ℝ) : EReal) := by
  unfold alpha
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_half : Ideal.ofBits .f32 0xBF000000#32 = ((-(1 / 2) : ℝ) : EReal) := by
  simp [Ideal.ofBits, Ideal.ieee, -EReal.coe_mul]; norm_num

theorem sum_div_2048 (f : Fin 2048 → ℝ) : Ideal.div ((∑ k, f k : ℝ) : EReal) ((2048 : ℝ) : EReal) = ((mean f : ℝ) : EReal) :=
  div_coe_coe (by norm_num)

theorem rsqrt_vrn (u : Fin 2048 → ℝ) : Ideal.rsqrt ((vrn u : ℝ) : EReal) = ((rs u : ℝ) : EReal) := by
  rw [Ideal.rsqrt_coe, if_neg (not_lt.mpr (vrn_pos u).le), if_neg (vrn_pos u).ne']; rfl

end Cert.Norm

end
-- ==== Proof.NormBlock.lean ====
/-
  What one grid point of the layer norm's backward call computes, read at an index, when its blocks are arrays of real
  numbers.
-/
module

public import proofs.«01_k».proof.Proof.NormMath
public import proofs.«01_k».proof.Proof.Gen.Kernel2Ideal.Skeleton

@[expose] public section

set_option maxRecDepth 16384

noncomputable section

namespace Cert.Norm

open Idealize.ShloMosaic Cert.Mem Cert.Kernel2Ideal Cert.Kernel2Ideal.Gen

variable {g x y : Fin 256 → Fin 2048 → ℝ} {r : Fin 256 → ℝ} {l : Fin 2048 → ℝ} {w : Fin 2048 → Fin 2048 → ℝ}
variable {G X : Vec Ideal S256x2048 .f32} {R : Vec Ideal S256x1 .f32} {L : Vec Ideal S1x2048 .f32}
variable {W : Vec Ideal S2048x2048 .bf16} {Y : Vec Ideal S256x2048 .bf16}

section Du

variable (hG : ∀ i j, G (ix2 i j) = ((g i j : ℝ) : EReal)) (hX : ∀ i j, X (ix2 i j) = ((x i j : ℝ) : EReal))
variable (hR : ∀ i, R (ix2 i 0) = ((r i : ℝ) : EReal)) (hL : ∀ j, L (ix2 0 j) = ((l j : ℝ) : EReal))
include hG hX hR hL

/-- The rows' derivatives. -/
theorem du_apply (i : Fin 256) (j : Fin 2048) :
    k0_pay1 (F := Ideal) (k0_pay17 X) (k0_pay21 R) (k0_pay22 G L) (k0_pay23 G X L) (ix2 i j)
      = ((rowDu (g i) l (x i) (r i) j : ℝ) : EReal) := by
  unfold k0_pay1 k0_pay22 k0_pay23 k0_pay21 k0_pay20 k0_pay17
  pointwise
  simp only [hG, hX, hR, hL, lit_2048, ← EReal.coe_mul, coe_sum, sum_div_2048, ← EReal.coe_sub]
  rfl

/-- The derivatives of the rows the projection took. -/
theorem dy_apply (hW : ∀ i j, W (ix2 i j) = ((w i j : ℝ) : EReal)) (i : Fin 256) (j : Fin 2048) :
    k0_pay3 (F := Ideal) (k0_pay17 X) (k0_pay21 R) (k0_pay22 G L) (k0_pay23 G X L) W (ix2 i j)
      = ((∑ k, rowDu (g i) l (x i) (r i) k * w j k : ℝ) : EReal) := by
  unfold k0_pay3 k0_pay2
  have h := du_apply hG hX hR hL
  generalize k0_pay1 (F := Ideal) (k0_pay17 X) (k0_pay21 R) (k0_pay22 G L) (k0_pay23 G X L) = U at h ⊢
  pointwise
  simp only [h, hW, ← EReal.coe_mul, coe_sum]

/-- What the rows add to the projection's derivative. -/
theorem dw_apply (hY : ∀ i j, Y (ix2 i j) = ((y i j : ℝ) : EReal)) (A : Vec Ideal S2048x2048 .f32) (i j : Fin 2048) :
    k0_pay4 (F := Ideal) (k0_pay17 X) (k0_pay21 R) (k0_pay22 G L) (k0_pay23 G X L) A Y (ix2 i j)
      = A (ix2 i j) + ((∑ k, y k i * rowDu (g k) l (x k) (r k) j : ℝ) : EReal) := by
  unfold k0_pay4 k0_pay2
  have h := du_apply hG hX hR hL
  generalize k0_pay1 (F := Ideal) (k0_pay17 X) (k0_pay21 R) (k0_pay22 G L) (k0_pay23 G X L) = U at h ⊢
  pointwise
  simp only [h, hY, ← EReal.coe_mul, coe_sum]

end Du

/-- What the rows add to the scale's derivative. -/
theorem dg_apply (hG : ∀ i j, G (ix2 i j) = ((g i j : ℝ) : EReal)) (hX : ∀ i j, X (ix2 i j) = ((x i j : ℝ) : EReal))
    (A : Vec Ideal S1x2048 .f32) (j : Fin 2048) :
    k0_pay18 (F := Ideal) G X A (ix2 0 j) = A (ix2 0 j) + ((∑ i, g i j * x i j : ℝ) : EReal) := by
  unfold k0_pay18 k0_pay17
  pointwise
  simp only [hG, hX, ← EReal.coe_mul, coe_sum]

/-- What the rows add to the shift's derivative. -/
theorem db_apply (hG : ∀ i j, G (ix2 i j) = ((g i j : ℝ) : EReal)) (A : Vec Ideal S1x2048 .f32) (j : Fin 2048) :
    k0_pay19 (F := Ideal) G A (ix2 0 j) = A (ix2 0 j) + ((∑ i, g i j : ℝ) : EReal) := by
  unfold k0_pay19
  pointwise
  simp only [hG, coe_sum]

theorem zero_row (j : Fin 2048) : k0_pay14 (F := Ideal) (ix2 0 j) = 0 := by unfold k0_pay14; pointwise
theorem zero_row' (j : Fin 2048) : k0_pay15 (F := Ideal) (ix2 0 j) = 0 := by unfold k0_pay15; pointwise
theorem zero_square (i j : Fin 2048) : k0_pay16 (F := Ideal) (ix2 i j) = 0 := by unfold k0_pay16; pointwise

end Cert.Norm

end
-- ==== Proof.NormPoint.lean ====
/-
  What one grid point of the layer norm's backward call leaves in each output's buffer and in the carried accumulator.
-/
module

public import proofs.«01_k».proof.Proof.NormBlock
public import proofs.«01_k».proof.Proof.Gen.Kernel2Ideal.Value
public import Idealize.ShloMosaic.Lib.Pipeline.ReadBack
public import Idealize.ShloMosaic.Lib.Pipeline.ValueKit.Tiles

@[expose] public section

set_option maxRecDepth 16384

noncomputable section

namespace Cert.Norm

open Idealize.ShloMosaic Idealize.ShloMosaic.TcCoe Cert.Mem Cert.Kernel2Ideal Cert.Kernel2Ideal.Gen

variable (m : (ℓ : Loc nD τ sig) → Buf (Elt Ideal) ℓ) (c : Dev nD)

/-- The point's rows of derivatives, as the body computes them. -/
def rawDu (t : Fin cfg0.N) : Vec Ideal S256x2048 .f32 :=
  k0_pay1 (F := Ideal) (k0_pay17 (iblk m c 1 t)) (k0_pay21 (iblk m c 2 t)) (k0_pay22 (iblk m c 0 t) (iblk m c 3 t))
    (k0_pay23 (iblk m c 0 t) (iblk m c 1 t) (iblk m c 3 t))

/-- The point's rows of derivatives through the projection. -/
def rawDy (t : Fin cfg0.N) : Vec Ideal S256x2048 .bf16 :=
  k0_pay3 (F := Ideal) (k0_pay17 (iblk m c 1 t)) (k0_pay21 (iblk m c 2 t)) (k0_pay22 (iblk m c 0 t) (iblk m c 3 t))
    (k0_pay23 (iblk m c 0 t) (iblk m c 1 t) (iblk m c 3 t)) (iblk m c 4 t)

/-- The projection's derivative with the point's rows added. -/
def rawDw (t : Fin cfg0.N) (A : Vec Ideal S2048x2048 .f32) : Vec Ideal S2048x2048 .f32 :=
  k0_pay4 (F := Ideal) (k0_pay17 (iblk m c 1 t)) (k0_pay21 (iblk m c 2 t)) (k0_pay22 (iblk m c 0 t) (iblk m c 3 t))
    (k0_pay23 (iblk m c 0 t) (iblk m c 1 t) (iblk m c 3 t)) A (iblk m c 5 t)

variable (t : Fin cfg0.N)

/-- The buffer of the derivatives through the projection. -/
theorem point_dy : (outsAt0 m c t.val t.isLt).1 = rawDy m c t := by
  have hN : t.val < 32 := lt_of_lt_of_eq t.isLt N_0
  by_cases h0 : t.val % 32 = 0
  · rw [outsAt0_A m c t h0 (by omega)]
    dsimp only
    frame_out [↓View.readCov_skip, ↓View.readCov_fill]
    rfl
  · by_cases h1 : t.val % 32 = 31
    · rw [outsAt0_C m c t h0 h1]
      dsimp only
      frame_out
      rfl
    · rw [outsAt0_B m c t h0 h1]
      dsimp only
      frame_out
      rfl

/-- The buffer of the rows' derivatives. -/
theorem point_du : (outsAt0 m c t.val t.isLt).2.1 = rawDu m c t := by
  have hN : t.val < 32 := lt_of_lt_of_eq t.isLt N_0
  by_cases h0 : t.val % 32 = 0
  · rw [outsAt0_A m c t h0 (by omega)]
    dsimp only
    frame_out [↓View.readCov_skip, ↓View.readCov_fill]
    rfl
  · by_cases h1 : t.val % 32 = 31
    · rw [outsAt0_C m c t h0 h1]
      dsimp only
      frame_out
      rfl
    · rw [outsAt0_B m c t h0 h1]
      dsimp only
      frame_out
      rfl

/-- The buffer of the scale's derivative: the first point. -/
theorem point_dg_first (h0 : t.val % 32 = 0) : (outsAt0 m c t.val t.isLt).2.2.1 = k0_pay18 (F := Ideal) (iblk m c 0 t) (iblk m c 1 t) (k0_pay14 (F := Ideal)) := by
  rw [outsAt0_A m c t h0 (by omega)]
  dsimp only
  frame_out [↓View.readCov_skip, ↓View.readCov_fill]

/-- The buffer of the scale's derivative: a later point, over what the point before left. -/
theorem point_dg_next (h0 : ¬t.val % 32 = 0) :
    (outsAt0 m c t.val t.isLt).2.2.1
      = k0_pay18 (F := Ideal) (iblk m c 0 t) (iblk m c 1 t) (outsAt0 m c (t.val - 1) (Nat.lt_of_le_of_lt (Nat.sub_le _ _) t.isLt)).2.2.1 := by
  by_cases h1 : t.val % 32 = 31
  · rw [outsAt0_C m c t h0 h1]
    dsimp only
    frame_out
  · rw [outsAt0_B m c t h0 h1]
    dsimp only
    frame_out

/-- The buffer of the shift's derivative: the first point. -/
theorem point_db_first (h0 : t.val % 32 = 0) : (outsAt0 m c t.val t.isLt).2.2.2.1 = k0_pay19 (F := Ideal) (iblk m c 0 t) (k0_pay15 (F := Ideal)) := by
  rw [outsAt0_A m c t h0 (by omega)]
  dsimp only
  frame_out [↓View.readCov_skip, ↓View.readCov_fill]

/-- The buffer of the shift's derivative: a later point, over what the point before left. -/
theorem point_db_next (h0 : ¬t.val % 32 = 0) :
    (outsAt0 m c t.val t.isLt).2.2.2.1
      = k0_pay19 (F := Ideal) (iblk m c 0 t) (outsAt0 m c (t.val - 1) (Nat.lt_of_le_of_lt (Nat.sub_le _ _) t.isLt)).2.2.2.1 := by
  by_cases h1 : t.val % 32 = 31
  · rw [outsAt0_C m c t h0 h1]
    dsimp only
    frame_out
  · rw [outsAt0_B m c t h0 h1]
    dsimp only
    frame_out

/-- The carried accumulator of the projection's derivative: the first point. -/
theorem point_dw_first (h0 : t.val % 32 = 0) : (outsAt0 m c t.val t.isLt).2.2.2.2 = rawDw m c t (k0_pay16 (F := Ideal)) := by
  rw [outsAt0_A m c t h0 (by omega)]
  dsimp only
  frame_out [↓View.readCov_skip, ↓View.readCov_fill]
  rfl

/-- The carried accumulator of the projection's derivative: a later point, over what the point before left. -/
theorem point_dw_next (h0 : ¬t.val % 32 = 0) :
    (outsAt0 m c t.val t.isLt).2.2.2.2
      = rawDw m c t (outsAt0 m c (t.val - 1) (Nat.lt_of_le_of_lt (Nat.sub_le _ _) t.isLt)).2.2.2.2 := by
  by_cases h1 : t.val % 32 = 31
  · rw [outsAt0_C m c t h0 h1]
    dsimp only
    frame_out
    rw [read_unread_whole]
    rfl
  · rw [outsAt0_B m c t h0 h1]
    dsimp only
    frame_out
    rw [read_unread_whole]
    rfl

end Cert.Norm

end
-- ==== Proof.NormHost.lean ====
/-
  What the layer norm's backward call finds in its operands: the host lines before it compute, from the residual, the
  projection's input and the projection, the normalised rows and their reciprocal roots.
-/
module

public import proofs.«01_k».proof.Proof.NormMath
public import proofs.«01_k».proof.Proof.Gen.Kernel2Ideal.Value
public import Idealize.ShloMosaic.Lib.StableHlo.ReadAt

@[expose] public section

set_option maxRecDepth 16384

noncomputable section

namespace Cert.Norm

open Idealize.ShloMosaic Idealize.ShloMosaic.TcCoe Cert.Mem Cert.Kernel2Ideal Cert.Kernel2Ideal.Gen

/-- The scaled residual and the projection's output, row by row. -/
def urow (x y : Fin 8192 → Fin 2048 → ℝ) (w : Fin 2048 → Fin 2048 → ℝ) (R : Fin 8192) (C : Fin 2048) : ℝ :=
  alpha * x R C + ∑ k, y R k * w k C

variable (m : (ℓ : Loc nD τ sig) → Buf (Elt Ideal) ℓ) (c : Dev nD)
variable {x y : Fin 8192 → Fin 2048 → ℝ} {w : Fin 2048 → Fin 2048 → ℝ} {l : Fin 2048 → ℝ}

/-- The scale, as a row. -/
theorem host_scale (hl : ∀ j, (m ((c : Thread nD τ).loc main_arg4) : Vec Ideal S2048 .f32) (ix1 j) = ((l j : ℝ) : EReal)) (j : Fin 2048) :
    (V m c main_v20 : Vec Ideal S1x2048 .f32) (ix2 0 j) = ((l j : ℝ) : EReal) := by
  refine Eq.trans ?_ (hl j)
  unfold V
  after_reads_at

section Rows

variable (hx : ∀ R C, (m ((c : Thread nD τ).loc main_arg1) : Vec Ideal S8192x2048 .f32) (ix2 R C) = ((x R C : ℝ) : EReal))
variable (hy : ∀ R C, (m ((c : Thread nD τ).loc main_arg2) : Vec Ideal S8192x2048 .bf16) (ix2 R C) = ((y R C : ℝ) : EReal))
variable (hw : ∀ R C, (m ((c : Thread nD τ).loc main_arg3) : Vec Ideal S2048x2048 .bf16) (ix2 R C) = ((w R C : ℝ) : EReal))
include hx hy hw

/-- The rows' reciprocal roots. -/
theorem host_root (R : Fin 8192) : (V m c main_v17 : Vec Ideal S8192x1 .f32) (ix2 R 0) = ((rs (urow x y w R) : ℝ) : EReal) := by
  have hx' : ∀ R C, (m (c, Proc.tc.devRef main_arg1) : Vec Ideal S8192x2048 .f32) (ix2 R C) = ((x R C : ℝ) : EReal) := hx
  have hy' : ∀ R C, (m (c, Proc.tc.devRef main_arg2) : Vec Ideal S8192x2048 .bf16) (ix2 R C) = ((y R C : ℝ) : EReal) := hy
  have hw' : ∀ R C, (m (c, Proc.tc.devRef main_arg3) : Vec Ideal S2048x2048 .bf16) (ix2 R C) = ((w R C : ℝ) : EReal) := hw
  suffices h : (V m c main_v17 : Vec Ideal S8192x1 .f32) (ix2 R 0) = Ideal.rsqrt ((vrn (urow x y w R) : ℝ) : EReal) from
    h.trans (rsqrt_vrn _)
  unfold V
  after_reads_at
  simp only [hx', hy', hw', lit_alpha, lit_2048, lit_eps, ← EReal.coe_mul, coe_sum, ← EReal.coe_add, sum_div_2048, ← EReal.coe_sub]
  rfl

/-- The normalised rows. -/
theorem host_xhat (R : Fin 8192) (C : Fin 2048) :
    (V m c main_v19 : Vec Ideal S8192x2048 .f32) (ix2 R C) = ((xhat (urow x y w R) C : ℝ) : EReal) := by
  have hx' : ∀ R C, (m (c, Proc.tc.devRef main_arg1) : Vec Ideal S8192x2048 .f32) (ix2 R C) = ((x R C : ℝ) : EReal) := hx
  have hy' : ∀ R C, (m (c, Proc.tc.devRef main_arg2) : Vec Ideal S8192x2048 .bf16) (ix2 R C) = ((y R C : ℝ) : EReal) := hy
  have hw' : ∀ R C, (m (c, Proc.tc.devRef main_arg3) : Vec Ideal S2048x2048 .bf16) (ix2 R C) = ((w R C : ℝ) : EReal) := hw
  suffices h : (V m c main_v19 : Vec Ideal S8192x2048 .f32) (ix2 R C)
      = ((cen (urow x y w R) C : ℝ) : EReal) * Ideal.rsqrt ((vrn (urow x y w R) : ℝ) : EReal) from
    h.trans (by rw [rsqrt_vrn, ← EReal.coe_mul]; rfl)
  unfold V
  after_reads_at
  simp only [hx', hy', hw', lit_alpha, lit_2048, lit_eps, ← EReal.coe_mul, coe_sum, ← EReal.coe_add, sum_div_2048, ← EReal.coe_sub]
  rfl

end Rows

end Cert.Norm

end
-- ==== Proof.NormArray.lean ====
/-
  What the result arrays of the layer norm's backward call hold after it, when its operands are arrays of real numbers: the
  blocks of rows one under the other, and the scale's and the shift's derivatives summed over the grid.
-/
module

public import proofs.«01_k».proof.Proof.NormPoint
public import proofs.«01_k».proof.Proof.NormHost
public import Idealize.ShloMosaic.Lib.Pipeline.ValueKit.Partial

@[expose] public section

set_option maxRecDepth 16384

noncomputable section

namespace Cert.Norm

open Idealize.ShloMosaic Idealize.ShloMosaic.TcCoe Cert.Mem Cert.Kernel2Ideal Cert.Kernel2Ideal.Gen

/-- A block's row in the array. -/
def at256 {N : ℕ} (hN : N = 32) (t : Fin N) (i : Fin 256) : Fin 8192 := ⟨256 * t.val + i.val, by omega⟩

/-- The blocks' sums are the sum over every row. -/
theorem sum_rows {M : Type} [AddCommMonoid M] {N : ℕ} (hN : N = 32) (f : Fin 8192 → M) : ∑ t : Fin N, ∑ i : Fin 256, f (at256 hN t i) = ∑ R, f R := by
  subst hN
  refine Eq.trans (Finset.sum_congr rfl fun t _ => Finset.sum_congr rfl fun i _ => congrArg f (Fin.ext ?_))
    (Fin.sum_mul_add_fin 32 256 f)
  show 256 * t.val + i.val = t.val * 256 + i.val
  omega

theorem index_in : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0)
    ∧ (win0_4.index t 0 = 0 ∧ win0_4.index t 1 = 0) ∧ (win0_5.index t 0 = t.val ∧ win0_5.index t 1 = 0) := by decide +kernel

theorem index_out : ∀ t : Fin cfg0.N, (win0_6.index t 0 = t.val ∧ win0_6.index t 1 = 0) ∧ (win0_7.index t 0 = t.val ∧ win0_7.index t 1 = 0)
    ∧ (win0_8.index t 0 = 0 ∧ win0_8.index t 1 = 0) ∧ (win0_9.index t 0 = 0 ∧ win0_9.index t 1 = 0) := by decide +kernel

/-! ## The results over the reals -/

section Results

variable (g x y : Fin 8192 → Fin 2048 → ℝ) (w : Fin 2048 → Fin 2048 → ℝ) (l : Fin 2048 → ℝ)

/-- A row's derivative. -/
def gradU (R : Fin 8192) : Fin 2048 → ℝ := rowDu (g R) l (xhat (urow x y w R)) (rs (urow x y w R))

/-- The derivatives of the normalised layer's input. -/
def duArr : Vec Ideal S8192x2048 .f32 := fun i => ((gradU g x y w l (i 0) (i 1) : ℝ) : EReal)

/-- The derivatives of the projection's input. -/
def dyArr : Vec Ideal S8192x2048 .bf16 := fun i => ((∑ k, gradU g x y w l (i 0) k * w (i 1) k : ℝ) : EReal)

/-- The scale's derivative. -/
def dgArr : Vec Ideal S1x2048 .f32 := fun i => ((∑ R, g R (i 1) * xhat (urow x y w R) (i 1) : ℝ) : EReal)

/-- The shift's derivative. -/
def dbArr : Vec Ideal S1x2048 .f32 := fun i => ((∑ R, g R (i 1) : ℝ) : EReal)

/-- The projection's derivative. -/
def dwArr : Vec Ideal S2048x2048 .bf16 := fun i => ((∑ R, y R (i 0) * gradU g x y w l R (i 1) : ℝ) : EReal)

end Results

/-! ## The blocks the call reads -/

variable (m : (ℓ : Loc nD τ sig) → Buf (Elt Ideal) ℓ) (c : Dev nD)
variable {g x y : Fin 8192 → Fin 2048 → ℝ} {w : Fin 2048 → Fin 2048 → ℝ} {l : Fin 2048 → ℝ}
variable (hg : ∀ R C, (m ((c : Thread nD τ).loc main_arg0) : Vec Ideal S8192x2048 .f32) (ix2 R C) = ((g R C : ℝ) : EReal))
variable (hx : ∀ R C, (m ((c : Thread nD τ).loc main_arg1) : Vec Ideal S8192x2048 .f32) (ix2 R C) = ((x R C : ℝ) : EReal))
variable (hy : ∀ R C, (m ((c : Thread nD τ).loc main_arg2) : Vec Ideal S8192x2048 .bf16) (ix2 R C) = ((y R C : ℝ) : EReal))
variable (hw : ∀ R C, (m ((c : Thread nD τ).loc main_arg3) : Vec Ideal S2048x2048 .bf16) (ix2 R C) = ((w R C : ℝ) : EReal))
variable (hl : ∀ j, (m ((c : Thread nD τ).loc main_arg4) : Vec Ideal S2048 .f32) (ix1 j) = ((l j : ℝ) : EReal))
variable (t : Fin cfg0.N)

include hg in
theorem blk_g (i : Fin 256) (j : Fin 2048) :
    (iblk m c 0 t : Vec Ideal S256x2048 .f32) (ix2 i j) = ((g (at256 N_0 t i) j : ℝ) : EReal) := by
  unfold iblk
  rw [View.read_apply]
  refine ((congrArg (V m c main_arg0) (funext fun a => Fin.ext ?_)).trans (congrFun (V_main_arg0 m c) (ix2 (at256 N_0 t i) j))).trans (hg _ _)
  match a with
  | ⟨0, _⟩ => show win0_0.index t 0 * 256 + 1 * i.val = 256 * t.val + i.val; rw [(index_in t).1.1]; omega
  | ⟨1, _⟩ => show win0_0.index t 1 * 2048 + 1 * j.val = j.val; rw [(index_in t).1.2]; omega

include hx hy hw in
theorem blk_x (i : Fin 256) (j : Fin 2048) :
    (iblk m c 1 t : Vec Ideal S256x2048 .f32) (ix2 i j) = ((xhat (urow x y w (at256 N_0 t i)) j : ℝ) : EReal) := by
  unfold iblk
  rw [View.read_apply]
  refine (congrArg (V m c main_v19) (funext fun a => Fin.ext ?_)).trans (host_xhat m c hx hy hw (at256 N_0 t i) j)
  match a with
  | ⟨0, _⟩ => show win0_1.index t 0 * 256 + 1 * i.val = 256 * t.val + i.val; rw [(index_in t).2.1.1]; omega
  | ⟨1, _⟩ => show win0_1.index t 1 * 2048 + 1 * j.val = j.val; rw [(index_in t).2.1.2]; omega

include hx hy hw in
theorem blk_r (i : Fin 256) :
    (iblk m c 2 t : Vec Ideal S256x1 .f32) (ix2 i 0) = ((rs (urow x y w (at256 N_0 t i)) : ℝ) : EReal) := by
  unfold iblk
  rw [View.read_apply]
  refine (congrArg (V m c main_v17) (funext fun a => Fin.ext ?_)).trans (host_root m c hx hy hw (at256 N_0 t i))
  match a with
  | ⟨0, _⟩ => show win0_2.index t 0 * 256 + 1 * i.val = 256 * t.val + i.val; rw [(index_in t).2.2.1.1]; omega
  | ⟨1, _⟩ => show win0_2.index t 1 * 1 + 1 * 0 = 0; rw [(index_in t).2.2.1.2]

include hl in
theorem blk_l (j : Fin 2048) : (iblk m c 3 t : Vec Ideal S1x2048 .f32) (ix2 0 j) = ((l j : ℝ) : EReal) := by
  unfold iblk
  rw [View.read_apply]
  refine (congrArg (V m c main_v20) (funext fun a => Fin.ext ?_)).trans (host_scale m c hl j)
  match a with
  | ⟨0, _⟩ => show win0_3.index t 0 * 1 + 1 * 0 = 0; rw [(index_in t).2.2.2.1.1]
  | ⟨1, _⟩ => show win0_3.index t 1 * 2048 + 1 * j.val = j.val; rw [(index_in t).2.2.2.1.2]; omega

include hw in
theorem blk_w (i j : Fin 2048) : (iblk m c 4 t : Vec Ideal S2048x2048 .bf16) (ix2 i j) = ((w i j : ℝ) : EReal) := by
  unfold iblk
  rw [View.read_apply]
  refine ((congrArg (V m c main_arg3) (funext fun a => Fin.ext ?_)).trans (congrFun (V_main_arg3 m c) (ix2 i j))).trans (hw _ _)
  match a with
  | ⟨0, _⟩ => show win0_4.index t 0 * 2048 + 1 * i.val = i.val; rw [(index_in t).2.2.2.2.1.1]; omega
  | ⟨1, _⟩ => show win0_4.index t 1 * 2048 + 1 * j.val = j.val; rw [(index_in t).2.2.2.2.1.2]; omega

include hy in
theorem blk_y (i : Fin 256) (j : Fin 2048) :
    (iblk m c 5 t : Vec Ideal S256x2048 .bf16) (ix2 i j) = ((y (at256 N_0 t i) j : ℝ) : EReal) := by
  unfold iblk
  rw [View.read_apply]
  refine ((congrArg (V m c main_arg2) (funext fun a => Fin.ext ?_)).trans (congrFun (V_main_arg2 m c) (ix2 (at256 N_0 t i) j))).trans (hy _ _)
  match a with
  | ⟨0, _⟩ => show win0_5.index t 0 * 256 + 1 * i.val = 256 * t.val + i.val; rw [(index_in t).2.2.2.2.2.1]; omega
  | ⟨1, _⟩ => show win0_5.index t 1 * 2048 + 1 * j.val = j.val; rw [(index_in t).2.2.2.2.2.2]; omega

/-! ## The arrays after the call -/

include hg hx hy hw hl

/-- The rows' derivatives. -/
theorem array_du : (dats m 0 c).arrAt 7 cfg0.N = duArr g x y w l := by
  refine (dats m 0 c).arrAt_eq_of_covers 7 (duArr g x y w l) (by decide +kernel) fun t hf z => ?_
  blk_simp
  rw [after0_7, point_du]
  obtain ⟨i, j, rfl⟩ : ∃ i j, z = ix2 i j := ⟨_, _, eq_ix2 z⟩
  have he : ((cfg0.win 7).blk t).view.emb (ix2 i j) = (ix2 (at256 N_0 t i) j : S8192x2048.Idx) :=
    funext fun a => Fin.ext <| by
      match a with
      | ⟨0, _⟩ => show win0_7.index t 0 * 256 + 1 * i.val = 256 * t.val + i.val; rw [(index_out t).2.1.1]; omega
      | ⟨1, _⟩ => show win0_7.index t 1 * 2048 + 1 * j.val = j.val; rw [(index_out t).2.1.2]; omega
  have e1 : rawDu m c t (ix2 i j) = duArr g x y w l (ix2 (at256 N_0 t i) j) :=
    du_apply (blk_g m c hg t) (blk_x m c hx hy hw t) (blk_r m c hx hy hw t) (blk_l m c hl t) i j
  refine e1.trans ?_
  rw [← he]

/-- The derivatives of the projection's input. -/
theorem array_dy : (dats m 0 c).arrAt 6 cfg0.N = dyArr g x y w l := by
  refine (dats m 0 c).arrAt_eq_of_covers 6 (dyArr g x y w l) (by decide +kernel) fun t hf z => ?_
  blk_simp
  rw [after0_6, point_dy]
  obtain ⟨i, j, rfl⟩ : ∃ i j, z = ix2 i j := ⟨_, _, eq_ix2 z⟩
  have he : ((cfg0.win 6).blk t).view.emb (ix2 i j) = (ix2 (at256 N_0 t i) j : S8192x2048.Idx) :=
    funext fun a => Fin.ext <| by
      match a with
      | ⟨0, _⟩ => show win0_6.index t 0 * 256 + 1 * i.val = 256 * t.val + i.val; rw [(index_out t).1.1]; omega
      | ⟨1, _⟩ => show win0_6.index t 1 * 2048 + 1 * j.val = j.val; rw [(index_out t).1.2]; omega
  have e1 : rawDy m c t (ix2 i j) = dyArr g x y w l (ix2 (at256 N_0 t i) j) :=
    dy_apply (blk_g m c hg t) (blk_x m c hx hy hw t) (blk_r m c hx hy hw t) (blk_l m c hl t) (blk_w m c hw t) i j
  refine e1.trans ?_
  rw [← he]

omit hl in
/-- The scale's derivative. -/
theorem array_dg : (dats m 0 c).arrAt 8 cfg0.N = dgArr g x y w := by
  have hN : cfg0.N = 32 := N_0
  refine (dats m 0 c).arrAt_eq_of_covers 8 (dgArr g x y w) (by decide +kernel) fun t hf z => ?_
  blk_simp
  rw [after0_8]
  have ht : t.val + 1 = cfg0.N := by have := (flush0_8 t).mp hf; have := t.isLt; omega
  have key : ∀ (t : Fin cfg0.N) (A : Vec Ideal S1x2048 .f32) (z : S1x2048.Idx),
      k0_pay18 (F := Ideal) (iblk m c 0 t) (iblk m c 1 t) A z
        = A z + ((∑ i, g (at256 N_0 t i) (z 1) * xhat (urow x y w (at256 N_0 t i)) (z 1) : ℝ) : EReal) := fun t A z => by
    obtain ⟨o, j, rfl⟩ : ∃ o j, z = ix2 o j := ⟨_, _, eq_ix2 z⟩
    obtain rfl : o = 0 := Subsingleton.elim _ _
    exact dg_apply (blk_g m c hg t) (blk_x m c hx hy hw t) A j
  rw [Pipeline.eq_sum_fin_of_reset_step_apply_last (fun n h => (outsAt0 m c n h).2.2.1) 32 (k0_pay14 (F := Ideal))
    (fun t z => ((∑ i, g (at256 N_0 t i) (z 1) * xhat (urow x y w (at256 N_0 t i)) (z 1) : ℝ) : EReal))
    (fun t h z => (congrFun (point_dg_first m c t h) z).trans (key t _ z))
    (fun t h z => (congrFun (point_dg_next m c t h) z).trans (key t _ z))
    (le_of_eq N_0) t ht, coe_sum]
  obtain ⟨o, j, rfl⟩ : ∃ o j, z = ix2 o j := ⟨_, _, eq_ix2 z⟩
  obtain rfl : o = 0 := Subsingleton.elim _ _
  rw [zero_row, zero_add]
  have he : ((cfg0.win 8).blk t).view.emb (ix2 0 j) = (ix2 0 j : S1x2048.Idx) :=
    funext fun a => Fin.ext <| by
      match a with
      | ⟨0, _⟩ => show win0_8.index t 0 * 1 + 1 * 0 = 0; rw [(index_out t).2.2.1.1]
      | ⟨1, _⟩ => show win0_8.index t 1 * 2048 + 1 * j.val = j.val; rw [(index_out t).2.2.1.2]; omega
  exact (congrArg (fun s : ℝ => (s : EReal)) (sum_rows N_0 fun R => g R j * xhat (urow x y w R) j)).trans
    (congrArg (dgArr g x y w) he.symm)

omit hl hx hy hw in
/-- The shift's derivative. -/
theorem array_db : (dats m 0 c).arrAt 9 cfg0.N = dbArr g := by
  have hN : cfg0.N = 32 := N_0
  refine (dats m 0 c).arrAt_eq_of_covers 9 (dbArr g) (by decide +kernel) fun t hf z => ?_
  blk_simp
  rw [after0_9]
  have ht : t.val + 1 = cfg0.N := by have := (flush0_9 t).mp hf; have := t.isLt; omega
  have key : ∀ (t : Fin cfg0.N) (A : Vec Ideal S1x2048 .f32) (z : S1x2048.Idx),
      k0_pay19 (F := Ideal) (iblk m c 0 t) A z = A z + ((∑ i, g (at256 N_0 t i) (z 1) : ℝ) : EReal) := fun t A z => by
    obtain ⟨o, j, rfl⟩ : ∃ o j, z = ix2 o j := ⟨_, _, eq_ix2 z⟩
    obtain rfl : o = 0 := Subsingleton.elim _ _
    exact db_apply (blk_g m c hg t) A j
  rw [Pipeline.eq_sum_fin_of_reset_step_apply_last (fun n h => (outsAt0 m c n h).2.2.2.1) 32 (k0_pay15 (F := Ideal))
    (fun t z => ((∑ i, g (at256 N_0 t i) (z 1) : ℝ) : EReal))
    (fun t h z => (congrFun (point_db_first m c t h) z).trans (key t _ z))
    (fun t h z => (congrFun (point_db_next m c t h) z).trans (key t _ z))
    (le_of_eq N_0) t ht, coe_sum]
  obtain ⟨o, j, rfl⟩ : ∃ o j, z = ix2 o j := ⟨_, _, eq_ix2 z⟩
  obtain rfl : o = 0 := Subsingleton.elim _ _
  rw [zero_row', zero_add]
  have he : ((cfg0.win 9).blk t).view.emb (ix2 0 j) = (ix2 0 j : S1x2048.Idx) :=
    funext fun a => Fin.ext <| by
      match a with
      | ⟨0, _⟩ => show win0_9.index t 0 * 1 + 1 * 0 = 0; rw [(index_out t).2.2.2.1]
      | ⟨1, _⟩ => show win0_9.index t 1 * 2048 + 1 * j.val = j.val; rw [(index_out t).2.2.2.2]; omega
  exact (congrArg (fun s : ℝ => (s : EReal)) (sum_rows N_0 fun R => g R j)).trans (congrArg (dbArr g) he.symm)

/-- The carried accumulator after the last point: the projection's derivative. -/
theorem last_dw (t : Fin cfg0.N) (ht : t.val + 1 = cfg0.N) (i j : Fin 2048) :
    (outsAt0 m c t.val t.isLt).2.2.2.2 (ix2 i j) = dwArr g x y w l (ix2 i j) := by
  have hN : cfg0.N = 32 := N_0
  have key : ∀ (t : Fin cfg0.N) (A : Vec Ideal S2048x2048 .f32) (z : S2048x2048.Idx),
      rawDw m c t A z = A z + ((∑ k, y (at256 N_0 t k) (z 0) * gradU g x y w l (at256 N_0 t k) (z 1) : ℝ) : EReal) := fun t A z => by
    obtain ⟨i, j, rfl⟩ : ∃ i j, z = ix2 i j := ⟨_, _, eq_ix2 z⟩
    exact dw_apply (blk_g m c hg t) (blk_x m c hx hy hw t) (blk_r m c hx hy hw t) (blk_l m c hl t) (blk_y m c hy t) A i j
  rw [Pipeline.eq_sum_fin_of_reset_step_apply_last (fun n h => (outsAt0 m c n h).2.2.2.2) 32 (k0_pay16 (F := Ideal))
    (fun t z => ((∑ k, y (at256 N_0 t k) (z 0) * gradU g x y w l (at256 N_0 t k) (z 1) : ℝ) : EReal))
    (fun t h z => (congrFun (point_dw_first m c t h) z).trans (key t _ z))
    (fun t h z => (congrFun (point_dw_next m c t h) z).trans (key t _ z))
    (le_of_eq N_0) t ht, coe_sum, zero_square, zero_add]
  exact congrArg (fun s : ℝ => (s : EReal)) (sum_rows N_0 fun R => y R i * gradU g x y w l R j)

end Cert.Norm

end
-- ==== Proof.NormReference.lean ====
/-
  The results of the layer norm's backward reference, stage by stage, when its arguments are arrays of real numbers.
-/
module

public import proofs.«01_k».proof.Proof.NormArray
public import proofs.«01_k».proof.Proof.Gen.Reference2Ideal.Read

@[expose] public section

set_option maxRecDepth 16384

noncomputable section

namespace Cert.Norm

open Idealize.ShloMosaic Idealize.ShloMosaic.TcCoe Cert.Mem Cert.Reference2Ideal Cert.Reference2Ideal.Gen Cert.Reference2Ideal.Read

/-! ## Where each stage reads -/

theorem at_lidx_main_v2 (R : Fin 8192) (C : Fin 2048) (k : Fin 2048) : lidx_main_v2 (ix2 R C) k = ix2 R k := by
  funext a
  match a with
  | ⟨0, _⟩ => rfl
  | ⟨1, _⟩ => rfl

theorem at_lidx_main_v73 (R : Fin 8192) (C : Fin 2048) (k : Fin 2048) : lidx_main_v73 (ix2 R C) k = ix2 R k := by
  funext a
  match a with
  | ⟨0, _⟩ => rfl
  | ⟨1, _⟩ => rfl

theorem at_ridx_main_v2 (R : Fin 8192) (C : Fin 2048) (k : Fin 2048) : ridx_main_v2 (ix2 R C) k = ix2 k C := by
  funext a
  match a with
  | ⟨0, _⟩ => rfl
  | ⟨1, _⟩ => rfl

theorem at_ridx_main_v73 (R : Fin 8192) (C : Fin 2048) (k : Fin 2048) : ridx_main_v73 (ix2 R C) k = ix2 C k := by
  funext a
  match a with
  | ⟨0, _⟩ => rfl
  | ⟨1, _⟩ => rfl

theorem at_idx_main_v7 (R : Fin 8192) (k : Fin 2048) : idx_main_v7 (ix1 R) k = ix2 R k := by
  funext a
  match a with
  | ⟨0, _⟩ => rfl
  | ⟨1, _⟩ => rfl

theorem at_idx_main_v16 (R : Fin 8192) (k : Fin 2048) : idx_main_v16 (ix1 R) k = ix2 R k := by
  funext a
  match a with
  | ⟨0, _⟩ => rfl
  | ⟨1, _⟩ => rfl

theorem at_idx_main_v47 (R : Fin 8192) (k : Fin 2048) : idx_main_v47 (ix1 R) k = ix2 R k := by
  funext a
  match a with
  | ⟨0, _⟩ => rfl
  | ⟨1, _⟩ => rfl

theorem at_idx_main_v53 (R : Fin 8192) (k : Fin 2048) : idx_main_v53 (ix1 R) k = ix2 R k := by
  funext a
  match a with
  | ⟨0, _⟩ => rfl
  | ⟨1, _⟩ => rfl

theorem at_idx_main_v61 (R : Fin 8192) (k : Fin 2048) : idx_main_v61 (ix1 R) k = ix2 R k := by
  funext a
  match a with
  | ⟨0, _⟩ => rfl
  | ⟨1, _⟩ => rfl

theorem at_idx_main_v8 (R : Fin 8192) : idx_main_v8 (ix2 R 0) = ix1 R := by
  funext a
  match a with
  | ⟨0, _⟩ => rfl

theorem at_idx_main_v17 (R : Fin 8192) : idx_main_v17 (ix2 R 0) = ix1 R := by
  funext a
  match a with
  | ⟨0, _⟩ => rfl

theorem at_idx_main_v48 (R : Fin 8192) : idx_main_v48 (ix2 R 0) = ix1 R := by
  funext a
  match a with
  | ⟨0, _⟩ => exact Fin.ext (by show R.val * 1 + 0 = R.val; omega)

theorem at_idx_main_v54 (R : Fin 8192) : idx_main_v54 (ix2 R 0) = ix1 R := by
  funext a
  match a with
  | ⟨0, _⟩ => exact Fin.ext (by show R.val * 1 + 0 = R.val; omega)

theorem at_idx_main_v62 (R : Fin 8192) : idx_main_v62 (ix2 R 0) = ix1 R := by
  funext a
  match a with
  | ⟨0, _⟩ => exact Fin.ext (by show R.val * 1 + 0 = R.val; omega)

theorem at_idx_main_v11 (R : Fin 8192) (C : Fin 2048) : idx_main_v11 (ix2 R C) = ix2 R 0 := by
  funext a
  match a with
  | ⟨0, _⟩ => rfl
  | ⟨1, _⟩ => rfl

theorem at_idx_main_v20 (R : Fin 8192) (C : Fin 2048) : idx_main_v20 (ix2 R C) = ix2 R 0 := by
  funext a
  match a with
  | ⟨0, _⟩ => rfl
  | ⟨1, _⟩ => rfl

theorem at_idx_main_v28 (R : Fin 8192) (C : Fin 2048) : idx_main_v28 (ix2 R C) = ix2 R 0 := by
  funext a
  match a with
  | ⟨0, _⟩ => rfl
  | ⟨1, _⟩ => rfl

theorem at_idx_main_v49 (R : Fin 8192) (C : Fin 2048) : idx_main_v49 (ix2 R C) = ix2 R 0 := by
  funext a
  match a with
  | ⟨0, _⟩ => rfl
  | ⟨1, _⟩ => rfl

theorem at_idx_main_v30 (C : Fin 2048) : idx_main_v30 (ix2 0 C) = ix1 C := by
  funext a
  match a with
  | ⟨0, _⟩ => rfl

theorem at_idx_main_v43 (R : Fin 8192) (C : Fin 2048) : idx_main_v43 (ix2 R C) = ix2 0 C := by
  funext a
  match a with
  | ⟨0, _⟩ => rfl
  | ⟨1, _⟩ => rfl

theorem at_idx_main_v36 (R : Fin 8192) (C : Fin 2048) : idx_main_v36 (ix2 R C) = ix2 R C := by
  funext a
  match a with
  | ⟨0, _⟩ => exact Fin.ext (by show (R.val * 2048 + C.val) / 2048 = R.val; omega)
  | ⟨1, _⟩ => exact Fin.ext (by show (R.val * 2048 + C.val) % 2048 = C.val; omega)

theorem at_idx_main_v37 (C : Fin 2048) (k : Fin 8192) : idx_main_v37 (ix1 C) k = ix2 k C := by
  funext a
  match a with
  | ⟨0, _⟩ => rfl
  | ⟨1, _⟩ => rfl

theorem at_idx_main_v41 (C : Fin 2048) (k : Fin 8192) : idx_main_v41 (ix1 C) k = ix2 k C := by
  funext a
  match a with
  | ⟨0, _⟩ => rfl
  | ⟨1, _⟩ => rfl

theorem at_idx_main_v38 (C : Fin 2048) : idx_main_v38 (ix2 0 C) = ix1 C := by
  funext a
  match a with
  | ⟨0, _⟩ => exact Fin.ext (by show 0 * 2048 + C.val = C.val; omega)

theorem at_idx_main_v42 (C : Fin 2048) : idx_main_v42 (ix2 0 C) = ix1 C := by
  funext a
  match a with
  | ⟨0, _⟩ => exact Fin.ext (by show 0 * 2048 + C.val = C.val; omega)

theorem at_idx_main_v39 (C : Fin 2048) (k : Fin 1) : idx_main_v39 (ix1 C) k = ix2 k C := by
  funext a
  match a with
  | ⟨0, _⟩ => rfl
  | ⟨1, _⟩ => rfl

theorem at_idx_main_v45 (C : Fin 2048) (k : Fin 1) : idx_main_v45 (ix1 C) k = ix2 k C := by
  funext a
  match a with
  | ⟨0, _⟩ => rfl
  | ⟨1, _⟩ => rfl

theorem at_idx_main_v57 (R : Fin 8192) (k : Fin 1) : idx_main_v57 (ix1 R) k = ix2 R k := by
  funext a
  match a with
  | ⟨0, _⟩ => rfl
  | ⟨1, _⟩ => rfl

theorem at_idx_main_v67 (R : Fin 8192) (k : Fin 1) : idx_main_v67 (ix1 R) k = ix2 R k := by
  funext a
  match a with
  | ⟨0, _⟩ => rfl
  | ⟨1, _⟩ => rfl

theorem at_idx_main_v58 (R : Fin 8192) (C : Fin 2048) : idx_main_v58 (ix2 R C) = ix1 R := by
  funext a
  match a with
  | ⟨0, _⟩ => rfl

theorem at_idx_main_v68 (R : Fin 8192) (C : Fin 2048) : idx_main_v68 (ix2 R C) = ix1 R := by
  funext a
  match a with
  | ⟨0, _⟩ => rfl

theorem at_lidx_main_v71 (C D : Fin 2048) (k : Fin 8192) : lidx_main_v71 (ix2 C D) k = ix2 k C := by
  funext a
  match a with
  | ⟨0, _⟩ => rfl
  | ⟨1, _⟩ => rfl

theorem at_ridx_main_v71 (C D : Fin 2048) (k : Fin 8192) : ridx_main_v71 (ix2 C D) k = ix2 k D := by
  funext a
  match a with
  | ⟨0, _⟩ => rfl
  | ⟨1, _⟩ => rfl

theorem at_idx_main_v72 (D C : Fin 2048) : idx_main_v72 (ix2 D C) = ix2 C D := by
  funext a
  match a with
  | ⟨0, _⟩ => rfl
  | ⟨1, _⟩ => rfl

theorem at_idx_main_v75 (C : Fin 2048) : idx_main_v75 (ix2 0 C) = ix1 C := by
  funext a
  match a with
  | ⟨0, _⟩ => rfl

theorem at_idx_main_v76 (C : Fin 2048) : idx_main_v76 (ix2 0 C) = ix1 C := by
  funext a
  match a with
  | ⟨0, _⟩ => rfl

/-! ## The stages -/

section Stages

variable {x0 x1 : (⟨S8192x2048, .f32⟩ : BufTy).Contents (Elt Ideal)} {x2 : (⟨S8192x2048, .bf16⟩ : BufTy).Contents (Elt Ideal)}
variable {x3 : (⟨S2048x2048, .bf16⟩ : BufTy).Contents (Elt Ideal)} {x4 : (⟨S2048, .f32⟩ : BufTy).Contents (Elt Ideal)}
variable {g x y : Fin 8192 → Fin 2048 → ℝ} {w : Fin 2048 → Fin 2048 → ℝ} {l : Fin 2048 → ℝ}
variable (hg : ∀ R C, x0 (ix2 R C) = ((g R C : ℝ) : EReal)) (hx : ∀ R C, x1 (ix2 R C) = ((x R C : ℝ) : EReal))
variable (hy : ∀ R C, x2 (ix2 R C) = ((y R C : ℝ) : EReal)) (hw : ∀ R C, x3 (ix2 R C) = ((w R C : ℝ) : EReal))
variable (hl : ∀ C, x4 (ix1 C) = ((l C : ℝ) : EReal))

/-- A sum that starts from the zero word. -/
theorem zero_word_add (a : EReal) : FloatOps.ofBits (F := Ideal) .f32 0x00000000#32 + a = a := by
  show Ideal.ofBits .f32 0x00000000#32 + a = a
  rw [Ideal.ofBits_zero_f32, zero_add]

include hx hy hw in
/-- The rows before the normalisation. -/
theorem sum_val (R : Fin 8192) (C : Fin 2048) : val_main_v6 (F := Ideal) x1 x2 x3 (ix2 R C) = ((urow x y w R C : ℝ) : EReal) := by
  rw [val_main_v6_apply, val_main_v5_apply, val_main_v4_apply, val_main_cst_0_apply, val_main_v2_apply]
  simp only [at_lidx_main_v2, at_ridx_main_v2, val_main_v0_apply, val_main_v1_apply]
  show Ideal.ofBits .f32 0x3FD744FD#32 * x1 (ix2 R C) + ∑ k, x2 (ix2 R k) * x3 (ix2 k C) = _
  simp only [hx, hy, hw, lit_alpha, ← EReal.coe_mul, coe_sum, ← EReal.coe_add]
  rfl

include hx hy hw in
/-- The rows' means. -/
theorem mean_val (R : Fin 8192) : val_main_v10 (F := Ideal) x1 x2 x3 (ix2 R 0) = ((mean (urow x y w R) : ℝ) : EReal) := by
  rw [val_main_v10_apply, val_main_v8_apply, at_idx_main_v8, val_main_v7_apply, val_main_cst_1_apply, val_main_v9_apply, val_main_cst_2_apply, zero_word_add]
  simp only [at_idx_main_v7, sum_val hx hy hw, coe_sum]
  show Ideal.div _ (Ideal.ofBits .f32 0x45000000#32) = _
  rw [lit_2048, sum_div_2048]

include hx hy hw in
/-- The rows less their means. -/
theorem cen_val (R : Fin 8192) (C : Fin 2048) : val_main_v12 (F := Ideal) x1 x2 x3 (ix2 R C) = ((cen (urow x y w R) C : ℝ) : EReal) := by
  rw [val_main_v12_apply, sum_val hx hy hw, val_main_v11_apply, at_idx_main_v11, mean_val hx hy hw]
  exact (EReal.coe_sub _ _).symm

include hx hy hw in
theorem cen_val' (R : Fin 8192) (C : Fin 2048) : val_main_v21 (F := Ideal) x1 x2 x3 (ix2 R C) = ((cen (urow x y w R) C : ℝ) : EReal) := by
  rw [val_main_v21_apply, sum_val hx hy hw, val_main_v20_apply, at_idx_main_v20, mean_val hx hy hw]
  exact (EReal.coe_sub _ _).symm

include hx hy hw in
/-- The rows' variances, with the small number added. -/
theorem var_val (R : Fin 8192) : val_main_v23 (F := Ideal) x1 x2 x3 (ix2 R 0) = ((vrn (urow x y w R) : ℝ) : EReal) := by
  rw [val_main_v23_apply, val_main_v19_apply, val_main_v17_apply, at_idx_main_v17, val_main_v16_apply, val_main_cst_4_apply, val_main_v18_apply, val_main_cst_5_apply,
    val_main_v22_apply, val_main_cst_6_apply, zero_word_add]
  simp only [at_idx_main_v16, val_main_v13_apply, cen_val hx hy hw]
  show Ideal.div (∑ k, ((cen (urow x y w R) k : ℝ) : EReal) * ((cen (urow x y w R) k : ℝ) : EReal)) (Ideal.ofBits .f32 0x45000000#32) + Ideal.ofBits .f32 0x3727C5AC#32 = _
  simp only [← EReal.coe_mul, coe_sum]
  rw [lit_2048, sum_div_2048, lit_eps, ← EReal.coe_add]
  rfl

include hx hy hw in
/-- The reciprocal roots of the variances. -/
theorem root_val (R : Fin 8192) : val_main_v24 (F := Ideal) x1 x2 x3 (ix2 R 0) = ((rs (urow x y w R) : ℝ) : EReal) := by
  rw [val_main_v24_apply, var_val hx hy hw]
  exact rsqrt_vrn _

include hx hy hw in
/-- The normalised rows. -/
theorem xhat_val (R : Fin 8192) (C : Fin 2048) : val_main_v29 (F := Ideal) x1 x2 x3 (ix2 R C) = ((xhat (urow x y w R) C : ℝ) : EReal) := by
  rw [val_main_v29_apply, cen_val' hx hy hw, val_main_v28_apply, at_idx_main_v28, root_val hx hy hw]
  exact (EReal.coe_mul _ _).symm

include hg in
theorem ct_val (R : Fin 8192) (C : Fin 2048) : val_main_v36 (F := Ideal) x0 (ix2 R C) = ((g R C : ℝ) : EReal) := by
  rw [val_main_v36_apply, at_idx_main_v36]
  exact hg _ _

include hg in
/-- The shift's derivative. -/
theorem db_val : val_main_v76 (F := Ideal) x0 = dbArr g := by
  funext z
  obtain ⟨o, C, rfl⟩ : ∃ o C, z = ix2 o C := ⟨_, _, eq_ix2 z⟩
  obtain rfl : o = 0 := Subsingleton.elim _ _
  rw [val_main_v76_apply, at_idx_main_v76, val_main_v39_apply, val_main_cst_9_apply, zero_word_add, Fin.sum_univ_one, at_idx_main_v39,
    val_main_v38_apply, at_idx_main_v38, val_main_v37_apply, val_main_cst_8_apply, zero_word_add]
  simp only [at_idx_main_v37, hg, coe_sum]
  rfl

include hg hx hy hw in
/-- The scale's derivative. -/
theorem dg_val : val_main_v75 (F := Ideal) x0 x1 x2 x3 = dgArr g x y w := by
  funext z
  obtain ⟨o, C, rfl⟩ : ∃ o C, z = ix2 o C := ⟨_, _, eq_ix2 z⟩
  obtain rfl : o = 0 := Subsingleton.elim _ _
  rw [val_main_v75_apply, at_idx_main_v75, val_main_v45_apply, val_main_cst_11_apply, zero_word_add, Fin.sum_univ_one, at_idx_main_v45,
    val_main_v42_apply, at_idx_main_v42, val_main_v41_apply, val_main_cst_10_apply, zero_word_add]
  simp only [at_idx_main_v41, val_main_v40_apply, xhat_val hx hy hw, ct_val hg]
  show ∑ k, ((xhat (urow x y w k) C : ℝ) : EReal) * ((g k C : ℝ) : EReal) = _
  simp only [← EReal.coe_mul, coe_sum]
  exact congrArg (fun s : ℝ => (s : EReal)) (Finset.sum_congr rfl fun k _ => mul_comm _ _)

include hg hl in
/-- The upstream derivatives times the scale. -/
theorem gl_val (R : Fin 8192) (C : Fin 2048) : val_main_v44 (F := Ideal) x0 x4 (ix2 R C) = ((g R C * l C : ℝ) : EReal) := by
  rw [val_main_v44_apply, ct_val hg, val_main_v43_apply, at_idx_main_v43, val_main_v30_apply, at_idx_main_v30, hl]
  exact (EReal.coe_mul _ _).symm

include hg hx hy hw hl in
/-- The part of a row's derivative through the normalised row's numerator. -/
theorem direct_val (R : Fin 8192) (C : Fin 2048) :
    val_main_v50 (F := Ideal) x0 x1 x2 x3 x4 (ix2 R C) = ((g R C * l C * rs (urow x y w R) : ℝ) : EReal) := by
  rw [val_main_v50_apply, gl_val hg hl, val_main_v49_apply, at_idx_main_v49, root_val hx hy hw]
  exact (EReal.coe_mul _ _).symm

include hg hx hy hw hl in
/-- The derivative with respect to a row's variance, over the row's length. -/
theorem vbr_val (R : Fin 8192) :
    val_main_v57 (F := Ideal) x0 x1 x2 x3 x4 (ix1 R) = ((vbr (g R) l (urow x y w R) : ℝ) : EReal) := by
  rw [val_main_v57_apply, val_main_cst_15_apply, zero_word_add, Fin.sum_univ_one, at_idx_main_v57, val_main_v56_apply, val_main_v55_apply, val_main_cst_14_apply,
    val_main_v51_apply, val_main_v48_apply, at_idx_main_v48, val_main_v47_apply, val_main_cst_12_apply, zero_word_add,
    val_main_v27_apply, val_main_v26_apply, val_main_cst_7_apply, val_main_v25_apply, root_val hx hy hw, var_val hx hy hw]
  simp only [at_idx_main_v47, val_main_v46_apply, cen_val' hx hy hw, gl_val hg hl]
  show Ideal.div ((∑ k, ((cen (urow x y w R) k : ℝ) : EReal) * ((g R k * l k : ℝ) : EReal))
    * (Ideal.ofBits .f32 0xBF000000#32 * Ideal.div ((rs (urow x y w R) : ℝ) : EReal) ((vrn (urow x y w R) : ℝ) : EReal))) (Ideal.ofBits .f32 0x45000000#32) = _
  rw [lit_2048, lit_half, div_coe_coe (vrn_pos _).ne']
  simp only [← EReal.coe_mul, coe_sum]
  rw [div_coe_coe (by norm_num)]
  rfl

include hg hx hy hw hl in
/-- The part of a row's derivative through its variance. -/
theorem through_val (R : Fin 8192) (C : Fin 2048) :
    val_main_v59 (F := Ideal) x0 x1 x2 x3 x4 (ix2 R C) = ((vbr (g R) l (urow x y w R) * (2 * cen (urow x y w R) C) : ℝ) : EReal) := by
  rw [val_main_v59_apply, val_main_v58_apply, at_idx_main_v58, vbr_val hg hx hy hw hl, val_main_v15_apply, val_main_v14_apply, val_main_cst_3_apply, cen_val hx hy hw]
  show _ * (Ideal.ofBits .f32 0x40000000#32 * _) = _
  rw [lit_two, ← EReal.coe_mul, ← EReal.coe_mul]

include hg hx hy hw hl in
/-- The part of a row's derivative through its mean. -/
theorem shift_val (R : Fin 8192) (C : Fin 2048) :
    val_main_v68 (F := Ideal) x0 x1 x2 x3 x4 (ix2 R C)
      = (((∑ k, -(g R k * l k * rs (urow x y w R)) + ∑ k, -(vbr (g R) l (urow x y w R) * (2 * cen (urow x y w R) k))) / 2048 : ℝ) : EReal) := by
  rw [val_main_v68_apply, at_idx_main_v68, val_main_v67_apply, val_main_cst_18_apply, zero_word_add, Fin.sum_univ_one, at_idx_main_v67,
    val_main_v66_apply, val_main_v65_apply, val_main_cst_17_apply, val_main_v64_apply, val_main_v54_apply, at_idx_main_v54, val_main_v53_apply, val_main_cst_13_apply, zero_word_add,
    val_main_v62_apply, at_idx_main_v62, val_main_v61_apply, val_main_cst_16_apply, zero_word_add]
  simp only [at_idx_main_v53, at_idx_main_v61, val_main_v52_apply, val_main_v60_apply, direct_val hg hx hy hw hl, through_val hg hx hy hw hl]
  show Ideal.div ((∑ k, -((g R k * l k * rs (urow x y w R) : ℝ) : EReal))
    + ∑ k, -((vbr (g R) l (urow x y w R) * (2 * cen (urow x y w R) k) : ℝ) : EReal)) (Ideal.ofBits .f32 0x45000000#32) = _
  simp only [← EReal.coe_neg, coe_sum, ← EReal.coe_add]
  rw [lit_2048, div_coe_coe (by norm_num)]

include hg hx hy hw hl in
/-- The rows' derivatives, entry by entry. -/
theorem du_entry (R : Fin 8192) (C : Fin 2048) :
    val_main_v69 (F := Ideal) x0 x1 x2 x3 x4 (ix2 R C) = ((gradU g x y w l R C : ℝ) : EReal) := by
  rw [val_main_v69_apply, val_main_v63_apply, direct_val hg hx hy hw hl, through_val hg hx hy hw hl, shift_val hg hx hy hw hl]
  show ((_ : ℝ) : EReal) + ((_ : ℝ) : EReal) + ((_ : ℝ) : EReal) = _
  rw [← EReal.coe_add, ← EReal.coe_add, chain_du]
  rfl

include hg hx hy hw hl in
/-- The rows' derivatives. -/
theorem du_val : val_main_v69 (F := Ideal) x0 x1 x2 x3 x4 = duArr g x y w l := by
  funext z
  obtain ⟨R, C, rfl⟩ : ∃ R C, z = ix2 R C := ⟨_, _, eq_ix2 z⟩
  exact du_entry hg hx hy hw hl R C

include hg hx hy hw hl in
/-- The derivatives of the projection's input. -/
theorem dy_val : val_main_v74 (F := Ideal) x0 x1 x2 x3 x4 = dyArr g x y w l := by
  funext z
  obtain ⟨R, C, rfl⟩ : ∃ R C, z = ix2 R C := ⟨_, _, eq_ix2 z⟩
  rw [val_main_v74_apply, val_main_v73_apply]
  simp only [at_lidx_main_v73, at_ridx_main_v73, val_main_v1_apply, du_entry hg hx hy hw hl]
  show ∑ k, ((gradU g x y w l R k : ℝ) : EReal) * x3 (ix2 C k) = _
  simp only [hw, ← EReal.coe_mul, coe_sum]
  rfl

include hg hx hy hw hl in
/-- The derivatives of the projection's weights. -/
theorem dw_val : val_main_v77 (F := Ideal) x0 x1 x2 x3 x4 = dwArr g x y w l := by
  funext z
  obtain ⟨D, C, rfl⟩ : ∃ D C, z = ix2 D C := ⟨_, _, eq_ix2 z⟩
  rw [val_main_v77_apply, val_main_v72_apply, at_idx_main_v72, val_main_v71_apply]
  simp only [at_lidx_main_v71, at_ridx_main_v71, val_main_v0_apply, du_entry hg hx hy hw hl]
  show ∑ k, ((gradU g x y w l k C : ℝ) : EReal) * x2 (ix2 k D) = _
  simp only [hy, ← EReal.coe_mul, coe_sum]
  exact congrArg (fun s : ℝ => (s : EReal)) (Finset.sum_congr rfl fun k _ => mul_comm _ _)

end Stages

end Cert.Norm

end
-- ==== Proof.NormRun.lean ====
module

public import proofs.«01_k».proof.Proof.Gen.Kernel2Ideal.Value

@[expose] public section

-- membership in a rectangle of production extents (`View.cover_of_tiled`): the elaborator's structural look
-- recurses once per coordinate of the long axes
set_option maxRecDepth 16384

noncomputable section

namespace Cert.Norm

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 4000000 in
/-- The body at the last grid point with the weight gradient's buffer kept: the pieces the staging buffers and the accumulator
    end with, as the frame's own run of this case has them, and the eight row blocks copied out, as pieces over what the
    result left in HBM held (`e` is what the copies' source buffer held before the point). -/
noncomputable def copyRun (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg12 : Memref sig .tc .vmem S2048x2048 .f32) (harg12 : arg12.IsWhole) (arg13 : Memref sig .tc .vmem S256x2048 .bf16) (harg13 : arg13.IsWhole) (hc0 : ¬cond0_0 i) (hc1 : cond0_1 i)
    (x0 : Vec F S256x2048 .f32) (x1 : Vec F S256x2048 .f32) (x2 : Vec F S256x1 .f32) (x3 : Vec F S1x2048 .f32) (x4 : Vec F S2048x2048 .bf16) (x5 : Vec F S256x2048 .bf16) (xo8 : Vec F S1x2048 .f32) (xo9 : Vec F S1x2048 .f32) (xs0 : Vec F S2048x2048 .f32) :
    Σ' (L6 : List (View.Piece (Elt F) S256x2048 .bf16)), Σ' (L7 : List (View.Piece (Elt F) S256x2048 .f32)), Σ' (L8 : List (View.Piece (Elt F) S1x2048 .f32)), Σ' (L9 : List (View.Piece (Elt F) S1x2048 .f32)), Σ' (LS0 : List (View.Piece (Elt F) S2048x2048 .f32)), { LH : BufTy.Contents (Elt F) arg13.view.ty → List (View.Piece (Elt F) S2048x2048 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xo8 ∗ owns (c : Thread nD τ) arg10 fullShare xo9 ∗ owns (c : Thread nD τ) arg12 fullShare xs0 ∗ (∃ d, owns (c : Thread nD τ) arg13 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ (∃ f, hbPt0 c hbM0_0 f) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg12.view.loc (c : Thread nD τ) ↦[arg12.view.set]{fullShare} arg12.view.writes (Elt F) f LS0) ∗ (∃ d, owns (c : Thread nD τ) arg13 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ (∃ f e, hbPt0 c hbM0_0 (hbM0_0.view.writes (Elt F) f (LH e))) ∗ (∃ W', owes (c : Thread nD τ) 0 W')) -∗ K ⟨⟩))
          ⊢ wp frame (wpE (defs₀ (F := F)) Variants.none c none) Set.univ (cc0_ln_bwd_dy i arg1 harg1 arg2 harg2 arg3 harg3 arg4 harg4 arg5 harg5 arg6 harg6 arg7 harg7 arg8 harg8 arg9 harg9 arg10 harg10 (Memref.whole main_v21_4) (Memref.isWhole_whole _) arg12 harg12 arg13 harg13 cc0_scoped0 cc0_scoped1 cc0_scoped2 cc0_scoped3 cc0_scoped4 cc0_scoped5 cc0_scoped6 cc0_scoped7) K } := by
  refine ⟨?_, ?_, ?_, ?_, ?_, ?_, fun W K => ?run⟩
  case run =>
    simp only [cc0_ln_bwd_dy_eq_skeleton]; unfold cc0_ln_bwd_dy_skel
    simp only [k0_part3_eq_skeleton, k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, ⟨%ds1, %fs1, -, HS1⟩, Hq0, Hq1, Hq2, Hq3, Hq4, Hq5, Hq6, Hq7, ⟨%fw0, Hh0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9; obtain rfl := harg12.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]
    · iexists _, _; isplitr; swap; · iexact HS1
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hh0]; · iexists _, fs1; iexact Hh0
    iexists _; iexact HW

theorem copyRun_dy (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg12 : Memref sig .tc .vmem S2048x2048 .f32) (harg12 : arg12.IsWhole) (arg13 : Memref sig .tc .vmem S256x2048 .bf16) (harg13 : arg13.IsWhole) (hc0 : ¬cond0_0 i) (hc1 : cond0_1 i)
    (x0 : Vec F S256x2048 .f32) (x1 : Vec F S256x2048 .f32) (x2 : Vec F S256x1 .f32) (x3 : Vec F S1x2048 .f32) (x4 : Vec F S2048x2048 .bf16) (x5 : Vec F S256x2048 .bf16) (xo8 : Vec F S1x2048 .f32) (xo9 : Vec F S1x2048 .f32) (xs0 : Vec F S2048x2048 .f32) :
    (copyRun c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).1 = (kernelRun0_C c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).1 := rfl

theorem copyRun_du (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg12 : Memref sig .tc .vmem S2048x2048 .f32) (harg12 : arg12.IsWhole) (arg13 : Memref sig .tc .vmem S256x2048 .bf16) (harg13 : arg13.IsWhole) (hc0 : ¬cond0_0 i) (hc1 : cond0_1 i)
    (x0 : Vec F S256x2048 .f32) (x1 : Vec F S256x2048 .f32) (x2 : Vec F S256x1 .f32) (x3 : Vec F S1x2048 .f32) (x4 : Vec F S2048x2048 .bf16) (x5 : Vec F S256x2048 .bf16) (xo8 : Vec F S1x2048 .f32) (xo9 : Vec F S1x2048 .f32) (xs0 : Vec F S2048x2048 .f32) :
    (copyRun c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.1 = (kernelRun0_C c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.1 := rfl

theorem copyRun_dg (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg12 : Memref sig .tc .vmem S2048x2048 .f32) (harg12 : arg12.IsWhole) (arg13 : Memref sig .tc .vmem S256x2048 .bf16) (harg13 : arg13.IsWhole) (hc0 : ¬cond0_0 i) (hc1 : cond0_1 i)
    (x0 : Vec F S256x2048 .f32) (x1 : Vec F S256x2048 .f32) (x2 : Vec F S256x1 .f32) (x3 : Vec F S1x2048 .f32) (x4 : Vec F S2048x2048 .bf16) (x5 : Vec F S256x2048 .bf16) (xo8 : Vec F S1x2048 .f32) (xo9 : Vec F S1x2048 .f32) (xs0 : Vec F S2048x2048 .f32) :
    (copyRun c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.2.1 = (kernelRun0_C c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.2.1 := rfl

theorem copyRun_db (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg12 : Memref sig .tc .vmem S2048x2048 .f32) (harg12 : arg12.IsWhole) (arg13 : Memref sig .tc .vmem S256x2048 .bf16) (harg13 : arg13.IsWhole) (hc0 : ¬cond0_0 i) (hc1 : cond0_1 i)
    (x0 : Vec F S256x2048 .f32) (x1 : Vec F S256x2048 .f32) (x2 : Vec F S256x1 .f32) (x3 : Vec F S1x2048 .f32) (x4 : Vec F S2048x2048 .bf16) (x5 : Vec F S256x2048 .bf16) (xo8 : Vec F S1x2048 .f32) (xo9 : Vec F S1x2048 .f32) (xs0 : Vec F S2048x2048 .f32) :
    (copyRun c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.2.2.1 = (kernelRun0_C c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.2.2.1 := rfl

theorem copyRun_acc (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x1 .f32) (harg3 : arg3.IsWhole) (arg4 : Memref sig .tc .vmem S1x2048 .f32) (harg4 : arg4.IsWhole) (arg5 : Memref sig .tc .vmem S2048x2048 .bf16) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S256x2048 .f32) (harg8 : arg8.IsWhole) (arg9 : Memref sig .tc .vmem S1x2048 .f32) (harg9 : arg9.IsWhole) (arg10 : Memref sig .tc .vmem S1x2048 .f32) (harg10 : arg10.IsWhole) (arg12 : Memref sig .tc .vmem S2048x2048 .f32) (harg12 : arg12.IsWhole) (arg13 : Memref sig .tc .vmem S256x2048 .bf16) (harg13 : arg13.IsWhole) (hc0 : ¬cond0_0 i) (hc1 : cond0_1 i)
    (x0 : Vec F S256x2048 .f32) (x1 : Vec F S256x2048 .f32) (x2 : Vec F S256x1 .f32) (x3 : Vec F S1x2048 .f32) (x4 : Vec F S2048x2048 .bf16) (x5 : Vec F S256x2048 .bf16) (xo8 : Vec F S1x2048 .f32) (xo9 : Vec F S1x2048 .f32) (xs0 : Vec F S2048x2048 .f32) :
    (copyRun c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.2.2.2.1 = (kernelRun0_C c i arg1 harg1 arg2 harg2 arg3 harg3 arg4 harg4 arg5 harg5 arg6 harg6 arg7 harg7 arg8 harg8 arg9 harg9 arg10 harg10 arg12 harg12 arg13 harg13 hc0 hc1 x0 x1 x2 x3 x4 x5 xo8 xo9 xs0).2.2.2.2.1 := rfl

end Cert.Norm

end
-- ==== Proof.NormCopy.lean ====
/-
The launch of the layer norm's backward call with the weight gradient named. The frame's own run holds that result, which the
body copies out of scratch into HBM at the last grid point, at some contents; here the invariant after the last point holds it
at given contents `Gw`, under the hypothesis that the copies always leave those, and the run's post states them.
-/
module

public import proofs.«01_k».proof.Proof.NormRun
public import Idealize.ShloMosaic.Lib.Pipeline.FrameValue

@[expose] public section

set_option maxRecDepth 16384

noncomputable section

namespace Cert.Norm

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
  (Gw : (c : Dev nD) → HbBuf0 (F := F) c hbM0_0)

/-- The eight row blocks the body copies out at point `t`, the last one, as pieces of the result left in HBM. -/
def copied (c : Dev nD) (t : Fin cfg0.N) (h0 : ¬t.val % 32 = 0) (h1 : t.val % 32 = 31)
    (e : BufTy.Contents (Elt F) (scM0_1).view.ty) : List (View.Piece (Elt F) S2048x2048 .bf16) :=
  (copyRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2.2.1 e

/-- The invariant after the last point: the frame's, with the result left in HBM at `Gw`. -/
def endPhi (c : Dev nD) (t : Fin cfg0.N) : sProp 𝕄 :=
  iprop(iprop(owns (c : Thread nD τ) scM0_0 fullShare ((outsAt0 m c t.val t.isLt).2.2.2.2) ∗ (∃ d, owns (c : Thread nD τ) scM0_1 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(emp) ∗ iprop(hbPt0 c hbM0_0 (Gw c)))

variable (hG : ∀ c t h0 h1 f e, hbM0_0.view.writes (Elt F) f (copied m c t h0 h1 e) = Gw c)

include hG in
set_option maxHeartbeats 14400000 in
/-- The body at the last point: from what the frame calls it with, it returns the windows as the frame has them and the
    invariant with the weight gradient at `Gw`. -/
theorem last_body (c : Dev nD) (t : Fin cfg0.N) (h0 : ¬t.val % 32 = 0) (h1 : t.val % 32 = 31) :
    bodyPre m c t ⊢ wp frame (wpE (defs₀ (F := F)) Variants.none c none) Set.univ (bodyAt0 t) (fun _ =>
    iprop(endPhi m Gw c t ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))) := by
  unfold copied at hG
  unfold bodyPre bodyAt0 endPhi
  simp only [before0_0, before0_1, before0_2, before0_3, before0_4, before0_5]
  rw [after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hz : t.val ≠ 0 := by omega
  rw [PhiS_castSucc m c t, PhiS_pos m c _ _ hz]
  rw [outsAt0_C m c t h0 h1]
  simp only [before0_8_C m c t h0 h1, before0_9_C m c t h0 h1]
  unfold out0_C_6 out0_C_7 out0_C_8 out0_C_9 sout0_C_0; (try dsimp only)
  iintro ⟨⟨⟨HS0, HS1⟩, Hg, ⟨Hq0, Hq1, Hq2, Hq3, Hq4, Hq5, Hq6, Hq7⟩, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((copyRun c (grid0.coords t) _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hh0]; · iexact Hh0
  isplitl [HW]; · iexact HW
  iintro ⟨H0, H1, H2, H3, H4, H5, ⟨%e6, H6⟩, ⟨%e7, H7⟩, ⟨%e8, H8⟩, ⟨%e9, H9⟩, ⟨%es0, HS0⟩, HS1, Hq0, Hq1, Hq2, Hq3, Hq4, Hq5, Hq6, Hq7, ⟨%fh, %eh, Hh0⟩, ⟨%W', HW'⟩⟩
  rw [hG c t h0 h1 fh eh]
  isplitl [HS0 HS1 Hg Hq0 Hq1 Hq2 Hq3 Hq4 Hq5 Hq6 Hq7 Hh0]
  · isplitl [HS0 HS1]
    · isplitl [HS0]
      · unfold owns; iexists _; isplitr
        swap; · iexact HS0
        ipureintro; rw [copyRun_acc]; exact View.read_writes_of_cover _ _ _ _ _ (scover0_C_0 c _ _ _ _ _ _ _ _ _ _ _ _ _ _ _ _ _ _ _ _ _ _ _ _ _ _ _ _ _ _ _ _ _ _ _ _)
      iexact HS1
    isplitl [Hg]
    · iexact Hg
    isplitl [Hq0 Hq1 Hq2 Hq3 Hq4 Hq5 Hq6 Hq7]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitr; · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; rw [copyRun_dy]; exact View.read_writes_of_cover _ _ _ _ _ (cover0_C_6 c _ _ _ _ _ _ _ _ _ _ _ _ _ _ _ _ _ _ _ _ _ _ _ _ _ _ _ _ _ _ _ _ _ _ _ _)
  isplitl [H7]
  · unfold owns; iexists _; isplitr
    swap; · iexact H7
    ipureintro; rw [copyRun_du]; exact View.read_writes_of_cover _ _ _ _ _ (cover0_C_7 c _ _ _ _ _ _ _ _ _ _ _ _ _ _ _ _ _ _ _ _ _ _ _ _ _ _ _ _ _ _ _ _ _ _ _ _)
  isplitl [H8]
  · unfold owns; iexists _; isplitr
    swap; · iexact H8
    ipureintro; rw [copyRun_dg]; exact View.read_writes_of_cover _ _ _ _ _ (cover0_C_8 c _ _ _ _ _ _ _ _ _ _ _ _ _ _ _ _ _ _ _ _ _ _ _ _ _ _ _ _ _ _ _ _ _ _ _ _)
  unfold owns; iexists _; isplitr
  swap; · iexact H9
  ipureintro; rw [copyRun_db]; exact View.read_writes_of_cover _ _ _ _ _ (cover0_C_9 c _ _ _ _ _ _ _ _ _ _ _ _ _ _ _ _ _ _ _ _ _ _ _ _ _ _ _ _ _ _ _ _ _ _ _ _)

/-- The proof data with the weight gradient named: the frame's, its invariant after the last point replaced by `endPhi`. -/
def keptPhi (c : Dev nD) (t : Fin (cfg0.N + 1)) : sProp 𝕄 :=
  if h : t.val = 32 then endPhi m Gw c ⟨31, Nat.lt_of_lt_of_eq (by omega) N_0.symm⟩ else (dats m 0 c).Φ t

/-- Proof data with its invariant replaced. -/
def withPhi {c : Dev nD} (d : Dat τ (Elt F) Unit ℕ (Pipeline.UD sig nD τ) ℕ cfg0 c) (Φ : Fin (cfg0.N + 1) → sProp 𝕄) :
    Dat τ (Elt F) Unit ℕ (Pipeline.UD sig nD τ) ℕ cfg0 c := { d with Φ := Φ }

/-- The launch's proof data. -/
def kept (_ : Fin 1) (c : Dev nD) : Dat τ (Elt F) Unit ℕ (Pipeline.UD sig nD τ) ℕ cfg0 c :=
  withPhi (dats m 0 c) (keptPhi m Gw c)

/-- What a window holds before a point does not depend on the invariant, -/
theorem before_withPhi {c : Dev nD} (d : Dat τ (Elt F) Unit ℕ (Pipeline.UD sig nD τ) ℕ cfg0 c) (Φ : Fin (cfg0.N + 1) → sProp 𝕄)
    (w : Fin cfg0.W) (t : Fin cfg0.N) (e) : (withPhi d Φ).before w t e = d.before w t e := rfl

/-- nor what its array holds after a number of points, -/
theorem arrAt_withPhi {c : Dev nD} (d : Dat τ (Elt F) Unit ℕ (Pipeline.UD sig nD τ) ℕ cfg0 c) (Φ : Fin (cfg0.N + 1) → sProp 𝕄)
    (w : Fin cfg0.W) (n : ℕ) : (withPhi d Φ).arrAt w n = d.arrAt w n := by
  induction n with
  | zero => rfl
  | succ n ih =>
    by_cases h : n < cfg0.N
    · have e := d.arrAt_succ w ⟨n, h⟩
      have e' := (withPhi d Φ).arrAt_succ w ⟨n, h⟩
      simp only [] at e e'
      rw [e, e', ih]; rfl
    · funext i
      rw [Dat.arrAt_succ_apply, Dat.arrAt_succ_apply, ih]; rfl

/-- nor what the core owes. -/
theorem owes_withPhi {c : Dev nD} (d : Dat τ (Elt F) Unit ℕ (Pipeline.UD sig nD τ) ℕ cfg0 c) (Φ : Fin (cfg0.N + 1) → sProp 𝕄)
    (t : Fin (cfg0.N + 1)) : ((withPhi d Φ).owesAt () t : sProp 𝕄) = d.owesAt () t := rfl

/-- Before the last point has run the invariant is the frame's, -/
theorem kept_before (c : Dev nD) (t : Fin (cfg0.N + 1)) (h : t.val ≠ 32) : (kept m Gw 0 c).Φ t = (dats m 0 c).Φ t :=
  dif_neg h

/-- and after it `endPhi`. -/
theorem kept_end (c : Dev nD) (t : Fin (cfg0.N + 1)) (h : t.val = 32) :
    (kept m Gw 0 c).Φ t = endPhi m Gw c ⟨31, Nat.lt_of_lt_of_eq (by omega) N_0.symm⟩ :=
  dif_pos h

include hG in
set_option maxHeartbeats 4000000 in
/-- The body at any point, for the proof data with the weight gradient named. -/
theorem kept_body (c : Dev nD) (t : Fin cfg0.N) :
    iprop((kept m Gw 0 c).Φ t.castSucc ∗ (kept m Gw 0 c).owesAt () t.castSucc
    ∗ (∃ d, owns (c : Thread nD τ) (ms0_0 t) fullShare ((kept m Gw 0 c).before 0 t d))
    ∗ (∃ d, owns (c : Thread nD τ) (ms0_1 t) fullShare ((kept m Gw 0 c).before 1 t d))
    ∗ (∃ d, owns (c : Thread nD τ) (ms0_2 t) fullShare ((kept m Gw 0 c).before 2 t d))
    ∗ (∃ d, owns (c : Thread nD τ) (ms0_3 t) fullShare ((kept m Gw 0 c).before 3 t d))
    ∗ (∃ d, owns (c : Thread nD τ) (ms0_4 t) fullShare ((kept m Gw 0 c).before 4 t d))
    ∗ (∃ d, owns (c : Thread nD τ) (ms0_5 t) fullShare ((kept m Gw 0 c).before 5 t d))
    ∗ (∃ d, owns (c : Thread nD τ) (ms0_6 t) fullShare ((kept m Gw 0 c).before 6 t d))
    ∗ (∃ d, owns (c : Thread nD τ) (ms0_7 t) fullShare ((kept m Gw 0 c).before 7 t d))
    ∗ (∃ d, owns (c : Thread nD τ) (ms0_8 t) fullShare ((kept m Gw 0 c).before 8 t d))
    ∗ (∃ d, owns (c : Thread nD τ) (ms0_9 t) fullShare ((kept m Gw 0 c).before 9 t d))) ⊢ wp frame (wpE (defs₀ (F := F)) Variants.none c none) Set.univ (bodyAt0 t) (fun _ =>
    iprop((kept m Gw 0 c).Φ t.succ ∗ (kept m Gw 0 c).owesAt () t.succ
    ∗ owns (c : Thread nD τ) (ms0_0 t) fullShare ((kept m Gw 0 c).after 0 t)
    ∗ owns (c : Thread nD τ) (ms0_1 t) fullShare ((kept m Gw 0 c).after 1 t)
    ∗ owns (c : Thread nD τ) (ms0_2 t) fullShare ((kept m Gw 0 c).after 2 t)
    ∗ owns (c : Thread nD τ) (ms0_3 t) fullShare ((kept m Gw 0 c).after 3 t)
    ∗ owns (c : Thread nD τ) (ms0_4 t) fullShare ((kept m Gw 0 c).after 4 t)
    ∗ owns (c : Thread nD τ) (ms0_5 t) fullShare ((kept m Gw 0 c).after 5 t)
    ∗ owns (c : Thread nD τ) (ms0_6 t) fullShare ((kept m Gw 0 c).after 6 t)
    ∗ owns (c : Thread nD τ) (ms0_7 t) fullShare ((kept m Gw 0 c).after 7 t)
    ∗ owns (c : Thread nD τ) (ms0_8 t) fullShare ((kept m Gw 0 c).after 8 t)
    ∗ owns (c : Thread nD τ) (ms0_9 t) fullShare ((kept m Gw 0 c).after 9 t))) := by
  have hN : t.val < 32 := lt_of_lt_of_eq t.isLt N_0
  have e0 : (kept m Gw 0 c).Φ t.castSucc = (dats m 0 c).Φ t.castSucc :=
    dif_neg (show ¬(t.castSucc : Fin (cfg0.N + 1)).val = 32 from by rw [Fin.val_castSucc]; omega)
  by_cases h : t.val = 31
  · have e1 : (kept m Gw 0 c).Φ t.succ = endPhi m Gw c t := by
      refine (dif_pos (show (t.succ : Fin (cfg0.N + 1)).val = 32 from by rw [Fin.val_succ]; omega)).trans ?_
      exact congrArg (endPhi m Gw c) (Fin.ext h.symm)
    rw [e0, e1]
    exact last_body m Gw hG c t (by omega) (by omega)
  · have e1 : (kept m Gw 0 c).Φ t.succ = (dats m 0 c).Φ t.succ :=
      dif_neg (show ¬(t.succ : Fin (cfg0.N + 1)).val = 32 from by rw [Fin.val_succ]; omega)
    rw [e0, e1]
    exact sound_body m c t

include hG in
/-- The body obligation of the launch. -/
theorem kept_obligation (c : Dev nD) : BodyObligation (kept m Gw 0 c) (defs₀ (F := F)) Variants.none () Set.univ := fun t => by
  rw [bigSep_W0, bigSep_W0, defs₀_row]
  exact triple_restated (kept_body m Gw hG c t) rfl .rfl fun _ => .rfl

/-- The contents of the buffers the body writes by its own copies, after the run. -/
def after (c : Dev nD) (b : Ref sig .tc) : Buf (Elt F) ((c.tc : Thread nD τ).loc b) :=
  Function.update (V m c) main_v21_4 (Gw c) b

/-- The launch's state before the region is the invariant before the first point. -/
theorem kept_in (c : Dev nD) : Pipeline.ΦDRG osem0 spec0 H0 R0 (V m) (V m) c ⊢ (kept m Gw 0 c).Φ 0 := by
  rw [kept_before m Gw c 0 (by rw [Fin.val_zero]; omega)]
  exact (Pipeline.ΦDRG_ΦDR osem0 spec0 H0 R0 (V m) (V m) c).trans (hin m c)

/-- The launch's invariant with the written buffer at given contents, conjunct by conjunct. -/
theorem named_eq (c : Dev nD) :
    (Pipeline.ΦDRG osem0 spec0 H0 R0 (V m) (after m Gw) c : sProp 𝕄) = iprop(iprop((∃ d, owns (c : Thread nD τ) scM0_0 fullShare d) ∗ (∃ d, owns (c : Thread nD τ) scM0_1 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) ∗ iprop(emp) ∗ iprop(hbPt0 c hbM0_0 (Gw c))) := by
  rw [Pipeline.ΦDRG_eq, scopedRest0_eq, ownSems00_eq, hbmPts0_eq, show R0 = {main_v21_4} from rfl, Pipeline.routed_singleton,
    show after m Gw c main_v21_4 = Gw c from Function.update_self _ _ _]
  simp only [scM0_0, scM0_1, owns_whole]; rfl

/-- The invariant after the last point gives the launch's state back, the weight gradient at `Gw`. -/
theorem kept_out (c : Dev nD) : (kept m Gw 0 c).Φ (Fin.last cfg0.N) ⊢ Pipeline.ΦDRG osem0 spec0 H0 R0 (V m) (after m Gw) c := by
  rw [kept_end m Gw c (Fin.last cfg0.N) (by rw [Fin.val_last]; exact N_0), named_eq]
  unfold endPhi
  iintro ⟨⟨HS0, HS1⟩, Hrest⟩
  isplitl [HS0 HS1]
  · isplitl [HS0]
    · iexists _; iexact HS0
    iexact HS1
  iexact Hrest

include hG in
set_option backward.isDefEq.respectTransparency.types false in
/-- The run: every array a window stages ends as in the frame's run, and the weight gradient at `Gw`. -/
theorem run_kept : θ_run defs (onTc (τ := τ) (main (F := F))) (s₀ m ρ) (fun r => Pipeline.FramePostR cfgs (dats m) 0 R0 (V m) r
    ∧ ∀ c : Dev nD, r.2.mem ((c : Thread nD τ).loc main_v21_4) = Gw c) :=
  Pipeline.θ_run_frame_dmaRG cfgs (kept m Gw) (0 : Fin 1) launch0 osem0 defs₀ Variants.none ownSemFacts0 H0 R0 H0_sub R0_sub m ρ main
    (hbody := fun c => (kept_obligation m Gw hG c).loose) (hshare := fun c => (kept m Gw 0 c).share_full fun _ => rfl)
    (howed := fun _ _ => rfl) (V := V m) (hmain := hmain m Variants.none) (hA := A_eq m) (G := after m Gw)
    (hin := kept_in m Gw) (hout := kept_out m Gw) (Q' := _)
    (hQ' := fun r h => ⟨fun c => ⟨fun w => ((h.1.1 c).1 w).trans (arrAt_withPhi (dats m 0 c) (keptPhi m Gw c) w cfg0.N), (h.1.1 c).2⟩,
      fun c => (h.1.2 c main_v21_4 (Finset.mem_singleton_self _)).trans (Function.update_self _ _ _)⟩)

end Cert.Norm

end
-- ==== Proof.NormDw.lean ====
module

public import proofs.«01_k».proof.Proof.NormCopy
public import proofs.«01_k».proof.Proof.NormArray
public import Idealize.ShloMosaic.Lib.VecWindow

@[expose] public section

set_option maxRecDepth 16384

noncomputable section

namespace Cert.Norm

open Cert.Mem Cert.Kernel2Ideal Cert.Kernel2Ideal.Gen
open Idealize.ShloMosaic Idealize.ShloMosaic.TcCoe Idealize.ShloMosaic.ValueKit

variable (m : (ℓ : Loc nD τ sig) → Buf (Elt Ideal) ℓ)

/-- A store of the copies' whole source buffer leaves the payload, whatever it held. -/
theorem last_store (e : BufTy.Contents (Elt Ideal) (scM0_1).view.ty) (w : S256x2048.Idx → Elt Ideal .bf16)
    (inb : ∀ a, (![0, 0] : Fin 2 → ℕ) a + S256x2048.size a ≤ S256x2048.size a) (L : List (View.Piece (Elt Ideal) S256x2048 .bf16))
    (x : S256x2048.Idx) :
    View.read (Elt Ideal) (scM0_1).view ((scM0_1).view.writes (Elt Ideal) e (⟨Rect.unit (s := S256x2048) ![0, 0] S256x2048.size inb, w⟩ :: L)) x = w x :=
  congrFun (View.read_writes_full (scM0_1).view e inb w L) x

/-- A load of 256 rows of the accumulator, just stored whole, reads those rows. -/
theorem read_rows (A : Vec Ideal S2048x2048 .f32) (inb : ∀ a, (![0, 0] : Fin 2 → ℕ) a + S2048x2048.size a ≤ S2048x2048.size a)
    (off : Fin 2 → ℕ) (inb' : ∀ a, off a + S256x2048.size a ≤ S2048x2048.size a) (x : S256x2048.Idx) :
    (View.whole cc0_scratch0).readCov (Val := Elt Ideal) [⟨Rect.unit (s := S2048x2048) ![0, 0] S2048x2048.size inb, A⟩]
      (Rect.unit (s := S2048x2048) off S256x2048.size inb').toLoadRect x = A ((Rect.unit (s := S2048x2048) off S256x2048.size inb').emb x) := by
  have e := View.read_writes_full (Val := Elt Ideal) (View.whole cc0_scratch0) ((View.whole cc0_scratch0).junk (Val := Elt Ideal)) inb A []
  unfold View.readCov
  rw [View.readAt_apply]
  exact congrFun e ((Rect.unit (s := S2048x2048) off S256x2048.size inb').idx x)

theorem cast_5 (v : Vec Ideal S256x2048 .f32) (x : S256x2048.Idx) : k0_pay5 (F := Ideal) v x = v x := by
  obtain ⟨r, e, rfl⟩ : ∃ r e, x = ix2 r e := ⟨_, _, eq_ix2 x⟩
  unfold k0_pay5; pointwise

theorem cast_6 (v : Vec Ideal S256x2048 .f32) (x : S256x2048.Idx) : k0_pay6 (F := Ideal) v x = v x := by
  obtain ⟨r, e, rfl⟩ : ∃ r e, x = ix2 r e := ⟨_, _, eq_ix2 x⟩
  unfold k0_pay6; pointwise

theorem cast_7 (v : Vec Ideal S256x2048 .f32) (x : S256x2048.Idx) : k0_pay7 (F := Ideal) v x = v x := by
  obtain ⟨r, e, rfl⟩ : ∃ r e, x = ix2 r e := ⟨_, _, eq_ix2 x⟩
  unfold k0_pay7; pointwise

theorem cast_8 (v : Vec Ideal S256x2048 .f32) (x : S256x2048.Idx) : k0_pay8 (F := Ideal) v x = v x := by
  obtain ⟨r, e, rfl⟩ : ∃ r e, x = ix2 r e := ⟨_, _, eq_ix2 x⟩
  unfold k0_pay8; pointwise

theorem cast_11 (v : Vec Ideal S256x2048 .f32) (x : S256x2048.Idx) : k0_pay11 (F := Ideal) v x = v x := by
  obtain ⟨r, e, rfl⟩ : ∃ r e, x = ix2 r e := ⟨_, _, eq_ix2 x⟩
  unfold k0_pay11; pointwise

theorem cast_12 (v : Vec Ideal S256x2048 .f32) (x : S256x2048.Idx) : k0_pay12 (F := Ideal) v x = v x := by
  obtain ⟨r, e, rfl⟩ : ∃ r e, x = ix2 r e := ⟨_, _, eq_ix2 x⟩
  unfold k0_pay12; pointwise

theorem cast_13 (v : Vec Ideal S256x2048 .f32) (x : S256x2048.Idx) : k0_pay13 (F := Ideal) v x = v x := by
  obtain ⟨r, e, rfl⟩ : ∃ r e, x = ix2 r e := ⟨_, _, eq_ix2 x⟩
  unfold k0_pay13; pointwise

theorem cast_9 (v : Vec Ideal S256x2048 .f32) (x : S256x2048.Idx) : k0_pay10 (F := Ideal) (k0_pay9 v) x = v x := by
  obtain ⟨r, e, rfl⟩ : ∃ r e, x = ix2 r e := ⟨_, _, eq_ix2 x⟩
  unfold k0_pay10 k0_pay9; pointwise

/-- Each block copied out at the last point is what the accumulator ends with at its rows. -/
theorem pieces (c : Dev nD) (t : Fin cfg0.N) (h0 : ¬t.val % 32 = 0) (h1 : t.val % 32 = 31) (e) :
    ∀ p ∈ copied m c t h0 h1 e, ∀ x : p.1.shape.Idx, p.2 x = (outsAt0 m c t.val t.isLt).2.2.2.2 (p.1.emb x) := by
  rw [point_dw_next m c t h0]
  unfold copied copyRun
  dsimp only
  simp only [List.forall_mem_cons, List.not_mem_nil, false_implies, implies_true, and_true]
  refine ⟨fun x => ?_, fun x => ?_, fun x => ?_, fun x => ?_, fun x => ?_, fun x => ?_, fun x => ?_, fun x => ?_⟩
  · frame_out; rw [read_unread_whole]; exact ((last_store _ _ _ _ x).trans (cast_5 _ x)).trans (read_rows _ _ _ _ x)
  · frame_out; rw [read_unread_whole]; exact ((last_store _ _ _ _ x).trans (cast_13 _ x)).trans (read_rows _ _ _ _ x)
  · frame_out; rw [read_unread_whole]; exact ((last_store _ _ _ _ x).trans (cast_12 _ x)).trans (read_rows _ _ _ _ x)
  · frame_out; rw [read_unread_whole]; exact ((last_store _ _ _ _ x).trans (cast_11 _ x)).trans (read_rows _ _ _ _ x)
  · frame_out; rw [read_unread_whole]; exact ((last_store _ _ _ _ x).trans (cast_9 _ x)).trans (read_rows _ _ _ _ x)
  · frame_out; rw [read_unread_whole]; exact ((last_store _ _ _ _ x).trans (cast_8 _ x)).trans (read_rows _ _ _ _ x)
  · frame_out; rw [read_unread_whole]; exact ((last_store _ _ _ _ x).trans (cast_7 _ x)).trans (read_rows _ _ _ _ x)
  · frame_out; rw [read_unread_whole]; exact ((last_store _ _ _ _ x).trans (cast_6 _ x)).trans (read_rows _ _ _ _ x)

/-- Every entry of the weight gradient's buffer lies in a copied block. -/
theorem covered (c : Dev nD) (t : Fin cfg0.N) (h0 : ¬t.val % 32 = 0) (h1 : t.val % 32 = 31) (e) (z : S2048x2048.Idx) :
    ∃ p ∈ copied m c t h0 h1 e, z ∈ p.1.set :=
  View.cover_of_tiledL (copied m c t h0 h1 e) ![256, 2048] (by sl_kernel_rfl) z

/-- Two arrays of the weight gradient's buffer that read alike are one. -/
theorem eq_of_read (f : BufTy.Contents (Elt Ideal) hbM0_0.view.ty) (A : Vec Ideal S2048x2048 .bf16)
    (h : ∀ z : S2048x2048.Idx, View.read (Elt Ideal) hbM0_0.view f z = A z) : f = A := funext h

section Weights

variable {G X Y : Dev nD → Fin 8192 → Fin 2048 → ℝ} {W : Dev nD → Fin 2048 → Fin 2048 → ℝ} {L : Dev nD → Fin 2048 → ℝ}
variable (hG : ∀ c R C, (m ((c : Thread nD τ).loc main_arg0) : Vec Ideal S8192x2048 .f32) (ix2 R C) = ((G c R C : ℝ) : EReal))
variable (hX : ∀ c R C, (m ((c : Thread nD τ).loc main_arg1) : Vec Ideal S8192x2048 .f32) (ix2 R C) = ((X c R C : ℝ) : EReal))
variable (hY : ∀ c R C, (m ((c : Thread nD τ).loc main_arg2) : Vec Ideal S8192x2048 .bf16) (ix2 R C) = ((Y c R C : ℝ) : EReal))
variable (hW : ∀ c R C, (m ((c : Thread nD τ).loc main_arg3) : Vec Ideal S2048x2048 .bf16) (ix2 R C) = ((W c R C : ℝ) : EReal))
variable (hL : ∀ c C, (m ((c : Thread nD τ).loc main_arg4) : Vec Ideal S2048 .f32) (ix1 C) = ((L c C : ℝ) : EReal))
include hG hX hY hW hL

/-- The copies leave the weight gradient, whatever the buffer held. -/
theorem copied_dw (c : Dev nD) (t : Fin cfg0.N) (h0 : ¬t.val % 32 = 0) (h1 : t.val % 32 = 31) (f e) :
    hbM0_0.view.writes (Elt Ideal) f (copied m c t h0 h1 e) = dwArr (G c) (X c) (Y c) (W c) (L c) := by
  have hN : cfg0.N = 32 := N_0
  have hr : ∀ z : S2048x2048.Idx, View.read (Elt Ideal) hbM0_0.view (hbM0_0.view.writes (Elt Ideal) f (copied m c t h0 h1 e)) z
      = dwArr (G c) (X c) (Y c) (W c) (L c) z := fun z => by
    refine (View.read_writes_apply_of_pieces hbM0_0.view f _ (copied m c t h0 h1 e) (pieces m c t h0 h1 e) z (covered m c t h0 h1 e z)).trans ?_
    obtain ⟨i, j, rfl⟩ : ∃ i j, z = ix2 i j := ⟨_, _, eq_ix2 z⟩
    refine last_dw m c (hG c) (hX c) (hY c) (hW c) (hL c) t (by have := t.isLt; omega) i j
  exact eq_of_read _ _ hr

/-- The run, with each result's array named: the four the windows stage, and the weight gradient. -/
theorem run_named (ρ) : θ_run defs (onTc (τ := τ) (main (F := Ideal))) ⟨m, fun _ => 0, ρ⟩ fun r => ∀ c : Dev nD,
      r.2.mem ((c : Thread nD τ).loc main_v21_0) = dyArr (G c) (X c) (Y c) (W c) (L c)
      ∧ r.2.mem ((c : Thread nD τ).loc main_v21_1) = duArr (G c) (X c) (Y c) (W c) (L c)
      ∧ r.2.mem ((c : Thread nD τ).loc main_v21_2) = dgArr (G c) (X c) (Y c) (W c)
      ∧ r.2.mem ((c : Thread nD τ).loc main_v21_3) = dbArr (G c)
      ∧ r.2.mem ((c : Thread nD τ).loc main_v21_4) = dwArr (G c) (X c) (Y c) (W c) (L c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(Value.post6 m r h.1 c).trans (array_dy m c (hG c) (hX c) (hY c) (hW c) (hL c)),
      (Value.post7 m r h.1 c).trans (array_du m c (hG c) (hX c) (hY c) (hW c) (hL c)),
      (Value.post8 m r h.1 c).trans (array_dg m c (hG c) (hX c) (hY c) (hW c)),
      (Value.post9 m r h.1 c).trans (array_db m c (hG c)),
      h.2 c,
      Value.kept_main_arg0 m r h.1 c,
      Value.kept_main_arg1 m r h.1 c,
      Value.kept_main_arg2 m r h.1 c,
      Value.kept_main_arg3 m r h.1 c,
      Value.kept_main_arg4 m r h.1 c⟩)
    (run_kept m ρ (fun c => dwArr (G c) (X c) (Y c) (W c) (L c)) (copied_dw m hG hX hY hW hL))

end Weights

end Cert.Norm
-- ==== Proof.NormFinite.lean ====
/-
  The precondition of the layer norm's claim read: every entry of the five arguments is a real number.
-/
module

public import proofs.«01_k».proof.Proof.Gen.Pre_finite2
public import proofs.«01_k».proof.Proof.MemFinite

@[expose] public section

set_option maxRecDepth 16384

noncomputable section

namespace Cert.Norm

open Idealize.ShloMosaic Cert.Mem Cert.Pre_finite2 Cert.Pre_finite2.Facts

instance : Subsingleton Cert.Pre_finite2.S_.Idx := ⟨fun a b => funext fun i => i.elim0⟩

section Read

variable [Cert.Pre_finite2.Facts]
variable (x0 x1 : FVec Ideal S8192x2048 .f32) (x2 : FVec Ideal S8192x2048 .bf16)
variable (x3 : FVec Ideal S2048x2048 .bf16) (x4 : FVec Ideal S2048 .f32)

/-- What the precondition says, entry by entry. -/
theorem finite_of_pre (h : Cert.Pre_finite2.fn (F := Ideal) x0 x1 x2 x3 x4 = fun _ => 1#1) :
    (∀ R C, x0 (ix2 R C) = (((x0 (ix2 R C) : EReal).toReal : ℝ) : EReal)) ∧ (∀ R C, x1 (ix2 R C) = (((x1 (ix2 R C) : EReal).toReal : ℝ) : EReal))
    ∧ (∀ R C, x2 (ix2 R C) = (((x2 (ix2 R C) : EReal).toReal : ℝ) : EReal)) ∧ (∀ R C, x3 (ix2 R C) = (((x3 (ix2 R C) : EReal).toReal : ℝ) : EReal))
    ∧ (∀ C, x4 (ix1 C) = (((x4 (ix1 C) : EReal).toReal : ℝ) : EReal)) := by
  have hz := congrFun h (Shape.Idx.first h_S_)
  unfold Cert.Pre_finite2.fn Cert.Pre_finite2.fn_part1 at hz
  dsimp only [andi] at hz
  obtain ⟨h0123, h4⟩ := scalar_and _ _ hz
  obtain ⟨h012, h3⟩ := scalar_and _ _ h0123
  obtain ⟨h01, h2⟩ := scalar_and _ _ h012
  obtain ⟨h0, h1⟩ := scalar_and _ _ h01
  refine ⟨fun R C => ?_, fun R C => ?_, fun R C => ?_, fun R C => ?_, fun C => ?_⟩
  · refine real_of_lt_top _ (Eq.trans ?_ (Host.reduce_andi_all _ _ _ _ _ h0 (ix2 R C)))
    rw [← ofBits_top]; rfl
  · refine real_of_lt_top _ (Eq.trans ?_ (Host.reduce_andi_all _ _ _ _ _ h1 (ix2 R C)))
    rw [← ofBits_top]; rfl
  · refine real_of_lt_top _ (Eq.trans ?_ (Host.reduce_andi_all _ _ _ _ _ h2 (ix2 R C)))
    rw [← ofBits_top]; rfl
  · refine real_of_lt_top _ (Eq.trans ?_ (Host.reduce_andi_all _ _ _ _ _ h3 (ix2 R C)))
    rw [← ofBits_top]; rfl
  · refine real_of_lt_top _ (Eq.trans ?_ (Host.reduce_andi_all _ _ _ _ _ h4 (ix1 C)))
    rw [← ofBits_top]; rfl

end Read

end Cert.Norm

end
-- ==== Proof.ProjMath.lean ====
/-
  The output projection's forward pass over the extended reals: the gate, the projected rows, and the layer norm of a row.
-/
module

public import Idealize.ShloMosaic.Lib.Pointwise
public import Idealize.ShloMosaic.Lib.ValueIdx

@[expose] public section

noncomputable section

namespace Cert.Proj

open Idealize.ShloMosaic

/-- `z` times its sigmoid. -/
def gate (z : EReal) : EReal := z * Ideal.div 1 (1 + Ideal.exp (-z))

/-- The column of the first projection that gates column `C` of the mixed activations. -/
def gateCol (C : Fin 2048) : Fin 7168 :=
  ⟨if C.val < 1024 then 3072 + C.val else if C.val < 1536 then 4096 + C.val else 5120 + C.val, by split_ifs <;> omega⟩

/-- A column of the first projection that gates the linear attention. -/
def linCol (j : Fin 1024) : Fin 7168 := ⟨3072 + j.val, by omega⟩
/-- A column that gates the attention. -/
def attnCol (j : Fin 512) : Fin 7168 := ⟨5120 + j.val, by omega⟩
/-- A column that gates the memory attention. -/
def memCol (j : Fin 512) : Fin 7168 := ⟨6656 + j.val, by omega⟩

/-- The gated activations. -/
def gated (h : Fin 8192 → Fin 7168 → EReal) (r : Fin 8192 → Fin 2048 → EReal) (R : Fin 8192) (C : Fin 2048) : EReal :=
  r R C * gate (h R (gateCol C))

/-- The rows before the normalisation: the scaled residual and the projection of the gated activations. -/
def rows (h : Fin 8192 → Fin 7168 → EReal) (r : Fin 8192 → Fin 2048 → EReal) (w : Fin 2048 → Fin 2048 → EReal)
    (x : Fin 8192 → Fin 2048 → EReal) (R : Fin 8192) (C : Fin 2048) : EReal :=
  Ideal.ofBits .f32 0x3FD744FD#32 * x R C + ∑ k, gated h r R k * w k C

/-- The mean of a row. -/
def avg (u : Fin 2048 → EReal) : EReal := Ideal.div (∑ k, u k) (Ideal.ofBits .f32 0x45000000#32)

/-- A row less its mean. -/
def dev (u : Fin 2048 → EReal) (j : Fin 2048) : EReal := u j - avg u

/-- The reciprocal root of a row's variance with the small number added. -/
def root (u : Fin 2048 → EReal) : EReal := Ideal.rsqrt (avg (fun k => dev u k * dev u k) + Ideal.ofBits .f32 0x3727C5AC#32)

/-- The normalised row. -/
def unit (u : Fin 2048 → EReal) (j : Fin 2048) : EReal := dev u j * root u

/-- The layer norm of a row. -/
def norm (u g b : Fin 2048 → EReal) (j : Fin 2048) : EReal := unit u j * g j + b j

/-- Row `i` of block `t`. -/
def rowAt {N : ℕ} (hN : N = 32) (t : Fin N) (i : Fin 256) : Fin 8192 := ⟨256 * t.val + i.val, by omega⟩

end Cert.Proj

end
-- ==== Proof.ProjBlock.lean ====
/-
  What one grid point of the output projection's forward call computes, read at an index.
-/
module

public import proofs.«01_k».proof.Proof.ProjMath
public import proofs.«01_k».proof.Proof.Gen.Kernel3Ideal.Skeleton
public import Idealize.ShloMosaic.Lib.Pipeline.Value

@[expose] public section

set_option maxRecDepth 16384

noncomputable section

namespace Cert.Proj

open Idealize.ShloMosaic Cert.Kernel3Ideal Cert.Kernel3Ideal.Gen

variable {h : Fin 8192 → Fin 7168 → EReal} {r x : Fin 8192 → Fin 2048 → EReal} {w : Fin 2048 → Fin 2048 → EReal} {g b : Fin 2048 → EReal}
variable {ρ : Fin 256 → Fin 8192}
variable {A : Vec Ideal S256x1024 .bf16} {B M : Vec Ideal S256x512 .bf16} {R : Vec Ideal S256x2048 .bf16}
variable {X : Vec Ideal S256x2048 .f32} {W : Vec Ideal S2048x2048 .bf16} {G L : Vec Ideal S1x2048 .f32}
variable (hA : ∀ i j, A (ix2 i j) = h (ρ i) (linCol j)) (hB : ∀ i j, B (ix2 i j) = h (ρ i) (attnCol j))
variable (hM : ∀ i j, M (ix2 i j) = h (ρ i) (memCol j)) (hR : ∀ i j, R (ix2 i j) = r (ρ i) j)
variable (hX : ∀ i j, X (ix2 i j) = x (ρ i) j) (hW : ∀ i j, W (ix2 i j) = w i j)
variable (hG : ∀ j, G (ix2 0 j) = g j) (hL : ∀ j, L (ix2 0 j) = b j)

include hA hB hM in
/-- The gates' arguments, side by side. -/
theorem gates_apply (i : Fin 256) (j : Fin 2048) :
    concatenate S256x2048 1 [⟨S256x1024, A⟩, ⟨S256x512, B⟩, ⟨S256x512, M⟩] concatenates_S256x1024_S256x512_S256x512_S256x2048_d1 (ix2 i j)
      = h (ρ i) (gateCol j) := by
  by_cases h1 : j.val < 1024
  · rw [concatenate_apply_piece 1 _ _ (ix2 i j) 0 (by show 0 < 3; omega) S256x1024 A rfl rfl 0 rfl
      (ix2 i ⟨j.val, h1⟩) (Fin.forall_fin_two.mpr ⟨fun _ => rfl, fun hb => absurd rfl hb⟩) (by show 0 + j.val = j.val; omega), hA]
    exact congrArg (h (ρ i)) (Fin.ext (by simp only [gateCol, linCol, if_pos h1]))
  · by_cases h2 : j.val < 1536
    · rw [concatenate_apply_piece 1 _ _ (ix2 i j) 1 (by show 1 < 3; omega) S256x512 B rfl rfl 1024 rfl
        (ix2 i ⟨j.val - 1024, by omega⟩) (Fin.forall_fin_two.mpr ⟨fun _ => rfl, fun hb => absurd rfl hb⟩)
        (by show 1024 + (j.val - 1024) = j.val; omega), hB]
      exact congrArg (h (ρ i)) (Fin.ext (by simp only [gateCol, attnCol, if_neg h1, if_pos h2]; omega))
    · rw [concatenate_apply_piece 1 _ _ (ix2 i j) 2 (by show 2 < 3; omega) S256x512 M rfl rfl 1536 rfl
        (ix2 i ⟨j.val - 1536, by omega⟩) (Fin.forall_fin_two.mpr ⟨fun _ => rfl, fun hb => absurd rfl hb⟩)
        (by show 1536 + (j.val - 1536) = j.val; omega), hM]
      exact congrArg (h (ρ i)) (Fin.ext (by simp only [gateCol, memCol, if_neg h1, if_neg h2]; omega))

include hA hB hM hR

/-- The gated activations. -/
theorem gated_apply (i : Fin 256) (j : Fin 2048) : k0_pay4 (F := Ideal) A B M R (ix2 i j) = gated h r (ρ i) j := by
  unfold k0_pay4
  have hz := gates_apply hA hB hM
  generalize concatenate S256x2048 1 [⟨S256x1024, A⟩, ⟨S256x512, B⟩, ⟨S256x512, M⟩] concatenates_S256x1024_S256x512_S256x512_S256x2048_d1 = Z at hz ⊢
  pointwise
  rw [hz, hR, zero_sub]
  rfl

include hX hW

/-- The rows less their means. -/
theorem dev_apply (i : Fin 256) (j : Fin 2048) : k0_pay5 (F := Ideal) A B M R X W (ix2 i j) = dev (rows h r w x (ρ i)) j := by
  unfold k0_pay5
  have hy := gated_apply hA hB hM hR
  generalize k0_pay4 (F := Ideal) A B M R = Y at hy ⊢
  pointwise
  simp only [hy, hX, hW]
  rfl

/-- The rows' variances. -/
theorem var_apply (i : Fin 256) :
    k0_pay6 (F := Ideal) A B M R X W (ix2 i 0) = avg (fun k => dev (rows h r w x (ρ i)) k * dev (rows h r w x (ρ i)) k) := by
  unfold k0_pay6
  have hd := dev_apply hA hB hM hR hX hW
  generalize k0_pay5 (F := Ideal) A B M R X W = Y at hd ⊢
  pointwise
  simp only [hd]
  rfl

/-- The rows' reciprocal roots. -/
theorem root_apply (i : Fin 256) : k0_pay1 (F := Ideal) (k0_pay6 A B M R X W) (ix2 i 0) = root (rows h r w x (ρ i)) := by
  unfold k0_pay1
  have hv := var_apply hA hB hM hR hX hW i
  generalize k0_pay6 (F := Ideal) A B M R X W = Y at hv ⊢
  pointwise
  rw [hv]
  rfl

/-- The normalised rows. -/
theorem unit_apply (i : Fin 256) (j : Fin 2048) :
    k0_pay2 (F := Ideal) (k0_pay5 A B M R X W) (k0_pay6 A B M R X W) (ix2 i j) = unit (rows h r w x (ρ i)) j := by
  unfold k0_pay2
  have hd := dev_apply hA hB hM hR hX hW i j
  have hr := root_apply hA hB hM hR hX hW i
  generalize k0_pay1 (F := Ideal) (k0_pay6 A B M R X W) = Y at hr ⊢
  generalize k0_pay5 (F := Ideal) A B M R X W = D at hd ⊢
  pointwise
  rw [hd, hr]
  rfl

include hG hL in
/-- The layer norm of the rows. -/
theorem norm_apply (i : Fin 256) (j : Fin 2048) :
    k0_pay3 (F := Ideal) (k0_pay5 A B M R X W) (k0_pay6 A B M R X W) G L (ix2 i j) = norm (rows h r w x (ρ i)) g b j := by
  unfold k0_pay3
  have hu := unit_apply hA hB hM hR hX hW i j
  generalize k0_pay2 (F := Ideal) (k0_pay5 A B M R X W) (k0_pay6 A B M R X W) = U at hu ⊢
  pointwise
  rw [hu, hG, hL]
  rfl

end Cert.Proj

end
-- ==== Proof.ProjArray.lean ====
/-
  The output projection's forward call over the extended reals: the blocks a grid point reads, and the arrays the call leaves.
-/
module

public import proofs.«01_k».proof.Proof.ProjBlock
public import proofs.«01_k».proof.Proof.Gen.Kernel3Ideal.Value
public import Idealize.ShloMosaic.Lib.Pipeline.ReadBack
public import Idealize.ShloMosaic.Lib.Pipeline.ValueKit.Partial
public import Idealize.ShloMosaic.Lib.Pipeline.ValueKit.Tiles
public import Idealize.ShloMosaic.Lib.StableHlo.ReadAt

@[expose] public section

set_option maxRecDepth 16384

noncomputable section

namespace Cert.Proj

open Idealize.ShloMosaic Cert.Kernel3Ideal Cert.Kernel3Ideal.Gen Idealize.ShloMosaic.TcCoe

/-- Which blocks each grid point reads or writes. -/
theorem index_act : ∀ t : Fin cfg0.N, (win0_0.index t 0 = t.val ∧ win0_0.index t 1 = 3) ∧ (win0_1.index t 0 = t.val ∧ win0_1.index t 1 = 10)
    ∧ (win0_2.index t 0 = t.val ∧ win0_2.index t 1 = 13) ∧ (win0_3.index t 0 = t.val ∧ win0_3.index t 1 = 0)
    ∧ (win0_5.index t 0 = t.val ∧ win0_5.index t 1 = 0) := by decide +kernel

/-- Which blocks each grid point reads or writes. -/
theorem index_par : ∀ t : Fin cfg0.N, (win0_4.index t 0 = 0 ∧ win0_4.index t 1 = 0) ∧ (win0_6.index t 0 = 0 ∧ win0_6.index t 1 = 0)
    ∧ (win0_7.index t 0 = 0 ∧ win0_7.index t 1 = 0) := by decide +kernel

/-- Which blocks each grid point reads or writes. -/
theorem index_out : ∀ t : Fin cfg0.N, (win0_8.index t 0 = t.val ∧ win0_8.index t 1 = 0) ∧ (win0_9.index t 0 = t.val ∧ win0_9.index t 1 = 0)
    ∧ (win0_10.index t 0 = t.val ∧ win0_10.index t 1 = 0) ∧ (win0_11.index t 0 = t.val ∧ win0_11.index t 1 = 0) := by decide +kernel

/-! ## The results -/

section Results

variable (h : Fin 8192 → Fin 7168 → EReal) (r x : Fin 8192 → Fin 2048 → EReal) (w : Fin 2048 → Fin 2048 → EReal) (g b : Fin 2048 → EReal)

/-- The layer norm of the rows. -/
def normArr : Vec Ideal S8192x2048 .f32 := fun i => norm (rows h r w x (i 0)) g b (i 1)

/-- The normalised rows. -/
def unitArr : Vec Ideal S8192x2048 .f32 := fun i => unit (rows h r w x (i 0)) (i 1)

/-- The rows' reciprocal roots. -/
def rootArr : Vec Ideal S8192x1 .f32 := fun i => root (rows h r w x (i 0))

/-- The gated activations. -/
def gatedArr : Vec Ideal S8192x2048 .bf16 := fun i => gated h r (i 0) (i 1)

end Results

/-! ## The blocks the call reads -/

variable (m : (ℓ : Loc nD τ sig) → Buf (Elt Ideal) ℓ) (c : Dev nD)
variable {h : Fin 8192 → Fin 7168 → EReal} {r x : Fin 8192 → Fin 2048 → EReal} {w : Fin 2048 → Fin 2048 → EReal} {g b : Fin 2048 → EReal}
variable (hh : ∀ R C, (m ((c : Thread nD τ).loc main_arg0) : Vec Ideal S8192x7168 .bf16) (ix2 R C) = h R C)
variable (hr : ∀ R C, (m ((c : Thread nD τ).loc main_arg1) : Vec Ideal S8192x2048 .bf16) (ix2 R C) = r R C)
variable (hw : ∀ R C, (m ((c : Thread nD τ).loc main_arg2) : Vec Ideal S2048x2048 .bf16) (ix2 R C) = w R C)
variable (hx : ∀ R C, (m ((c : Thread nD τ).loc main_arg3) : Vec Ideal S8192x2048 .f32) (ix2 R C) = x R C)
variable (hg : ∀ j, (m ((c : Thread nD τ).loc main_arg4) : Vec Ideal S2048 .f32) (ix1 j) = g j)
variable (hb : ∀ j, (m ((c : Thread nD τ).loc main_arg5) : Vec Ideal S2048 .f32) (ix1 j) = b j)
variable (t : Fin cfg0.N)

include hh in
/-- The block a grid point reads, entry by entry. -/
theorem blk_a (i : Fin 256) (j : Fin 1024) : (iblk m c 0 t : Vec Ideal S256x1024 .bf16) (ix2 i j) = h (rowAt N_0 t i) (linCol j) := by
  unfold iblk
  rw [View.read_apply]
  refine ((congrArg (V m c main_arg0) (funext fun a => Fin.ext ?_)).trans (congrFun (V_main_arg0 m c) (ix2 (rowAt N_0 t i) (linCol j)))).trans (hh _ _)
  match a with
  | ⟨0, _⟩ => show win0_0.index t 0 * 256 + 1 * i.val = 256 * t.val + i.val; rw [(index_act t).1.1]; omega
  | ⟨1, _⟩ => show win0_0.index t 1 * 1024 + 1 * j.val = 3072 + j.val; rw [(index_act t).1.2]; omega

include hh in
/-- The block a grid point reads, entry by entry. -/
theorem blk_b (i : Fin 256) (j : Fin 512) : (iblk m c 1 t : Vec Ideal S256x512 .bf16) (ix2 i j) = h (rowAt N_0 t i) (attnCol j) := by
  unfold iblk
  rw [View.read_apply]
  refine ((congrArg (V m c main_arg0) (funext fun a => Fin.ext ?_)).trans (congrFun (V_main_arg0 m c) (ix2 (rowAt N_0 t i) (attnCol j)))).trans (hh _ _)
  match a with
  | ⟨0, _⟩ => show win0_1.index t 0 * 256 + 1 * i.val = 256 * t.val + i.val; rw [(index_act t).2.1.1]; omega
  | ⟨1, _⟩ => show win0_1.index t 1 * 512 + 1 * j.val = 5120 + j.val; rw [(index_act t).2.1.2]; omega

include hh in
/-- The block a grid point reads, entry by entry. -/
theorem blk_m (i : Fin 256) (j : Fin 512) : (iblk m c 2 t : Vec Ideal S256x512 .bf16) (ix2 i j) = h (rowAt N_0 t i) (memCol j) := by
  unfold iblk
  rw [View.read_apply]
  refine ((congrArg (V m c main_arg0) (funext fun a => Fin.ext ?_)).trans (congrFun (V_main_arg0 m c) (ix2 (rowAt N_0 t i) (memCol j)))).trans (hh _ _)
  match a with
  | ⟨0, _⟩ => show win0_2.index t 0 * 256 + 1 * i.val = 256 * t.val + i.val; rw [(index_act t).2.2.1.1]; omega
  | ⟨1, _⟩ => show win0_2.index t 1 * 512 + 1 * j.val = 6656 + j.val; rw [(index_act t).2.2.1.2]; omega

include hr in
/-- The block a grid point reads, entry by entry. -/
theorem blk_r (i : Fin 256) (j : Fin 2048) : (iblk m c 3 t : Vec Ideal S256x2048 .bf16) (ix2 i j) = r (rowAt N_0 t i) j := by
  unfold iblk
  rw [View.read_apply]
  refine ((congrArg (V m c main_arg1) (funext fun a => Fin.ext ?_)).trans (congrFun (V_main_arg1 m c) (ix2 (rowAt N_0 t i) j))).trans (hr _ _)
  match a with
  | ⟨0, _⟩ => show win0_3.index t 0 * 256 + 1 * i.val = 256 * t.val + i.val; rw [(index_act t).2.2.2.1.1]; omega
  | ⟨1, _⟩ => show win0_3.index t 1 * 2048 + 1 * j.val = j.val; rw [(index_act t).2.2.2.1.2]; omega

include hw in
/-- The block a grid point reads, entry by entry. -/
theorem blk_w (i j : Fin 2048) : (iblk m c 4 t : Vec Ideal S2048x2048 .bf16) (ix2 i j) = w i j := by
  unfold iblk
  rw [View.read_apply]
  refine ((congrArg (V m c main_arg2) (funext fun a => Fin.ext ?_)).trans (congrFun (V_main_arg2 m c) (ix2 i j))).trans (hw _ _)
  match a with
  | ⟨0, _⟩ => show win0_4.index t 0 * 2048 + 1 * i.val = i.val; rw [(index_par t).1.1]; omega
  | ⟨1, _⟩ => show win0_4.index t 1 * 2048 + 1 * j.val = j.val; rw [(index_par t).1.2]; omega

include hx in
/-- The block a grid point reads, entry by entry. -/
theorem blk_x (i : Fin 256) (j : Fin 2048) : (iblk m c 5 t : Vec Ideal S256x2048 .f32) (ix2 i j) = x (rowAt N_0 t i) j := by
  unfold iblk
  rw [View.read_apply]
  refine ((congrArg (V m c main_arg3) (funext fun a => Fin.ext ?_)).trans (congrFun (V_main_arg3 m c) (ix2 (rowAt N_0 t i) j))).trans (hx _ _)
  match a with
  | ⟨0, _⟩ => show win0_5.index t 0 * 256 + 1 * i.val = 256 * t.val + i.val; rw [(index_act t).2.2.2.2.1]; omega
  | ⟨1, _⟩ => show win0_5.index t 1 * 2048 + 1 * j.val = j.val; rw [(index_act t).2.2.2.2.2]; omega

include hg in
/-- The parameter laid out as one row. -/
theorem host_g (j : Fin 2048) : (V m c main_v0 : Vec Ideal S1x2048 .f32) (ix2 0 j) = g j := by
  have h' : ∀ j, (m (c, Proc.tc.devRef main_arg4) : Vec Ideal S2048 .f32) (ix1 j) = g j := hg
  unfold V
  after_reads_at
  exact h' j

include hg in
/-- The block a grid point reads, entry by entry. -/
theorem blk_g (j : Fin 2048) : (iblk m c 6 t : Vec Ideal S1x2048 .f32) (ix2 0 j) = g j := by
  unfold iblk
  rw [View.read_apply]
  refine (congrArg (V m c main_v0) (funext fun a => Fin.ext ?_)).trans (host_g m c hg j)
  match a with
  | ⟨0, _⟩ => show win0_6.index t 0 * 1 + 1 * 0 = 0; rw [(index_par t).2.1.1]
  | ⟨1, _⟩ => show win0_6.index t 1 * 2048 + 1 * j.val = j.val; rw [(index_par t).2.1.2]; omega

include hb in
/-- The parameter laid out as one row. -/
theorem host_l (j : Fin 2048) : (V m c main_v1 : Vec Ideal S1x2048 .f32) (ix2 0 j) = b j := by
  have h' : ∀ j, (m (c, Proc.tc.devRef main_arg5) : Vec Ideal S2048 .f32) (ix1 j) = b j := hb
  unfold V
  after_reads_at
  exact h' j

include hb in
/-- The block a grid point reads, entry by entry. -/
theorem blk_l (j : Fin 2048) : (iblk m c 7 t : Vec Ideal S1x2048 .f32) (ix2 0 j) = b j := by
  unfold iblk
  rw [View.read_apply]
  refine (congrArg (V m c main_v1) (funext fun a => Fin.ext ?_)).trans (host_l m c hb j)
  match a with
  | ⟨0, _⟩ => show win0_7.index t 0 * 1 + 1 * 0 = 0; rw [(index_par t).2.2.1]
  | ⟨1, _⟩ => show win0_7.index t 1 * 2048 + 1 * j.val = j.val; rw [(index_par t).2.2.2]; omega

/-! ## The arrays after the call -/

/-- What a grid point leaves in this result's buffer. -/
theorem point_norm : (dats m 0 c).after 8 t = k0_pay3 (F := Ideal) (k0_pay5 (iblk m c 0 t) (iblk m c 1 t) (iblk m c 2 t) (iblk m c 3 t) (iblk m c 5 t) (iblk m c 4 t)) (k0_pay6 (iblk m c 0 t) (iblk m c 1 t) (iblk m c 2 t) (iblk m c 3 t) (iblk m c 5 t) (iblk m c 4 t)) (iblk m c 6 t) (iblk m c 7 t) := by
  rw [after0_8]
  unfold out0_8 k0_pay7 k0_pay8
  frame_out

include hh hr hw hx hg hb in
/-- The layer norm of the rows. -/
theorem array_norm : (dats m 0 c).arrAt 8 cfg0.N = normArr h r x w g b := by
  refine (dats m 0 c).arrAt_eq_of_covers 8 (normArr h r x w g b) (by decide +kernel) fun t hf z => ?_
  blk_simp
  rw [point_norm]
  obtain ⟨i, j, rfl⟩ : ∃ i j, z = ix2 i j := ⟨_, _, eq_ix2 z⟩
  have he : ((cfg0.win 8).blk t).view.emb (ix2 i j) = (ix2 (rowAt N_0 t i) j : S8192x2048.Idx) :=
    funext fun a => Fin.ext <| by
      match a with
      | ⟨0, _⟩ => show win0_8.index t 0 * 256 + 1 * i.val = 256 * t.val + i.val; rw [(index_out t).1.1]; omega
      | ⟨1, _⟩ => show win0_8.index t 1 * 2048 + 1 * j.val = j.val; rw [(index_out t).1.2]; omega
  have e1 : k0_pay3 (F := Ideal) (k0_pay5 (iblk m c 0 t) (iblk m c 1 t) (iblk m c 2 t) (iblk m c 3 t) (iblk m c 5 t) (iblk m c 4 t)) (k0_pay6 (iblk m c 0 t) (iblk m c 1 t) (iblk m c 2 t) (iblk m c 3 t) (iblk m c 5 t) (iblk m c 4 t)) (iblk m c 6 t) (iblk m c 7 t) (ix2 i j) = normArr h r x w g b (ix2 (rowAt N_0 t i) j) :=
    norm_apply (blk_a m c hh t) (blk_b m c hh t) (blk_m m c hh t) (blk_r m c hr t) (blk_x m c hx t) (blk_w m c hw t) (blk_g m c hg t) (blk_l m c hb t) i j
  refine e1.trans ?_
  rw [← he]

/-- What a grid point leaves in this result's buffer. -/
theorem point_unit : (dats m 0 c).after 9 t = k0_pay2 (F := Ideal) (k0_pay5 (iblk m c 0 t) (iblk m c 1 t) (iblk m c 2 t) (iblk m c 3 t) (iblk m c 5 t) (iblk m c 4 t)) (k0_pay6 (iblk m c 0 t) (iblk m c 1 t) (iblk m c 2 t) (iblk m c 3 t) (iblk m c 5 t) (iblk m c 4 t)) := by
  rw [after0_9]
  unfold out0_9 k0_pay7 k0_pay8
  frame_out

include hh hr hw hx in
/-- The normalised rows. -/
theorem array_unit : (dats m 0 c).arrAt 9 cfg0.N = unitArr h r x w := by
  refine (dats m 0 c).arrAt_eq_of_covers 9 (unitArr h r x w) (by decide +kernel) fun t hf z => ?_
  blk_simp
  rw [point_unit]
  obtain ⟨i, j, rfl⟩ : ∃ i j, z = ix2 i j := ⟨_, _, eq_ix2 z⟩
  have he : ((cfg0.win 9).blk t).view.emb (ix2 i j) = (ix2 (rowAt N_0 t i) j : S8192x2048.Idx) :=
    funext fun a => Fin.ext <| by
      match a with
      | ⟨0, _⟩ => show win0_9.index t 0 * 256 + 1 * i.val = 256 * t.val + i.val; rw [(index_out t).2.1.1]; omega
      | ⟨1, _⟩ => show win0_9.index t 1 * 2048 + 1 * j.val = j.val; rw [(index_out t).2.1.2]; omega
  have e1 : k0_pay2 (F := Ideal) (k0_pay5 (iblk m c 0 t) (iblk m c 1 t) (iblk m c 2 t) (iblk m c 3 t) (iblk m c 5 t) (iblk m c 4 t)) (k0_pay6 (iblk m c 0 t) (iblk m c 1 t) (iblk m c 2 t) (iblk m c 3 t) (iblk m c 5 t) (iblk m c 4 t)) (ix2 i j) = unitArr h r x w (ix2 (rowAt N_0 t i) j) :=
    unit_apply (blk_a m c hh t) (blk_b m c hh t) (blk_m m c hh t) (blk_r m c hr t) (blk_x m c hx t) (blk_w m c hw t) i j
  refine e1.trans ?_
  rw [← he]

/-- What a grid point leaves in this result's buffer. -/
theorem point_root : (dats m 0 c).after 10 t = k0_pay1 (F := Ideal) (k0_pay6 (iblk m c 0 t) (iblk m c 1 t) (iblk m c 2 t) (iblk m c 3 t) (iblk m c 5 t) (iblk m c 4 t)) := by
  rw [after0_10]
  unfold out0_10 k0_pay8
  frame_out

include hh hr hw hx in
/-- The rows' reciprocal roots. -/
theorem array_root : (dats m 0 c).arrAt 10 cfg0.N = rootArr h r x w := by
  refine (dats m 0 c).arrAt_eq_of_covers 10 (rootArr h r x w) (by decide +kernel) fun t hf z => ?_
  blk_simp
  rw [point_root]
  obtain ⟨i, j, rfl⟩ : ∃ i j, z = ix2 i j := ⟨_, _, eq_ix2 z⟩
  obtain rfl : j = 0 := Subsingleton.elim _ _
  have he : ((cfg0.win 10).blk t).view.emb (ix2 i 0) = (ix2 (rowAt N_0 t i) 0 : S8192x1.Idx) :=
    funext fun a => Fin.ext <| by
      match a with
      | ⟨0, _⟩ => show win0_10.index t 0 * 256 + 1 * i.val = 256 * t.val + i.val; rw [(index_out t).2.2.1.1]; omega
      | ⟨1, _⟩ => show win0_10.index t 1 * 1 + 1 * 0 = 0; rw [(index_out t).2.2.1.2]
  have e1 : k0_pay1 (F := Ideal) (k0_pay6 (iblk m c 0 t) (iblk m c 1 t) (iblk m c 2 t) (iblk m c 3 t) (iblk m c 5 t) (iblk m c 4 t)) (ix2 i 0) = rootArr h r x w (ix2 (rowAt N_0 t i) 0) :=
    root_apply (blk_a m c hh t) (blk_b m c hh t) (blk_m m c hh t) (blk_r m c hr t) (blk_x m c hx t) (blk_w m c hw t) i
  refine e1.trans ?_
  rw [← he]

/-- What a grid point leaves in this result's buffer. -/
theorem point_gated : (dats m 0 c).after 11 t = k0_pay4 (F := Ideal) (iblk m c 0 t) (iblk m c 1 t) (iblk m c 2 t) (iblk m c 3 t) := by
  rw [after0_11]
  unfold out0_11
  frame_out

include hh hr in
/-- The gated activations. -/
theorem array_gated : (dats m 0 c).arrAt 11 cfg0.N = gatedArr h r := by
  refine (dats m 0 c).arrAt_eq_of_covers 11 (gatedArr h r) (by decide +kernel) fun t hf z => ?_
  blk_simp
  rw [point_gated]
  obtain ⟨i, j, rfl⟩ : ∃ i j, z = ix2 i j := ⟨_, _, eq_ix2 z⟩
  have he : ((cfg0.win 11).blk t).view.emb (ix2 i j) = (ix2 (rowAt N_0 t i) j : S8192x2048.Idx) :=
    funext fun a => Fin.ext <| by
      match a with
      | ⟨0, _⟩ => show win0_11.index t 0 * 256 + 1 * i.val = 256 * t.val + i.val; rw [(index_out t).2.2.2.1]; omega
      | ⟨1, _⟩ => show win0_11.index t 1 * 2048 + 1 * j.val = j.val; rw [(index_out t).2.2.2.2]; omega
  have e1 : k0_pay4 (F := Ideal) (iblk m c 0 t) (iblk m c 1 t) (iblk m c 2 t) (iblk m c 3 t) (ix2 i j) = gatedArr h r (ix2 (rowAt N_0 t i) j) :=
    gated_apply (blk_a m c hh t) (blk_b m c hh t) (blk_m m c hh t) (blk_r m c hr t) i j
  refine e1.trans ?_
  rw [← he]

end Cert.Proj

end
-- ==== Proof.ProjReference.lean ====
/-
  The results of the output projection's forward reference, stage by stage.
-/
module

public import proofs.«01_k».proof.Proof.ProjArray
public import proofs.«01_k».proof.Proof.Gen.Reference3Ideal.Read

@[expose] public section

set_option maxRecDepth 16384

noncomputable section

namespace Cert.Proj

open Idealize.ShloMosaic Idealize.ShloMosaic.TcCoe Cert.Reference3Ideal Cert.Reference3Ideal.Gen Cert.Reference3Ideal.Read

/-! ## Where each stage reads -/

/-- Where this stage reads its operand. -/
theorem at_idx_main_v3 (R : Fin 8192) (j : Fin 1024) : idx_main_v3 (ix2 R j) = ix2 R (linCol j) := by
  funext a
  match a with
  | ⟨0, _⟩ => rfl
  | ⟨1, _⟩ => rfl

/-- Where this stage reads its operand. -/
theorem at_idx_main_v4 (R : Fin 8192) (j : Fin 512) : idx_main_v4 (ix2 R j) = ix2 R (attnCol j) := by
  funext a
  match a with
  | ⟨0, _⟩ => rfl
  | ⟨1, _⟩ => rfl

/-- Where this stage reads its operand. -/
theorem at_idx_main_v5 (R : Fin 8192) (j : Fin 512) : idx_main_v5 (ix2 R j) = ix2 R (memCol j) := by
  funext a
  match a with
  | ⟨0, _⟩ => rfl
  | ⟨1, _⟩ => rfl

/-- Where this stage reads its operand. -/
theorem at_idx_main_v6 (R : Fin 8192) (j : Fin 1024) : idx_main_v6 (ix2 R j) = ix2 R ⟨0 + j.val, by omega⟩ := by
  funext a
  match a with
  | ⟨0, _⟩ => rfl
  | ⟨1, _⟩ => exact Fin.ext ((Nat.zero_add j.val).symm)

/-- Where this stage reads its operand. -/
theorem at_idx_main_v9 (R : Fin 8192) (j : Fin 512) : idx_main_v9 (ix2 R j) = ix2 R ⟨1024 + j.val, by omega⟩ := by
  funext a
  match a with
  | ⟨0, _⟩ => rfl
  | ⟨1, _⟩ => rfl

/-- Where this stage reads its operand. -/
theorem at_idx_main_v12 (R : Fin 8192) (j : Fin 512) : idx_main_v12 (ix2 R j) = ix2 R ⟨1536 + j.val, by omega⟩ := by
  funext a
  match a with
  | ⟨0, _⟩ => rfl
  | ⟨1, _⟩ => rfl

/-- Where this stage reads its operand. -/
theorem at_lidx_main_v18 (R : Fin 8192) (C : Fin 2048) (k : Fin 2048) : lidx_main_v18 (ix2 R C) k = ix2 R k := by
  funext a
  match a with
  | ⟨0, _⟩ => rfl
  | ⟨1, _⟩ => rfl

/-- Where this stage reads its operand. -/
theorem at_ridx_main_v18 (R : Fin 8192) (C : Fin 2048) (k : Fin 2048) : ridx_main_v18 (ix2 R C) k = ix2 k C := by
  funext a
  match a with
  | ⟨0, _⟩ => rfl
  | ⟨1, _⟩ => rfl

/-- Where this stage reads its operand. -/
theorem at_idx_main_v20 (R : Fin 8192) (k : Fin 2048) : idx_main_v20 (ix1 R) k = ix2 R k := by
  funext a
  match a with
  | ⟨0, _⟩ => rfl
  | ⟨1, _⟩ => rfl

/-- Where this stage reads its operand. -/
theorem at_idx_main_v27 (R : Fin 8192) (k : Fin 2048) : idx_main_v27 (ix1 R) k = ix2 R k := by
  funext a
  match a with
  | ⟨0, _⟩ => rfl
  | ⟨1, _⟩ => rfl

/-- Where this stage reads its operand. -/
theorem at_idx_main_v21 (R : Fin 8192) : idx_main_v21 (ix2 R 0) = ix1 R := by
  funext a
  match a with
  | ⟨0, _⟩ => rfl

/-- Where this stage reads its operand. -/
theorem at_idx_main_v28 (R : Fin 8192) : idx_main_v28 (ix2 R 0) = ix1 R := by
  funext a
  match a with
  | ⟨0, _⟩ => rfl

/-- Where this stage reads its operand. -/
theorem at_idx_main_v24 (R : Fin 8192) (C : Fin 2048) : idx_main_v24 (ix2 R C) = ix2 R 0 := by
  funext a
  match a with
  | ⟨0, _⟩ => rfl
  | ⟨1, _⟩ => rfl

/-- Where this stage reads its operand. -/
theorem at_idx_main_v34 (R : Fin 8192) (C : Fin 2048) : idx_main_v34 (ix2 R C) = ix2 R 0 := by
  funext a
  match a with
  | ⟨0, _⟩ => rfl
  | ⟨1, _⟩ => rfl

/-- Where this stage reads its operand. -/
theorem at_idx_main_v36 (R : Fin 8192) (C : Fin 2048) : idx_main_v36 (ix2 R C) = ix2 R 0 := by
  funext a
  match a with
  | ⟨0, _⟩ => rfl
  | ⟨1, _⟩ => rfl

/-- Where this stage reads its operand. -/
theorem at_idx_main_v39 (R : Fin 8192) (C : Fin 2048) : idx_main_v39 (ix2 R C) = ix2 0 C := by
  funext a
  match a with
  | ⟨0, _⟩ => rfl
  | ⟨1, _⟩ => rfl

/-- Where this stage reads its operand. -/
theorem at_idx_main_v42 (R : Fin 8192) (C : Fin 2048) : idx_main_v42 (ix2 R C) = ix2 0 C := by
  funext a
  match a with
  | ⟨0, _⟩ => rfl
  | ⟨1, _⟩ => rfl

/-- Where this stage reads its operand. -/
theorem at_idx_main_v38 (C : Fin 2048) : idx_main_v38 (ix2 0 C) = ix1 C := by
  funext a
  match a with
  | ⟨0, _⟩ => rfl

/-- Where this stage reads its operand. -/
theorem at_idx_main_v41 (C : Fin 2048) : idx_main_v41 (ix2 0 C) = ix1 C := by
  funext a
  match a with
  | ⟨0, _⟩ => rfl

/-! ## The stages -/

variable {x0 : (⟨S8192x7168, .bf16⟩ : BufTy).Contents (Elt Ideal)} {x1 : (⟨S8192x2048, .bf16⟩ : BufTy).Contents (Elt Ideal)}
variable {x2 : (⟨S2048x2048, .bf16⟩ : BufTy).Contents (Elt Ideal)} {x3 : (⟨S8192x2048, .f32⟩ : BufTy).Contents (Elt Ideal)}
variable {x4 x5 : (⟨S2048, .f32⟩ : BufTy).Contents (Elt Ideal)}
variable {h : Fin 8192 → Fin 7168 → EReal} {r x : Fin 8192 → Fin 2048 → EReal} {w : Fin 2048 → Fin 2048 → EReal} {g b : Fin 2048 → EReal}
variable (hh : ∀ R C, x0 (ix2 R C) = h R C) (hr : ∀ R C, x1 (ix2 R C) = r R C) (hw : ∀ R C, x2 (ix2 R C) = w R C)
variable (hx : ∀ R C, x3 (ix2 R C) = x R C) (hg : ∀ j, x4 (ix1 j) = g j) (hb : ∀ j, x5 (ix1 j) = b j)

/-- A sum that starts from the zero word. -/
theorem from_zero (s : EReal) : FloatOps.ofBits (F := Ideal) .f32 0x00000000#32 + s = s := by
  show Ideal.ofBits .f32 0x00000000#32 + s = s
  rw [Ideal.ofBits_zero_f32, zero_add]

section Gates

include hh

/-- The gates of one mixer. -/
theorem gate_main_v7 (R : Fin 8192) (j : Fin 1024) : val_main_v7 (F := Ideal) x0 (ix2 R j) = gate (h R (linCol j)) := by
  rw [val_main_v7_apply, val_main_call0_v5_apply, val_main_call0_v4_apply, val_main_call0_cst_0_apply, val_main_call0_v3_apply,
    val_main_call0_v2_apply, val_main_call0_cst_apply, val_main_call0_v1_apply, val_main_call0_v0_apply, val_main_v3_apply, at_idx_main_v3,
    val_main_v0_apply, hh]
  show h R (linCol j) * Ideal.div (Ideal.ofBits .f32 0x3F800000#32) (Ideal.ofBits .f32 0x3F800000#32 + Ideal.exp (-(h R (linCol j)))) = _
  rw [Ideal.ofBits_one_f32]
  rfl

/-- The gates of one mixer. -/
theorem gate_main_v10 (R : Fin 8192) (j : Fin 512) : val_main_v10 (F := Ideal) x0 (ix2 R j) = gate (h R (attnCol j)) := by
  rw [val_main_v10_apply, val_main_call1_v5_apply, val_main_call1_v4_apply, val_main_call1_cst_0_apply, val_main_call1_v3_apply,
    val_main_call1_v2_apply, val_main_call1_cst_apply, val_main_call1_v1_apply, val_main_call1_v0_apply, val_main_v4_apply, at_idx_main_v4,
    val_main_v0_apply, hh]
  show h R (attnCol j) * Ideal.div (Ideal.ofBits .f32 0x3F800000#32) (Ideal.ofBits .f32 0x3F800000#32 + Ideal.exp (-(h R (attnCol j)))) = _
  rw [Ideal.ofBits_one_f32]
  rfl

/-- The gates of one mixer. -/
theorem gate_main_v13 (R : Fin 8192) (j : Fin 512) : val_main_v13 (F := Ideal) x0 (ix2 R j) = gate (h R (memCol j)) := by
  rw [val_main_v13_apply, val_main_call2_v5_apply, val_main_call2_v4_apply, val_main_call2_cst_0_apply, val_main_call2_v3_apply,
    val_main_call2_v2_apply, val_main_call2_cst_apply, val_main_call2_v1_apply, val_main_call2_v0_apply, val_main_v5_apply, at_idx_main_v5,
    val_main_v0_apply, hh]
  show h R (memCol j) * Ideal.div (Ideal.ofBits .f32 0x3F800000#32) (Ideal.ofBits .f32 0x3F800000#32 + Ideal.exp (-(h R (memCol j)))) = _
  rw [Ideal.ofBits_one_f32]
  rfl

include hr

/-- The gated activations of one mixer. -/
theorem prod_main_v8 (R : Fin 8192) (j : Fin 1024) :
    val_main_v8 (F := Ideal) x0 x1 (ix2 R j) = r R ⟨0 + j.val, by omega⟩ * gate (h R (linCol j)) := by
  rw [val_main_v8_apply, gate_main_v7 hh, val_main_v6_apply, at_idx_main_v6, val_main_v1_apply, hr]
  rfl

/-- The gated activations of one mixer. -/
theorem prod_main_v11 (R : Fin 8192) (j : Fin 512) :
    val_main_v11 (F := Ideal) x0 x1 (ix2 R j) = r R ⟨1024 + j.val, by omega⟩ * gate (h R (attnCol j)) := by
  rw [val_main_v11_apply, gate_main_v10 hh, val_main_v9_apply, at_idx_main_v9, val_main_v1_apply, hr]
  rfl

/-- The gated activations of one mixer. -/
theorem prod_main_v14 (R : Fin 8192) (j : Fin 512) :
    val_main_v14 (F := Ideal) x0 x1 (ix2 R j) = r R ⟨1536 + j.val, by omega⟩ * gate (h R (memCol j)) := by
  rw [val_main_v14_apply, gate_main_v13 hh, val_main_v12_apply, at_idx_main_v12, val_main_v1_apply, hr]
  rfl

/-- The gated activations. -/
theorem ref_gated (R : Fin 8192) (C : Fin 2048) : val_main_v15 (F := Ideal) x0 x1 (ix2 R C) = gated h r R C := by
  unfold val_main_v15
  by_cases h1 : C.val < 1024
  · rw [concatenate_apply_piece 1 _ _ (ix2 R C) 0 (by show 0 < 3; omega) S8192x1024 (val_main_v8 (F := Ideal) x0 x1) rfl rfl 0 rfl
      (ix2 R ⟨C.val - 0, by omega⟩) (Fin.forall_fin_two.mpr ⟨fun _ => rfl, fun hb => absurd rfl hb⟩)
      (by show 0 + (C.val - 0) = C.val; omega), prod_main_v8 hh hr]
    exact congrArg₂ (fun a b => r R a * gate (h R b)) (Fin.ext (by show 0 + (C.val - 0) = C.val; omega))
      (Fin.ext (by simp only [gateCol, linCol, if_pos h1]; omega))
  · by_cases h2 : C.val < 1536
    · rw [concatenate_apply_piece 1 _ _ (ix2 R C) 1 (by show 1 < 3; omega) S8192x512 (val_main_v11 (F := Ideal) x0 x1) rfl rfl 1024 rfl
        (ix2 R ⟨C.val - 1024, by omega⟩) (Fin.forall_fin_two.mpr ⟨fun _ => rfl, fun hb => absurd rfl hb⟩)
        (by show 1024 + (C.val - 1024) = C.val; omega), prod_main_v11 hh hr]
      exact congrArg₂ (fun a b => r R a * gate (h R b)) (Fin.ext (by show 1024 + (C.val - 1024) = C.val; omega))
        (Fin.ext (by simp only [gateCol, attnCol, if_neg h1, if_pos h2]; omega))
    · rw [concatenate_apply_piece 1 _ _ (ix2 R C) 2 (by show 2 < 3; omega) S8192x512 (val_main_v14 (F := Ideal) x0 x1) rfl rfl 1536 rfl
        (ix2 R ⟨C.val - 1536, by omega⟩) (Fin.forall_fin_two.mpr ⟨fun _ => rfl, fun hb => absurd rfl hb⟩)
        (by show 1536 + (C.val - 1536) = C.val; omega), prod_main_v14 hh hr]
      exact congrArg₂ (fun a b => r R a * gate (h R b)) (Fin.ext (by show 1536 + (C.val - 1536) = C.val; omega))
        (Fin.ext (by simp only [gateCol, memCol, if_neg h1, if_neg h2]; omega))

end Gates

include hh hr hw hx

/-- The rows before the normalisation. -/
theorem ref_rows (R : Fin 8192) (C : Fin 2048) : val_main_v19 (F := Ideal) x0 x1 x2 x3 (ix2 R C) = rows h r w x R C := by
  rw [val_main_v19_apply, val_main_v18_apply, val_main_v17_apply, val_main_v16_apply, val_main_cst_apply]
  simp only [at_lidx_main_v18, at_ridx_main_v18, ref_gated hh hr, val_main_v2_apply, hw, hx]
  rfl

/-- The rows' means. -/
theorem ref_avg (R : Fin 8192) : val_main_v23 (F := Ideal) x0 x1 x2 x3 (ix2 R 0) = avg (rows h r w x R) := by
  rw [val_main_v23_apply, val_main_v22_apply, val_main_cst_1_apply, val_main_v21_apply, at_idx_main_v21, val_main_v20_apply]
  simp only [at_idx_main_v20, ref_rows hh hr hw hx]
  rw [val_main_cst_0_apply]
  rw [from_zero]
  rfl

/-- The rows less their means. -/
theorem ref_dev (R : Fin 8192) (C : Fin 2048) : val_main_v25 (F := Ideal) x0 x1 x2 x3 (ix2 R C) = dev (rows h r w x R) C := by
  rw [val_main_v25_apply, val_main_v24_apply, at_idx_main_v24, ref_avg hh hr hw hx, ref_rows hh hr hw hx]
  rfl

/-- The rows less their means, once more. -/
theorem ref_dev' (R : Fin 8192) (C : Fin 2048) : val_main_v35 (F := Ideal) x0 x1 x2 x3 (ix2 R C) = dev (rows h r w x R) C := by
  rw [val_main_v35_apply, val_main_v34_apply, at_idx_main_v34, ref_avg hh hr hw hx, ref_rows hh hr hw hx]
  rfl

/-- The rows' reciprocal roots. -/
theorem ref_root (R : Fin 8192) : val_main_v33 (F := Ideal) x0 x1 x2 x3 (ix2 R 0) = root (rows h r w x R) := by
  rw [val_main_v33_apply, val_main_v32_apply, val_main_v31_apply, val_main_cst_4_apply, val_main_v30_apply, val_main_v29_apply, val_main_cst_3_apply,
    val_main_v28_apply, at_idx_main_v28, val_main_v27_apply]
  simp only [at_idx_main_v27, val_main_v26_apply, ref_dev hh hr hw hx]
  rw [val_main_cst_2_apply]
  rw [from_zero]
  rfl

/-- The normalised rows. -/
theorem ref_unit (R : Fin 8192) (C : Fin 2048) : val_main_v37 (F := Ideal) x0 x1 x2 x3 (ix2 R C) = unit (rows h r w x R) C := by
  rw [val_main_v37_apply, val_main_v36_apply, at_idx_main_v36, ref_root hh hr hw hx, ref_dev' hh hr hw hx]
  rfl

include hg hb in
/-- The layer norm of the rows. -/
theorem ref_norm (R : Fin 8192) (C : Fin 2048) : val_main_v43 (F := Ideal) x0 x1 x2 x3 x4 x5 (ix2 R C) = norm (rows h r w x R) g b C := by
  rw [val_main_v43_apply, val_main_v42_apply, at_idx_main_v42, val_main_v41_apply, at_idx_main_v41, hb, val_main_v40_apply, val_main_v39_apply,
    at_idx_main_v39, val_main_v38_apply, at_idx_main_v38, hg, ref_unit hh hr hw hx]
  rfl

/-! ## The results -/

include hg hb in
/-- This result, as an array. -/
theorem result_norm : val_main_v43 (F := Ideal) x0 x1 x2 x3 x4 x5 = normArr h r x w g b := by
  funext i
  obtain ⟨R, C, rfl⟩ : ∃ R C, i = ix2 R C := ⟨_, _, eq_ix2 i⟩
  exact ref_norm hh hr hw hx hg hb R C

/-- This result, as an array. -/
theorem result_unit : val_main_v37 (F := Ideal) x0 x1 x2 x3 = unitArr h r x w := by
  funext i
  obtain ⟨R, C, rfl⟩ : ∃ R C, i = ix2 R C := ⟨_, _, eq_ix2 i⟩
  exact ref_unit hh hr hw hx R C

/-- This result, as an array. -/
theorem result_root : val_main_v33 (F := Ideal) x0 x1 x2 x3 = rootArr h r x w := by
  funext i
  obtain ⟨R, o, rfl⟩ : ∃ R o, i = ix2 R o := ⟨_, _, eq_ix2 i⟩
  obtain rfl : o = 0 := Subsingleton.elim _ _
  exact ref_root hh hr hw hx R

omit hw hx in
/-- This result, as an array. -/
theorem result_gated : val_main_v44 (F := Ideal) x0 x1 = gatedArr h r := by
  funext i
  obtain ⟨R, C, rfl⟩ : ∃ R C, i = ix2 R C := ⟨_, _, eq_ix2 i⟩
  rw [val_main_v44_apply]
  exact ref_gated hh hr R C

end Cert.Proj

end
-- ==== Proof.LossMath.lean ====
/-
  The last layer's loss over the extended reals: the halved mean square of the layer norm's distance to the target, and its
  derivative.
-/
module

public import proofs.«01_k».proof.Proof.ProjMath
public import proofs.«01_k».proof.Proof.NormMath
public import Mathlib.Data.EReal.Operations

@[expose] public section

noncomputable section

namespace Cert.Loss

open Idealize.ShloMosaic Cert.Proj

/-- A row's distance to its target. -/
def miss (u g b s : Fin 2048 → EReal) (j : Fin 2048) : EReal := norm u g b j - s j

/-- A row's mean square distance. -/
def missSq (u g b s : Fin 2048 → EReal) : EReal := avg fun k => miss u g b s k * miss u g b s k

/-- One half. -/
def half : EReal := Ideal.ofBits .f32 0x3F000000#32

/-- The word of one half is one half. -/
theorem lit_half : half = ((1 / 2 : ℝ) : EReal) := by
  unfold half
  simp [Ideal.ofBits, Ideal.ieee, -EReal.coe_mul]; norm_num

/-- The word of two is two. -/
theorem lit_two : Ideal.ofBits .f32 0x40000000#32 = ((2 : ℝ) : EReal) := by
  simp [Ideal.ofBits, Ideal.ieee, -EReal.coe_mul]; norm_num

/-- Halving goes through a sum. -/
theorem half_mul_sum {n : ℕ} (f : Fin n → EReal) : half * ∑ t, f t = ∑ t, half * f t := by
  rw [lit_half]
  induction n with
  | zero => rw [Fin.sum_univ_zero, Fin.sum_univ_zero, mul_zero]
  | succ n ih =>
    rw [Fin.sum_univ_succ, Fin.sum_univ_succ, EReal.left_distrib_of_nonneg_of_ne_top (by exact_mod_cast (by norm_num : (0 : ℝ) ≤ 1 / 2)) (EReal.coe_ne_top _), ih]

/-- The derivative of the halved mean square, whichever way the constants are gathered. -/
theorem slope (e : EReal) :
    Ideal.div (half * 1) (Ideal.ofBits .f32 0x45000000#32) * (Ideal.ofBits .f32 0x40000000#32 * e) = Ideal.div e (Ideal.ofBits .f32 0x45000000#32) := by
  rw [mul_one, lit_half, lit_two, Cert.Norm.lit_2048, Ideal.div_coe (by norm_num), Ideal.div_coe (by norm_num), ← mul_assoc, ← EReal.coe_mul, ← EReal.coe_mul,
    mul_comm]
  norm_num

end Cert.Loss

end
-- ==== Proof.LossBlock.lean ====
/-
  What one grid point of the last layer's output projection computes, read at an index: the stages it shares with the other
  layers' call, the loss of its rows, and the loss's derivative.
-/
module

public import proofs.«01_k».proof.Proof.LossMath
public import proofs.«01_k».proof.Proof.ProjBlock
public import proofs.«01_k».proof.Proof.Gen.Kernel4Ideal.Skeleton

@[expose] public section

set_option maxRecDepth 16384

noncomputable section

namespace Cert.Loss

open Idealize.ShloMosaic Cert.Proj Cert.Kernel4Ideal Cert.Kernel4Ideal.Gen

section Shared

variable (A : Vec Ideal S256x1024 .bf16) (B M : Vec Ideal S256x512 .bf16) (R : Vec Ideal S256x2048 .bf16)
variable (X : Vec Ideal S256x2048 .f32) (W : Vec Ideal S2048x2048 .bf16)

/-- The gated activations are computed alike. -/
theorem gated_alike : k0_pay2 (F := Ideal) A B M R = Cert.Kernel3Ideal.Gen.k0_pay4 (F := Ideal) A B M R := rfl

/-- The rows less their means are computed alike. -/
theorem dev_alike : k0_pay3 (F := Ideal) A B M R X W = Cert.Kernel3Ideal.Gen.k0_pay5 (F := Ideal) A B M R X W := rfl

/-- The variances are computed alike. -/
theorem var_alike : k0_pay4 (F := Ideal) A B M R X W = Cert.Kernel3Ideal.Gen.k0_pay6 (F := Ideal) A B M R X W := rfl

/-- The reciprocal roots are computed alike. -/
theorem root_alike (V : FVec Ideal S256x1 .f32) : k0_pay5 (F := Ideal) V = Cert.Kernel3Ideal.Gen.k0_pay1 (F := Ideal) V := rfl

/-- The normalised rows are computed alike. -/
theorem unit_alike (D : FVec Ideal S256x2048 .f32) (V : FVec Ideal S256x1 .f32) :
    k0_pay6 (F := Ideal) D V = Cert.Kernel3Ideal.Gen.k0_pay2 (F := Ideal) D V := rfl

/-- The distance to the target is that of the layer norm the other layers' call computes. -/
theorem miss_alike (D : FVec Ideal S256x2048 .f32) (V : FVec Ideal S256x1 .f32) (G L : Vec Ideal S1x2048 .f32) (T : Vec Ideal S256x2048 .f32) :
    k0_pay8 (F := Ideal) D V G L T = subf (Cert.Kernel3Ideal.Gen.k0_pay3 (F := Ideal) D V G L) T := rfl

end Shared

section Losses

variable {D : FVec Ideal S256x2048 .f32} {V : FVec Ideal S256x1 .f32} {G L : Vec Ideal S1x2048 .f32} {T : Vec Ideal S256x2048 .f32}
variable {e : Fin 256 → Fin 2048 → EReal} (he : ∀ i j, k0_pay8 (F := Ideal) D V G L T (ix2 i j) = e i j)

include he

/-- The loss's derivative at the block's rows. -/
theorem slope_apply (i : Fin 256) (j : Fin 2048) :
    k0_pay9 (F := Ideal) D V G L T (ix2 i j) = Ideal.div (e i j) (Ideal.ofBits .f32 0x45000000#32) := by
  unfold k0_pay9
  generalize k0_pay8 (F := Ideal) D V G L T = E at he ⊢
  pointwise
  rw [he]

/-- The sum of the rows' mean squares. -/
theorem sum_apply : k0_pay11 (F := Ideal) D V G L T = ∑ i, avg fun k => e i k * e i k := by
  unfold k0_pay11
  generalize k0_pay8 (F := Ideal) D V G L T = E at he ⊢
  pointwise
  simp only [he, Fin.sum_univ_one]
  rfl

end Losses

/-- Half of what a block adds, in every lane. -/
theorem add_apply (P : FVec Ideal S1x128 .f32) (s : EReal) (j : Fin 128) :
    k0_pay1 (F := Ideal) (k0_pay10 (F := Ideal) P) s (Scalar.ofBits (F := Ideal) .f32 0x3F000000#32) (ix2 0 j) = P (ix2 0 j) + half * s := by
  unfold k0_pay1 k0_pay10
  pointwise
  rfl

/-- The zero lanes. -/
theorem zero_apply (j : Fin 128) : k0_pay7 (F := Ideal) (ix2 0 j) = 0 := by
  unfold k0_pay7
  pointwise

end Cert.Loss

end
-- ==== Proof.LossArray.lean ====
/-
  The last layer's output projection over the extended reals: the blocks a grid point reads, and the arrays the call leaves.
-/
module

public import proofs.«01_k».proof.Proof.LossBlock
public import proofs.«01_k».proof.Proof.ProjArray
public import proofs.«01_k».proof.Proof.NormArray
public import proofs.«01_k».proof.Proof.Gen.Kernel4Ideal.Value
public import Idealize.ShloMosaic.Lib.Pipeline.ReadBack
public import Idealize.ShloMosaic.Lib.Pipeline.ValueKit.Partial
public import Idealize.ShloMosaic.Lib.Pipeline.ValueKit.Tiles
public import Idealize.ShloMosaic.Lib.StableHlo.ReadAt

@[expose] public section

set_option maxRecDepth 16384

noncomputable section

namespace Cert.Loss

open Idealize.ShloMosaic Cert.Proj Cert.Kernel4Ideal Cert.Kernel4Ideal.Gen Idealize.ShloMosaic.TcCoe

/-- Which blocks each grid point reads or writes. -/
theorem index_act : ∀ t : Fin cfg0.N, (win0_0.index t 0 = t.val ∧ win0_0.index t 1 = 3) ∧ (win0_1.index t 0 = t.val ∧ win0_1.index t 1 = 10)
    ∧ (win0_2.index t 0 = t.val ∧ win0_2.index t 1 = 13) ∧ (win0_3.index t 0 = t.val ∧ win0_3.index t 1 = 0)
    ∧ (win0_5.index t 0 = t.val ∧ win0_5.index t 1 = 0) ∧ (win0_8.index t 0 = t.val ∧ win0_8.index t 1 = 0) := by decide +kernel

/-- Which blocks each grid point reads or writes. -/
theorem index_par : ∀ t : Fin cfg0.N, (win0_4.index t 0 = 0 ∧ win0_4.index t 1 = 0) ∧ (win0_6.index t 0 = 0 ∧ win0_6.index t 1 = 0)
    ∧ (win0_7.index t 0 = 0 ∧ win0_7.index t 1 = 0) := by decide +kernel

/-- Which blocks each grid point reads or writes. -/
theorem index_out : ∀ t : Fin cfg0.N, (win0_9.index t 0 = t.val ∧ win0_9.index t 1 = 0) ∧ (win0_10.index t 0 = t.val ∧ win0_10.index t 1 = 0)
    ∧ (win0_11.index t 0 = t.val ∧ win0_11.index t 1 = 0) ∧ (win0_12.index t 0 = t.val ∧ win0_12.index t 1 = 0)
    ∧ (win0_13.index t 0 = 0 ∧ win0_13.index t 1 = 0) := by decide +kernel

/-! ## The results -/

section Results

variable (h : Fin 8192 → Fin 7168 → EReal) (r x s : Fin 8192 → Fin 2048 → EReal) (w : Fin 2048 → Fin 2048 → EReal) (g b : Fin 2048 → EReal)

/-- The loss's derivative at the layer norm. -/
def slopeArr : Vec Ideal S8192x2048 .f32 := fun i =>
  Ideal.div (miss (rows h r w x (i 0)) g b (s (i 0)) (i 1)) (Ideal.ofBits .f32 0x45000000#32)

/-- The halved sum of the rows' mean squares, in every lane. -/
def lossArr : Vec Ideal S1x128 .f32 := fun _ => half * ∑ R, missSq (rows h r w x R) g b (s R)

end Results

/-! ## The blocks the call reads -/

variable (m : (ℓ : Loc nD τ sig) → Buf (Elt Ideal) ℓ) (c : Dev nD)
variable {h : Fin 8192 → Fin 7168 → EReal} {r x s : Fin 8192 → Fin 2048 → EReal} {w : Fin 2048 → Fin 2048 → EReal} {g b : Fin 2048 → EReal}
variable (hh : ∀ R C, (m ((c : Thread nD τ).loc main_arg0) : Vec Ideal S8192x7168 .bf16) (ix2 R C) = h R C)
variable (hr : ∀ R C, (m ((c : Thread nD τ).loc main_arg1) : Vec Ideal S8192x2048 .bf16) (ix2 R C) = r R C)
variable (hw : ∀ R C, (m ((c : Thread nD τ).loc main_arg2) : Vec Ideal S2048x2048 .bf16) (ix2 R C) = w R C)
variable (hx : ∀ R C, (m ((c : Thread nD τ).loc main_arg3) : Vec Ideal S8192x2048 .f32) (ix2 R C) = x R C)
variable (hg : ∀ j, (m ((c : Thread nD τ).loc main_arg4) : Vec Ideal S2048 .f32) (ix1 j) = g j)
variable (hb : ∀ j, (m ((c : Thread nD τ).loc main_arg5) : Vec Ideal S2048 .f32) (ix1 j) = b j)
variable (hs : ∀ R C, (m ((c : Thread nD τ).loc main_arg6) : Vec Ideal S8192x2048 .f32) (ix2 R C) = s R C)
variable (t : Fin cfg0.N)

include hh in
/-- The block a grid point reads, entry by entry. -/
theorem blk_a (i : Fin 256) (j : Fin 1024) : (iblk m c 0 t : Vec Ideal S256x1024 .bf16) (ix2 i j) = h (rowAt N_0 t i) (linCol j) := by
  unfold iblk
  rw [View.read_apply]
  refine ((congrArg (V m c main_arg0) (funext fun a => Fin.ext ?_)).trans (congrFun (V_main_arg0 m c) (ix2 (rowAt N_0 t i) (linCol j)))).trans (hh _ _)
  match a with
  | ⟨0, _⟩ => show win0_0.index t 0 * 256 + 1 * i.val = 256 * t.val + i.val; rw [(index_act t).1.1]; omega
  | ⟨1, _⟩ => show win0_0.index t 1 * 1024 + 1 * j.val = 3072 + j.val; rw [(index_act t).1.2]; omega

include hh in
/-- The block a grid point reads, entry by entry. -/
theorem blk_b (i : Fin 256) (j : Fin 512) : (iblk m c 1 t : Vec Ideal S256x512 .bf16) (ix2 i j) = h (rowAt N_0 t i) (attnCol j) := by
  unfold iblk
  rw [View.read_apply]
  refine ((congrArg (V m c main_arg0) (funext fun a => Fin.ext ?_)).trans (congrFun (V_main_arg0 m c) (ix2 (rowAt N_0 t i) (attnCol j)))).trans (hh _ _)
  match a with
  | ⟨0, _⟩ => show win0_1.index t 0 * 256 + 1 * i.val = 256 * t.val + i.val; rw [(index_act t).2.1.1]; omega
  | ⟨1, _⟩ => show win0_1.index t 1 * 512 + 1 * j.val = 5120 + j.val; rw [(index_act t).2.1.2]; omega

include hh in
/-- The block a grid point reads, entry by entry. -/
theorem blk_m (i : Fin 256) (j : Fin 512) : (iblk m c 2 t : Vec Ideal S256x512 .bf16) (ix2 i j) = h (rowAt N_0 t i) (memCol j) := by
  unfold iblk
  rw [View.read_apply]
  refine ((congrArg (V m c main_arg0) (funext fun a => Fin.ext ?_)).trans (congrFun (V_main_arg0 m c) (ix2 (rowAt N_0 t i) (memCol j)))).trans (hh _ _)
  match a with
  | ⟨0, _⟩ => show win0_2.index t 0 * 256 + 1 * i.val = 256 * t.val + i.val; rw [(index_act t).2.2.1.1]; omega
  | ⟨1, _⟩ => show win0_2.index t 1 * 512 + 1 * j.val = 6656 + j.val; rw [(index_act t).2.2.1.2]; omega

include hr in
/-- The block a grid point reads, entry by entry. -/
theorem blk_r (i : Fin 256) (j : Fin 2048) : (iblk m c 3 t : Vec Ideal S256x2048 .bf16) (ix2 i j) = r (rowAt N_0 t i) j := by
  unfold iblk
  rw [View.read_apply]
  refine ((congrArg (V m c main_arg1) (funext fun a => Fin.ext ?_)).trans (congrFun (V_main_arg1 m c) (ix2 (rowAt N_0 t i) j))).trans (hr _ _)
  match a with
  | ⟨0, _⟩ => show win0_3.index t 0 * 256 + 1 * i.val = 256 * t.val + i.val; rw [(index_act t).2.2.2.1.1]; omega
  | ⟨1, _⟩ => show win0_3.index t 1 * 2048 + 1 * j.val = j.val; rw [(index_act t).2.2.2.1.2]; omega

include hw in
/-- The block a grid point reads, entry by entry. -/
theorem blk_w (i j : Fin 2048) : (iblk m c 4 t : Vec Ideal S2048x2048 .bf16) (ix2 i j) = w i j := by
  unfold iblk
  rw [View.read_apply]
  refine ((congrArg (V m c main_arg2) (funext fun a => Fin.ext ?_)).trans (congrFun (V_main_arg2 m c) (ix2 i j))).trans (hw _ _)
  match a with
  | ⟨0, _⟩ => show win0_4.index t 0 * 2048 + 1 * i.val = i.val; rw [(index_par t).1.1]; omega
  | ⟨1, _⟩ => show win0_4.index t 1 * 2048 + 1 * j.val = j.val; rw [(index_par t).1.2]; omega

include hx in
/-- The block a grid point reads, entry by entry. -/
theorem blk_x (i : Fin 256) (j : Fin 2048) : (iblk m c 5 t : Vec Ideal S256x2048 .f32) (ix2 i j) = x (rowAt N_0 t i) j := by
  unfold iblk
  rw [View.read_apply]
  refine ((congrArg (V m c main_arg3) (funext fun a => Fin.ext ?_)).trans (congrFun (V_main_arg3 m c) (ix2 (rowAt N_0 t i) j))).trans (hx _ _)
  match a with
  | ⟨0, _⟩ => show win0_5.index t 0 * 256 + 1 * i.val = 256 * t.val + i.val; rw [(index_act t).2.2.2.2.1.1]; omega
  | ⟨1, _⟩ => show win0_5.index t 1 * 2048 + 1 * j.val = j.val; rw [(index_act t).2.2.2.2.1.2]; omega

include hs in
/-- The block a grid point reads, entry by entry. -/
theorem blk_s (i : Fin 256) (j : Fin 2048) : (iblk m c 8 t : Vec Ideal S256x2048 .f32) (ix2 i j) = s (rowAt N_0 t i) j := by
  unfold iblk
  rw [View.read_apply]
  refine ((congrArg (V m c main_arg6) (funext fun a => Fin.ext ?_)).trans (congrFun (V_main_arg6 m c) (ix2 (rowAt N_0 t i) j))).trans (hs _ _)
  match a with
  | ⟨0, _⟩ => show win0_8.index t 0 * 256 + 1 * i.val = 256 * t.val + i.val; rw [(index_act t).2.2.2.2.2.1]; omega
  | ⟨1, _⟩ => show win0_8.index t 1 * 2048 + 1 * j.val = j.val; rw [(index_act t).2.2.2.2.2.2]; omega

include hg in
/-- The parameter laid out as one row. -/
theorem host_g (j : Fin 2048) : (V m c main_v0 : Vec Ideal S1x2048 .f32) (ix2 0 j) = g j := by
  have h' : ∀ j, (m (c, Proc.tc.devRef main_arg4) : Vec Ideal S2048 .f32) (ix1 j) = g j := hg
  unfold V
  after_reads_at
  exact h' j

include hg in
/-- The block a grid point reads, entry by entry. -/
theorem blk_g (j : Fin 2048) : (iblk m c 6 t : Vec Ideal S1x2048 .f32) (ix2 0 j) = g j := by
  unfold iblk
  rw [View.read_apply]
  refine (congrArg (V m c main_v0) (funext fun a => Fin.ext ?_)).trans (host_g m c hg j)
  match a with
  | ⟨0, _⟩ => show win0_6.index t 0 * 1 + 1 * 0 = 0; rw [(index_par t).2.1.1]
  | ⟨1, _⟩ => show win0_6.index t 1 * 2048 + 1 * j.val = j.val; rw [(index_par t).2.1.2]; omega

include hb in
/-- The parameter laid out as one row. -/
theorem host_l (j : Fin 2048) : (V m c main_v1 : Vec Ideal S1x2048 .f32) (ix2 0 j) = b j := by
  have h' : ∀ j, (m (c, Proc.tc.devRef main_arg5) : Vec Ideal S2048 .f32) (ix1 j) = b j := hb
  unfold V
  after_reads_at
  exact h' j

include hb in
/-- The block a grid point reads, entry by entry. -/
theorem blk_l (j : Fin 2048) : (iblk m c 7 t : Vec Ideal S1x2048 .f32) (ix2 0 j) = b j := by
  unfold iblk
  rw [View.read_apply]
  refine (congrArg (V m c main_v1) (funext fun a => Fin.ext ?_)).trans (host_l m c hb j)
  match a with
  | ⟨0, _⟩ => show win0_7.index t 0 * 1 + 1 * 0 = 0; rw [(index_par t).2.2.1]
  | ⟨1, _⟩ => show win0_7.index t 1 * 2048 + 1 * j.val = j.val; rw [(index_par t).2.2.2]; omega

/-! ## The arrays after the call -/

/-- A point's rows less their means. -/
def ptDev : FVec Ideal S256x2048 .f32 := k0_pay3 (F := Ideal) (iblk m c 0 t) (iblk m c 1 t) (iblk m c 2 t) (iblk m c 3 t) (iblk m c 5 t) (iblk m c 4 t)

/-- A point's variances. -/
def ptVar : FVec Ideal S256x1 .f32 := k0_pay4 (F := Ideal) (iblk m c 0 t) (iblk m c 1 t) (iblk m c 2 t) (iblk m c 3 t) (iblk m c 5 t) (iblk m c 4 t)

include hh hr hw hx hg hb hs in
/-- A point's distances to the target. -/
theorem pt_miss (i : Fin 256) (j : Fin 2048) :
    k0_pay8 (F := Ideal) (ptDev m c t) (ptVar m c t) (iblk m c 6 t) (iblk m c 7 t) (iblk m c 8 t) (ix2 i j)
      = miss (rows h r w x (rowAt N_0 t i)) g b (s (rowAt N_0 t i)) j := by
  have e1 := norm_apply (blk_a m c hh t) (blk_b m c hh t) (blk_m m c hh t) (blk_r m c hr t) (blk_x m c hx t) (blk_w m c hw t) (blk_g m c hg t) (blk_l m c hb t) i j
  unfold ptDev ptVar
  rw [miss_alike, dev_alike, var_alike]
  exact congrArg₂ (fun a b : EReal => a - b) e1 (blk_s m c hs t i j)

/-- What a grid point leaves in this result's buffer. -/
theorem point_slope : (outsAt0 m c t.val t.isLt).1 = k0_pay9 (F := Ideal) (ptDev m c t) (ptVar m c t) (iblk m c 6 t) (iblk m c 7 t) (iblk m c 8 t) := by
  by_cases h0 : t.val % 32 = 0
  · rw [outsAt0_A m c t h0]
    dsimp only
    frame_out [↓View.readCov_skip, ↓View.readCov_fill]
    rfl
  · rw [outsAt0_B m c t h0]
    dsimp only
    frame_out
    rfl

include hh hr hw hx hg hb hs in
/-- The loss's derivative at the layer norm. -/
theorem array_slope : (dats m 0 c).arrAt 9 cfg0.N = slopeArr h r x s w g b := by
  refine (dats m 0 c).arrAt_eq_of_covers 9 (slopeArr h r x s w g b) (by decide +kernel) fun t hf z => ?_
  blk_simp
  rw [after0_9, point_slope]
  obtain ⟨i, j, rfl⟩ : ∃ i j, z = ix2 i j := ⟨_, _, eq_ix2 z⟩
  have he : ((cfg0.win 9).blk t).view.emb (ix2 i j) = (ix2 (rowAt N_0 t i) j : S8192x2048.Idx) :=
    funext fun a => Fin.ext <| by
      match a with
      | ⟨0, _⟩ => show win0_9.index t 0 * 256 + 1 * i.val = 256 * t.val + i.val; rw [(index_out t).1.1]; omega
      | ⟨1, _⟩ => show win0_9.index t 1 * 2048 + 1 * j.val = j.val; rw [(index_out t).1.2]; omega
  have e1 : k0_pay9 (F := Ideal) (ptDev m c t) (ptVar m c t) (iblk m c 6 t) (iblk m c 7 t) (iblk m c 8 t) (ix2 i j) = slopeArr h r x s w g b (ix2 (rowAt N_0 t i) j) :=
    slope_apply (pt_miss m c hh hr hw hx hg hb hs t) i j
  refine e1.trans ?_
  rw [← he]

/-- What a grid point leaves in this result's buffer. -/
theorem point_unit : (outsAt0 m c t.val t.isLt).2.1 = k0_pay6 (F := Ideal) (ptDev m c t) (ptVar m c t) := by
  by_cases h0 : t.val % 32 = 0
  · rw [outsAt0_A m c t h0]
    dsimp only
    frame_out [↓View.readCov_skip, ↓View.readCov_fill]
    rfl
  · rw [outsAt0_B m c t h0]
    dsimp only
    frame_out
    rfl

include hh hr hw hx in
/-- The normalised rows. -/
theorem array_unit : (dats m 0 c).arrAt 10 cfg0.N = unitArr h r x w := by
  refine (dats m 0 c).arrAt_eq_of_covers 10 (unitArr h r x w) (by decide +kernel) fun t hf z => ?_
  blk_simp
  rw [after0_10, point_unit]
  obtain ⟨i, j, rfl⟩ : ∃ i j, z = ix2 i j := ⟨_, _, eq_ix2 z⟩
  have he : ((cfg0.win 10).blk t).view.emb (ix2 i j) = (ix2 (rowAt N_0 t i) j : S8192x2048.Idx) :=
    funext fun a => Fin.ext <| by
      match a with
      | ⟨0, _⟩ => show win0_10.index t 0 * 256 + 1 * i.val = 256 * t.val + i.val; rw [(index_out t).2.1.1]; omega
      | ⟨1, _⟩ => show win0_10.index t 1 * 2048 + 1 * j.val = j.val; rw [(index_out t).2.1.2]; omega
  have e1 : k0_pay6 (F := Ideal) (ptDev m c t) (ptVar m c t) (ix2 i j) = unitArr h r x w (ix2 (rowAt N_0 t i) j) :=
    unit_apply (blk_a m c hh t) (blk_b m c hh t) (blk_m m c hh t) (blk_r m c hr t) (blk_x m c hx t) (blk_w m c hw t) i j
  refine e1.trans ?_
  rw [← he]

/-- What a grid point leaves in this result's buffer. -/
theorem point_root : (outsAt0 m c t.val t.isLt).2.2.1 = k0_pay5 (F := Ideal) (ptVar m c t) := by
  by_cases h0 : t.val % 32 = 0
  · rw [outsAt0_A m c t h0]
    dsimp only
    frame_out [↓View.readCov_skip, ↓View.readCov_fill]
    rfl
  · rw [outsAt0_B m c t h0]
    dsimp only
    frame_out
    rfl

include hh hr hw hx in
/-- The rows' reciprocal roots. -/
theorem array_root : (dats m 0 c).arrAt 11 cfg0.N = rootArr h r x w := by
  refine (dats m 0 c).arrAt_eq_of_covers 11 (rootArr h r x w) (by decide +kernel) fun t hf z => ?_
  blk_simp
  rw [after0_11, point_root]
  obtain ⟨i, j, rfl⟩ : ∃ i j, z = ix2 i j := ⟨_, _, eq_ix2 z⟩
  obtain rfl : j = 0 := Subsingleton.elim _ _
  have he : ((cfg0.win 11).blk t).view.emb (ix2 i 0) = (ix2 (rowAt N_0 t i) 0 : S8192x1.Idx) :=
    funext fun a => Fin.ext <| by
      match a with
      | ⟨0, _⟩ => show win0_11.index t 0 * 256 + 1 * i.val = 256 * t.val + i.val; rw [(index_out t).2.2.1.1]; omega
      | ⟨1, _⟩ => show win0_11.index t 1 * 1 + 1 * 0 = 0; rw [(index_out t).2.2.1.2]
  have e1 : k0_pay5 (F := Ideal) (ptVar m c t) (ix2 i 0) = rootArr h r x w (ix2 (rowAt N_0 t i) 0) :=
    root_apply (blk_a m c hh t) (blk_b m c hh t) (blk_m m c hh t) (blk_r m c hr t) (blk_x m c hx t) (blk_w m c hw t) i
  refine e1.trans ?_
  rw [← he]

/-- What a grid point leaves in this result's buffer. -/
theorem point_gated : (outsAt0 m c t.val t.isLt).2.2.2.1 = k0_pay2 (F := Ideal) (iblk m c 0 t) (iblk m c 1 t) (iblk m c 2 t) (iblk m c 3 t) := by
  by_cases h0 : t.val % 32 = 0
  · rw [outsAt0_A m c t h0]
    dsimp only
    frame_out [↓View.readCov_skip, ↓View.readCov_fill]
  · rw [outsAt0_B m c t h0]
    dsimp only
    frame_out

include hh hr in
/-- The gated activations. -/
theorem array_gated : (dats m 0 c).arrAt 12 cfg0.N = gatedArr h r := by
  refine (dats m 0 c).arrAt_eq_of_covers 12 (gatedArr h r) (by decide +kernel) fun t hf z => ?_
  blk_simp
  rw [after0_12, point_gated]
  obtain ⟨i, j, rfl⟩ : ∃ i j, z = ix2 i j := ⟨_, _, eq_ix2 z⟩
  have he : ((cfg0.win 12).blk t).view.emb (ix2 i j) = (ix2 (rowAt N_0 t i) j : S8192x2048.Idx) :=
    funext fun a => Fin.ext <| by
      match a with
      | ⟨0, _⟩ => show win0_12.index t 0 * 256 + 1 * i.val = 256 * t.val + i.val; rw [(index_out t).2.2.2.1.1]; omega
      | ⟨1, _⟩ => show win0_12.index t 1 * 2048 + 1 * j.val = j.val; rw [(index_out t).2.2.2.1.2]; omega
  have e1 : k0_pay2 (F := Ideal) (iblk m c 0 t) (iblk m c 1 t) (iblk m c 2 t) (iblk m c 3 t) (ix2 i j) = gatedArr h r (ix2 (rowAt N_0 t i) j) :=
    gated_apply (blk_a m c hh t) (blk_b m c hh t) (blk_m m c hh t) (blk_r m c hr t) i j
  refine e1.trans ?_
  rw [← he]

/-- The loss's buffer after the first point. -/
theorem point_loss_first (h0 : t.val % 32 = 0) : (outsAt0 m c t.val t.isLt).2.2.2.2 = k0_pay1 (F := Ideal) (k0_pay10 (F := Ideal) (k0_pay7 (F := Ideal))) (k0_pay11 (F := Ideal) (ptDev m c t) (ptVar m c t) (iblk m c 6 t) (iblk m c 7 t) (iblk m c 8 t)) (Scalar.ofBits (F := Ideal) .f32 0x3F000000#32) := by
  rw [outsAt0_A m c t h0]
  dsimp only
  frame_out [↓View.readCov_skip, ↓View.readCov_fill]
  rfl

/-- The loss's buffer after a later point, over what the point before left. -/
theorem point_loss_next (h0 : ¬t.val % 32 = 0) : (outsAt0 m c t.val t.isLt).2.2.2.2
    = k0_pay1 (F := Ideal) (k0_pay10 (F := Ideal) (outsAt0 m c (t.val - 1) (Nat.lt_of_le_of_lt (Nat.sub_le _ _) t.isLt)).2.2.2.2) (k0_pay11 (F := Ideal) (ptDev m c t) (ptVar m c t) (iblk m c 6 t) (iblk m c 7 t) (iblk m c 8 t)) (Scalar.ofBits (F := Ideal) .f32 0x3F000000#32) := by
  rw [outsAt0_B m c t h0]
  dsimp only
  frame_out
  rfl

include hh hr hw hx hg hb hs in
/-- The loss. -/
theorem array_loss : (dats m 0 c).arrAt 13 cfg0.N = lossArr h r x s w g b := by
  have hN : cfg0.N = 32 := N_0
  refine (dats m 0 c).arrAt_eq_of_covers 13 (lossArr h r x s w g b) (by decide +kernel) fun t hf z => ?_
  blk_simp
  rw [after0_13]
  have ht : t.val + 1 = cfg0.N := by have := (flush0_13 t).mp hf; have := t.isLt; omega
  have key : ∀ (t : Fin cfg0.N) (P : Vec Ideal S1x128 .f32) (z : S1x128.Idx),
      k0_pay1 (F := Ideal) (k0_pay10 (F := Ideal) P) (k0_pay11 (F := Ideal) (ptDev m c t) (ptVar m c t) (iblk m c 6 t) (iblk m c 7 t) (iblk m c 8 t)) (Scalar.ofBits (F := Ideal) .f32 0x3F000000#32) z
        = P z + half * ∑ i, missSq (rows h r w x (rowAt N_0 t i)) g b (s (rowAt N_0 t i)) := fun t P z => by
    obtain ⟨o, j, rfl⟩ : ∃ o j, z = ix2 o j := ⟨_, _, eq_ix2 z⟩
    obtain rfl : o = 0 := Subsingleton.elim _ _
    rw [add_apply, sum_apply (pt_miss m c hh hr hw hx hg hb hs t)]
    rfl
  rw [Pipeline.eq_sum_fin_of_reset_step_apply_last (fun n h => (outsAt0 m c n h).2.2.2.2) 32 (k0_pay7 (F := Ideal))
    (fun t _ => half * ∑ i, missSq (rows h r w x (rowAt N_0 t i)) g b (s (rowAt N_0 t i)))
    (fun t h z => (congrFun (point_loss_first m c t h) z).trans (key t _ z))
    (fun t h z => (congrFun (point_loss_next m c t h) z).trans (key t _ z))
    (le_of_eq N_0) t ht]
  obtain ⟨o, j, rfl⟩ : ∃ o j, z = ix2 o j := ⟨_, _, eq_ix2 z⟩
  obtain rfl : o = 0 := Subsingleton.elim _ _
  rw [zero_apply, zero_add, ← half_mul_sum]
  exact congrArg (fun q => half * q) (Cert.Norm.sum_rows N_0 fun R => missSq (rows h r w x R) g b (s R))

end Cert.Loss

end
-- ==== Proof.LossReference.lean ====
/-
  The results of the last layer's reference: the stages it shares with the other layers' reference, the loss, and its derivative.
-/
module

public import proofs.«01_k».proof.Proof.LossArray
public import proofs.«01_k».proof.Proof.ProjReference
public import proofs.«01_k».proof.Proof.Gen.Reference4Ideal.Read

@[expose] public section

set_option maxRecDepth 16384

noncomputable section

namespace Cert.Loss

open Idealize.ShloMosaic Idealize.ShloMosaic.TcCoe Cert.Proj Cert.Reference4Ideal Cert.Reference4Ideal.Gen Cert.Reference4Ideal.Read

/-! ## Where each stage reads -/

/-- Where this stage reads its operand. -/
theorem at_idx_main_v48 (R : Fin 8192) (k : Fin 2048) : idx_main_v48 (ix1 R) k = ix2 R k := by
  funext a
  match a with
  | ⟨0, _⟩ => rfl
  | ⟨1, _⟩ => rfl

/-- Where this stage reads its operand. -/
theorem at_idx_main_v57 (R : Fin 8192) (C : Fin 2048) : idx_main_v57 (ix2 R C) = ix1 R := by
  funext a
  match a with
  | ⟨0, _⟩ => rfl

/-! ## The stages -/

variable {x0 : (⟨S8192x7168, .bf16⟩ : BufTy).Contents (Elt Ideal)} {x1 : (⟨S8192x2048, .bf16⟩ : BufTy).Contents (Elt Ideal)}
variable {x2 : (⟨S2048x2048, .bf16⟩ : BufTy).Contents (Elt Ideal)} {x3 x6 : (⟨S8192x2048, .f32⟩ : BufTy).Contents (Elt Ideal)}
variable {x4 x5 : (⟨S2048, .f32⟩ : BufTy).Contents (Elt Ideal)}
variable {h : Fin 8192 → Fin 7168 → EReal} {r x s : Fin 8192 → Fin 2048 → EReal} {w : Fin 2048 → Fin 2048 → EReal} {g b : Fin 2048 → EReal}
variable (hh : ∀ R C, x0 (ix2 R C) = h R C) (hr : ∀ R C, x1 (ix2 R C) = r R C) (hw : ∀ R C, x2 (ix2 R C) = w R C)
variable (hx : ∀ R C, x3 (ix2 R C) = x R C) (hg : ∀ j, x4 (ix1 j) = g j) (hb : ∀ j, x5 (ix1 j) = b j) (hs : ∀ R C, x6 (ix2 R C) = s R C)

include hh hr in
/-- The gated activations. -/
theorem last_gated : val_main_v59 (F := Ideal) x0 x1 = gatedArr h r := result_gated hh hr

include hh hr hw hx

/-- The rows' reciprocal roots. -/
theorem last_root : val_main_v33 (F := Ideal) x0 x1 x2 x3 = rootArr h r x w := result_root hh hr hw hx

/-- The normalised rows. -/
theorem last_unit : val_main_v37 (F := Ideal) x0 x1 x2 x3 = unitArr h r x w := result_unit hh hr hw hx

include hg hb

/-- The layer norm of the rows. -/
theorem last_norm : val_main_v43 (F := Ideal) x0 x1 x2 x3 x4 x5 = normArr h r x w g b := result_norm hh hr hw hx hg hb

include hs

/-- The rows' distances to the target. -/
theorem last_miss (R : Fin 8192) (C : Fin 2048) :
    val_main_v44 (F := Ideal) x0 x1 x2 x3 x4 x5 x6 (ix2 R C) = miss (rows h r w x R) g b (s R) C := by
  rw [val_main_v44_apply, last_norm hh hr hw hx hg hb, hs]
  rfl

/-- The loss's derivative. -/
theorem last_slope : val_main_v58 (F := Ideal) x0 x1 x2 x3 x4 x5 x6 = slopeArr h r x s w g b := by
  funext i
  obtain ⟨R, C, rfl⟩ : ∃ R C, i = ix2 R C := ⟨_, _, eq_ix2 i⟩
  rw [val_main_v58_apply, val_main_v57_apply, at_idx_main_v57, val_main_v56_apply, val_main_v55_apply, val_main_cst_12_apply, val_main_v54_apply,
    val_main_v53_apply, val_main_cst_10_apply, val_main_cst_11_apply, val_main_v47_apply, val_main_v46_apply, val_main_cst_5_apply,
    last_miss hh hr hw hx hg hb hs]
  refine Eq.trans ?_ (slope (miss (rows h r w x R) g b (s R) C))
  rw [← Ideal.ofBits_one_f32]
  rfl

/-- A row's mean square distance. -/
theorem last_missSq (R : Fin 8192) : val_main_v50 (F := Ideal) x0 x1 x2 x3 x4 x5 x6 (ix1 R) = missSq (rows h r w x R) g b (s R) := by
  rw [val_main_v50_apply, val_main_v49_apply, val_main_cst_7_apply, val_main_v48_apply, val_main_cst_6_apply, from_zero]
  simp only [at_idx_main_v48, val_main_v45_apply, last_miss hh hr hw hx hg hb hs]
  rfl

/-- The loss, in every lane. -/
theorem last_loss : val_main_v60 (F := Ideal) x0 x1 x2 x3 x4 x5 x6 = lossArr h r x s w g b := by
  funext i
  rw [val_main_v60_apply, val_main_v52_apply, val_main_cst_9_apply, val_main_v51_apply, val_main_cst_8_apply, from_zero]
  rw [sum_idx1]
  simp only [last_missSq hh hr hw hx hg hb hs]
  rfl

end Cert.Loss

end
-- ==== Proof.DenseMath.lean ====
/-
  The product of two matrices over the extended reals.
-/
module

public import Idealize.ShloMosaic.Lib.Pointwise
public import Idealize.ShloMosaic.Lib.ValueIdx

@[expose] public section

noncomputable section

namespace Cert.Dense

open Idealize.ShloMosaic

variable {m k n : ℕ}

/-- The product of two matrices. -/
def prod (a : Fin m → Fin k → EReal) (b : Fin k → Fin n → EReal) (i : Fin m) (j : Fin n) : EReal := ∑ q, a i q * b q j

/-- The product of a transposed matrix and a matrix. -/
def tprod (a : Fin k → Fin m → EReal) (b : Fin k → Fin n → EReal) (i : Fin m) (j : Fin n) : EReal := ∑ q, a q i * b q j

end Cert.Dense

end
-- ==== Proof.InRun.lean ====
/-
  The input projection's run, over any values. The call writes a block of the result at every grid point; of one block in seven it writes
  the first 640 columns alone, so what the other columns hold is not said.
-/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-! ## What a grid point leaves -/

/-- The block of the left operand, whole. -/
abbrev rectX : Rect S1024x2048 := Rect.unit (s := S1024x2048) ![0, 0] S1024x2048.size inb_S1024x2048_S1024x2048_0_0
/-- The block of the right operand, whole. -/
abbrev rectW : Rect S2048x1024 := Rect.unit (s := S2048x1024) ![0, 0] S2048x1024.size inb_S2048x1024_S2048x1024_0_0
/-- The first columns of the block of the right operand. -/
abbrev rectW' : Rect S2048x1024 := Rect.unit (s := S2048x1024) ![0, 0] S2048x640.size inb_S2048x1024_S2048x640_0_0
/-- The block of the result, whole. -/
abbrev rectO : Rect S1024x1024 := Rect.unit (s := S1024x1024) ![0, 0] S1024x1024.size inb_S1024x1024_S1024x1024_0_0
/-- The first columns of the block of the result. -/
abbrev rectO' : Rect S1024x1024 := Rect.unit (s := S1024x1024) ![0, 0] S1024x640.size inb_S1024x1024_S1024x640_0_0

/-- The result's block holds, where the point writes it, the product of the operands' blocks. -/
def Holds (i : grid0.Coords) (x : Vec F S1024x2048 .f32) (w : Vec F S2048x1024 .bf16) (Y : Vec F S1024x1024 .bf16) : Prop :=
  (k0_cond1 i = 1#1 → ∀ y, Y (rectO'.emb y) = k0_pay1 (View.ld x rectX) (View.ld w rectW') y)
    ∧ (k0_cond2 i = 1#1 → ∀ y, Y (rectO.emb y) = k0_pay2 (View.ld x rectX) (View.ld w rectW) y)

/-- No point takes both branches. -/
theorem branches : ∀ t : Fin grid0.N, k0_cond1 (grid0.coords t) = 1#1 → ¬k0_cond2 (grid0.coords t) = 1#1 := by decide +kernel

set_option maxHeartbeats 1000000 in
/-- The body leaves its operands' blocks as they were and a block of the result for which `Holds` is true. -/
theorem sound_kernel (c : Dev nD) (E : Set ℕ) (i : grid0.Coords) (hi : k0_cond1 i = 1#1 → ¬k0_cond2 i = 1#1)
    (arg3 : Memref sig .tc .vmem S1024x2048 .f32) (harg3 : arg3.IsWhole) (arg4 : Memref sig .tc .vmem S2048x1024 .bf16) (harg4 : arg4.IsWhole)
    (arg5 : Memref sig .tc .vmem S1024x1024 .bf16) (harg5 : arg5.IsWhole)
    (x0 : Vec F S1024x2048 .f32) (x1 : Vec F S2048x1024 .bf16) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1
            ∗ (∃ Y, ⌜Holds i x0 x1 Y⌝ ∗ owns (c : Thread nD τ) arg5 fullShare Y)) -∗ K ⟨⟩))
      ⊢ wp frame (wpE (defs₀ (F := F)) Variants.none c none) E (cc0_in_proj i arg3 harg3 arg4 harg4 arg5 harg5) K := by
  simp only [cc0_in_proj_eq_skeleton]; unfold cc0_in_proj_skel
  unfold owns
  iintro ⟨⟨%f0, %hf0, H0⟩, ⟨%f1, %hf1, H1⟩, ⟨%d2, %f2, -, H2⟩, Hk⟩
  subst hf0 hf1
  by_cases h1 : k0_cond1 i = 1#1
  · have h2 := hi h1
    sl_exec
    sl_step
    iapply Hk
    isplitl [H0]
    · iexists f0; isplitr; · ipureintro; rfl
      iexact H0
    isplitl [H1]
    · iexists f1; isplitr; · ipureintro; rfl
      iexact H1
    iexists _; isplitr
    swap
    · iexists _; isplitr
      swap; · iexact H2
      ipureintro; rfl
    ipureintro
    exact ⟨fun _ y => View.read_writes_cons_emb _ _ _ _ _ _, fun h => absurd h h2⟩
  · by_cases h2 : k0_cond2 i = 1#1
    · sl_exec
      sl_step
      iapply Hk
      isplitl [H0]
      · iexists f0; isplitr; · ipureintro; rfl
        iexact H0
      isplitl [H1]
      · iexists f1; isplitr; · ipureintro; rfl
        iexact H1
      iexists _; isplitr
      swap
      · iexists _; isplitr
        swap; · iexact H2
        ipureintro; rfl
      ipureintro
      exact ⟨fun h => absurd h h1, fun _ y => View.read_writes_cons_emb _ _ _ _ _ _⟩
    · sl_exec
      sl_step
      iapply Hk
      isplitl [H0]
      · iexists f0; isplitr; · ipureintro; rfl
        iexact H0
      isplitl [H1]
      · iexists f1; isplitr; · ipureintro; rfl
        iexact H1
      iexists _; isplitr
      swap
      · iexists _; isplitr
        swap; · iexact H2
        ipureintro; rfl
      ipureintro
      exact ⟨fun h => absurd h h1, fun h => absurd h h2⟩

/-! ## The run -/

variable (m : (ℓ : Loc nD τ sig) → Buf (Elt F) ℓ) (ρ : Dev nD → PrngReg)

/-- A core's buffers when the call begins: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The operands' blocks at each point; of the result nothing is named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => View.canon (s := S1024x1024) []
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- The body leaves the operand's block in place. -/
theorem after0_0 (c : Dev nD) (t : Fin cfg0.N) : (dats m 0 c).after 0 t = iblk m c 0 t := by dsimp only [dats]
/-- The body leaves the operand's block in place. -/
theorem after0_1 (c : Dev nD) (t : Fin cfg0.N) : (dats m 0 c).after 1 t = iblk m c 1 t := by dsimp only [dats]

/-- The body finds the operand's block. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
/-- The body finds the operand's block. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)

/-- The result alone is held to a predicate. -/
def held : Fin cfg0.W → Bool := fun | 0 => false | 1 => false | 2 => true | ⟨_ + 3, h⟩ => absurd h (Nat.not_lt.2 (Nat.le_add_left _ _))

/-- The predicate: the block holds the product of the operands' blocks where the point writes it. -/
def Leaves (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun Y => Holds (grid0.coords t) (iblk m c 0 t) (iblk m c 1 t) Y

/-- What the run says of each array. -/
abbrev rdat (c : Dev nD) : RDat τ (Elt F) Unit ℕ (UR sig nD τ) ℕ cfg0 c := (dats m 0 c).toRRel held (Leaves m c)

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜(rdat m c).Finds 2 t Y⌝ ∗ owns (c : Thread nD τ) (st0_2 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜Leaves m c 2 t X⌝ ∗ owns (c : Thread nD τ) (st0_2 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  iintro ⟨HΦ, Ho, ⟨%d0, H0⟩, ⟨%d1, H1⟩, ⟨%d2, -, H2⟩⟩
  iapply (sound_kernel c Set.univ (grid0.coords t) (branches t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The row of the body table at a point is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) :
    BodyObligationRel (dats (F := F) m 0 c) (defs₀ (F := F)) Variants.none () Set.univ held (Leaves m c) := fun t => by
  rw [bigSep_W0, bigSep_W0, defs₀_row]
  exact triple_restated (sound_body m c t) rfl .rfl fun _ => .rfl

set_option backward.isDefEq.respectTransparency.types false in
set_option maxHeartbeats 800000 in
/-- Every fair execution ends, with the arrays as `rdat` says, every other buffer as launched and every counter at zero. -/
theorem run_main : θ_run defs (onTc (τ := τ) (main (F := F))) (s₀ m ρ)
    (fun r => RDat.FramePost cfg0 (rdat m) (V m) r ∧ r.2.sem = fun _ => 0) :=
  RDat.θ_run_frame cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl) (Q' := _) (hQ' := fun _ h => h)

/-- The call leaves its arguments as they were and every counter at zero. -/
theorem frame_in : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(RDat.FramePost.arr_in h.1 c 0 rfl).trans (A_eq m c 0),
    (RDat.FramePost.arr_in h.1 c 1 rfl).trans (A_eq m c 1)⟩, h.2⟩) (run_main m ρ)

end Cert.In

end
-- ==== Proof.InArray.lean ====
/-
  The input projection: what the call leaves in the columns that it writes, and its reference, over the extended reals.
-/
module

public import proofs.«01_k».proof.Proof.DenseMath
public import proofs.«01_k».proof.Proof.InRun
public import proofs.«01_k».proof.Proof.Gen.Reference5Ideal.Read
public import proofs.«01_k».proof.Proof.Gen.On_live
public import Idealize.ShloMosaic.Lib.Pipeline.ReadBack
public import Idealize.ShloMosaic.Lib.Pipeline.ValueKit.Partial
public import Idealize.ShloMosaic.Lib.Pipeline.ValueKit.Tiles
public import Idealize.ShloMosaic.Lib.StableHlo.ReadAt
public import Idealize.ShloMosaic.Lib.WordCmp

@[expose] public section

set_option maxRecDepth 16384

noncomputable section

namespace Cert.In

open Idealize.ShloMosaic Idealize.ShloMosaic.TcCoe
open Idealize.ShloMosaic.Pipeline (Dat RDat Cfg Window)
open Cert.Dense (prod)

/-- The projection of every row, as an array. -/
def inArr (x : Fin 8192 → Fin 2048 → EReal) (w : Fin 2048 → Fin 7168 → EReal) : Vec Ideal Cert.Kernel5Ideal.S8192x7168 .bf16 :=
  fun i => prod x w (i 0) (i 1)

/-- The columns that the projection fills: all but the padding between the gated recurrence's and the memory's. -/
def Live (j : ℕ) : Prop := j < 5760 ∨ 6144 ≤ j

section Call

open Cert.Kernel5Ideal Cert.Kernel5Ideal.Gen

/-- Which blocks each grid point reads or writes. -/
theorem index_in : ∀ t : Fin cfg0.N, (win0_0.index t 0 = t.val / 7 ∧ win0_0.index t 1 = 0) ∧ (win0_1.index t 0 = 0 ∧ win0_1.index t 1 = t.val % 7)
    ∧ (win0_2.index t 0 = t.val / 7 ∧ win0_2.index t 1 = t.val % 7) := by decide +kernel

/-- Which points write the first columns of their block alone, and which the whole of it. -/
theorem branch_in : ∀ t : Fin cfg0.N, (t.val % 7 = 5 → k0_cond1 (grid0.coords t) = 1#1) ∧ (t.val % 7 ≠ 5 → k0_cond2 (grid0.coords t) = 1#1) := by
  decide +kernel

section Block

variable {a : Fin 1024 → Fin 2048 → EReal} {b : Fin 2048 → Fin 1024 → EReal}
variable {X : Vec Ideal S1024x2048 .f32} {W : Vec Ideal S2048x1024 .bf16}

/-- An index of the narrow block is the same index of the whole one. -/
theorem rectO'_emb (i : Fin 1024) (j : Fin 640) : rectO'.emb (ix2 i j) = (ix2 i ⟨j.val, by omega⟩ : S1024x1024.Idx) :=
  funext fun a => Fin.ext <| by
    match a with
    | ⟨0, _⟩ => show 0 + 1 * i.val = i.val; omega
    | ⟨1, _⟩ => show 0 + 1 * j.val = j.val; omega

/-- An index of the whole block is itself. -/
theorem rectO_emb (i j : Fin 1024) : rectO.emb (ix2 i j) = (ix2 i j : S1024x1024.Idx) :=
  funext fun a => Fin.ext <| by
    match a with
    | ⟨0, _⟩ => show 0 + 1 * i.val = i.val; omega
    | ⟨1, _⟩ => show 0 + 1 * j.val = j.val; omega

/-- The left operand's block, read whole. -/
theorem ld_x (i : Fin 1024) (k : Fin 2048) : View.ld X rectX (ix2 i k) = X (ix2 i k) :=
  congrArg X <| funext fun a => Fin.ext <| by
    match a with
    | ⟨0, _⟩ => show 0 + 1 * i.val = i.val; omega
    | ⟨1, _⟩ => show 0 + 1 * k.val = k.val; omega

/-- The right operand's block, read whole. -/
theorem ld_w (k : Fin 2048) (j : Fin 1024) : View.ld W rectW (ix2 k j) = W (ix2 k j) :=
  congrArg W <| funext fun a => Fin.ext <| by
    match a with
    | ⟨0, _⟩ => show 0 + 1 * k.val = k.val; omega
    | ⟨1, _⟩ => show 0 + 1 * j.val = j.val; omega

/-- The right operand's block, its first columns read. -/
theorem ld_w' (k : Fin 2048) (j : Fin 640) : View.ld W rectW' (ix2 k j) = W (ix2 k ⟨j.val, by omega⟩) :=
  congrArg W <| funext fun a => Fin.ext <| by
    match a with
    | ⟨0, _⟩ => show 0 + 1 * k.val = k.val; omega
    | ⟨1, _⟩ => show 0 + 1 * j.val = j.val; omega

/-- What a point computes of the first columns is their product. -/
theorem narrow_apply (x : Vec Ideal S1024x2048 .f32) (w : Vec Ideal S2048x640 .bf16) (i : Fin 1024) (j : Fin 640) :
    k0_pay1 (F := Ideal) x w (ix2 i j) = ∑ k : Fin 2048, x (ix2 i k) * w (ix2 k j) := by
  unfold k0_pay1
  pointwise

/-- What a point computes of a whole block is its product. -/
theorem whole_apply (x : Vec Ideal S1024x2048 .f32) (w : Vec Ideal S2048x1024 .bf16) (i : Fin 1024) (j : Fin 1024) :
    k0_pay2 (F := Ideal) x w (ix2 i j) = ∑ k : Fin 2048, x (ix2 i k) * w (ix2 k j) := by
  unfold k0_pay2
  pointwise

/-- Where a point writes its block, the block holds the product of the operands' blocks. -/
theorem block_in (t : Fin cfg0.N) {Y : Vec Ideal S1024x1024 .bf16} (hY : Holds (grid0.coords t) X W Y)
    (hX : ∀ i k, X (ix2 i k) = a i k) (hW : ∀ k j, W (ix2 k j) = b k j) (i j : Fin 1024) (hj : t.val % 7 = 5 → j.val < 640) :
    Y (ix2 i j) = prod a b i j := by
  by_cases h : t.val % 7 = 5
  · have e := hY.1 ((branch_in t).1 h) (ix2 i ⟨j.val, hj h⟩)
    rw [rectO'_emb, narrow_apply] at e
    exact e.trans (Finset.sum_congr rfl fun k _ => congrArg₂ (· * ·) ((ld_x i k).trans (hX i k)) ((ld_w' k _).trans (hW k j)))
  · have e := hY.2 ((branch_in t).2 h) (ix2 i j)
    rw [rectO_emb, whole_apply] at e
    exact e.trans (Finset.sum_congr rfl fun k _ => congrArg₂ (· * ·) ((ld_x i k).trans (hX i k)) ((ld_w k j).trans (hW k j)))

end Block

variable {x : Fin 8192 → Fin 2048 → EReal} {w : Fin 2048 → Fin 7168 → EReal}
variable (m : (ℓ : Loc nD τ sig) → Buf (Elt Ideal) ℓ) (c : Dev nD)
variable (hx : ∀ i j, (m ((c : Thread nD τ).loc main_arg0) : Vec Ideal S8192x2048 .f32) (ix2 i j) = x i j)
variable (hw : ∀ i j, (m ((c : Thread nD τ).loc main_arg1) : Vec Ideal S2048x7168 .bf16) (ix2 i j) = w i j)

/-- Row `i` of a point's block of rows. -/
def rowAt (t : Fin cfg0.N) (i : Fin 1024) : Fin 8192 := ⟨1024 * (t.val / 7) + i.val, by have := t.isLt; have : cfg0.N = 56 := N_0; omega⟩
/-- Column `j` of a point's block of columns. -/
def colAt (t : Fin cfg0.N) (j : Fin 1024) : Fin 7168 := ⟨1024 * (t.val % 7) + j.val, by omega⟩

include hx in
/-- The block of rows a point reads, entry by entry. -/
theorem blk_in_x (t : Fin cfg0.N) (i : Fin 1024) (k : Fin 2048) : (iblk m c 0 t : Vec Ideal S1024x2048 .f32) (ix2 i k) = x (rowAt t i) k := by
  unfold iblk
  rw [View.read_apply]
  refine (congrArg (V m c main_arg0) (funext fun a => Fin.ext ?_)).trans (hx (rowAt t i) k)
  match a with
  | ⟨0, _⟩ => show win0_0.index t 0 * 1024 + 1 * i.val = 1024 * (t.val / 7) + i.val; rw [(index_in t).1.1]; omega
  | ⟨1, _⟩ => show win0_0.index t 1 * 2048 + 1 * k.val = k.val; rw [(index_in t).1.2]; omega

include hw in
/-- The block of columns a point reads, entry by entry. -/
theorem blk_in_w (t : Fin cfg0.N) (k : Fin 2048) (j : Fin 1024) : (iblk m c 1 t : Vec Ideal S2048x1024 .bf16) (ix2 k j) = w k (colAt t j) := by
  unfold iblk
  rw [View.read_apply]
  refine (congrArg (V m c main_arg1) (funext fun a => Fin.ext ?_)).trans (hw k (colAt t j))
  match a with
  | ⟨0, _⟩ => show win0_1.index t 0 * 2048 + 1 * k.val = k.val; rw [(index_in t).2.1.1]; omega
  | ⟨1, _⟩ => show win0_1.index t 1 * 1024 + 1 * j.val = 1024 * (t.val % 7) + j.val; rw [(index_in t).2.1.2]; omega

/-- Where an entry of a point's block lies in the result. -/
theorem emb_in (t : Fin cfg0.N) (i j : Fin 1024) : ((cfg0.win 2).blk t).view.emb (ix2 i j) = (ix2 (rowAt t i) (colAt t j) : S8192x7168.Idx) :=
  funext fun a => Fin.ext <| by
    match a with
    | ⟨0, _⟩ => show win0_2.index t 0 * 1024 + 1 * i.val = 1024 * (t.val / 7) + i.val; rw [(index_in t).2.2.1]; omega
    | ⟨1, _⟩ => show win0_2.index t 1 * 1024 + 1 * j.val = 1024 * (t.val % 7) + j.val; rw [(index_in t).2.2.2]; omega

/-- A filled column of the narrow block is one of its first columns. -/
theorem live_narrow (t : Fin cfg0.N) (j : Fin 1024) (hl : Live (colAt t j).val) (h : t.val % 7 = 5) : j.val < 640 := by
  have hl' : 1024 * (t.val % 7) + j.val < 5760 ∨ 6144 ≤ 1024 * (t.val % 7) + j.val := hl
  have := j.isLt
  omega

/-- Whatever the points leave, if `Leaves` is true of it, the array holds the projection in every filled column. -/
theorem array_in (after : (w' : Fin cfg0.W) → Fin cfg0.N → (cfg0.win w').block.Idx → Elt Ideal (cfg0.win w').elt)
    (hx : ∀ i j, (m ((c : Thread nD τ).loc main_arg0) : Vec Ideal S8192x2048 .f32) (ix2 i j) = x i j)
    (hw : ∀ i j, (m ((c : Thread nD τ).loc main_arg1) : Vec Ideal S2048x7168 .bf16) (ix2 i j) = w i j)
    (hL : ∀ t : Fin cfg0.N, Leaves m c 2 t (after 2 t)) (i : S8192x7168.Idx) (hi : Live (i 1).val) :
    (((rdat m c).withAfter after).arrAt 2 cfg0.N : Vec Ideal S8192x7168 .bf16) i = inArr x w i := by
  refine (((rdat m c).withAfter after).arrAt_forall_of_coversWhere 2
    (fun (i : S8192x7168.Idx) (v : EReal) => Live (i 1).val → v = inArr x w i) (fun _ => True) (by decide +kernel)
    (fun t hf z => ?_) (fun j h => absurd trivial h) i) hi
  rw [RDat.withAfter_after]
  obtain ⟨p, q, rfl⟩ : ∃ p q, z = ix2 p q := ⟨_, _, eq_ix2 z⟩
  rw [emb_in]
  intro hl
  exact block_in t (hL t) (blk_in_x m c hx t) (blk_in_w m c hw t) p q (live_narrow t q hl)

variable (ρ : Dev nD → PrngReg)

/-- The call ends with the projection in every filled column, its arguments as they were. -/
theorem run_in (x : Dev nD → Fin 8192 → Fin 2048 → EReal) (w : Dev nD → Fin 2048 → Fin 7168 → EReal)
    (hx : ∀ c i j, (m ((c.tc : Thread nD τ).loc main_arg0) : Vec Ideal S8192x2048 .f32) (ix2 i j) = x c i j)
    (hw : ∀ c i j, (m ((c.tc : Thread nD τ).loc main_arg1) : Vec Ideal S2048x7168 .bf16) (ix2 i j) = w c i j) :
    θ_run defs (onTc (τ := τ) (main (F := Ideal))) ⟨m, fun _ => 0, ρ⟩ (fun r => ∀ c : Dev nD,
      (∀ i : S8192x7168.Idx, Live (i 1).val → (r.2.mem ((c.tc : Thread nD τ).loc main_v0) : Vec Ideal S8192x7168 .bf16) i = inArr (x c) (w c) i)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain ⟨after, hL, hA⟩ := RDat.FramePost.exists_exact h.1 c
    refine ⟨fun i hi => ?_, (RDat.FramePost.arr_in h.1 c 0 rfl).trans (A_eq m c 0), (RDat.FramePost.arr_in h.1 c 1 rfl).trans (A_eq m c 1)⟩
    exact (congrFun (hA 2) i).trans (array_in m c after (hx c) (hw c)
      (fun t => Dat.toRRel_leaves (dats m 0 c) (h := rfl) (hL 2 t (flush0_2 t))) i hi)) (run_main m ρ)

end Call

/-- The mask of the claim selects filled columns alone. -/
theorem live_mask (x : FVec Ideal Cert.On_live.S8192x2048 .f32) (w : FVec Ideal Cert.On_live.S2048x7168 .bf16) (i : Cert.On_live.S8192x7168.Idx)
    (h : Cert.On_live.fn (F := Ideal) x w i = 1#1) : Live (i 1).val := by
  have hb : (i 1).val < 7168 := (i 1).isLt
  have h' : IntOp.ori (IntOp.cmpi .slt (BitVec.ofNat 32 (i 1).val) (BitVec.ofNat 32 5760)) (IntOp.cmpi .sge (BitVec.ofNat 32 (i 1).val) (BitVec.ofNat 32 6144))
      = 1#1 := h
  rw [WordCmp.cmpi_slt_ofNat (by omega) (by omega), WordCmp.cmpi_sge_ofNat (by omega) (by omega), WordCmp.ori_ofBool, WordCmp.ofBool_eq_one_iff] at h'
  simpa [Live] using h'

section Reference

open Cert.Reference5Ideal Cert.Reference5Ideal.Read

variable {x0 : (⟨S8192x2048, .f32⟩ : BufTy).Contents (Elt Ideal)} {x1 : (⟨S2048x7168, .bf16⟩ : BufTy).Contents (Elt Ideal)}
variable {a : Fin 8192 → Fin 2048 → EReal} {b : Fin 2048 → Fin 7168 → EReal}

/-- Where the product reads its left operand. -/
theorem in_lidx (i : Fin 8192) (j : Fin 7168) (k : Fin 2048) : lidx_main_v1 (ix2 i j) k = ix2 i k := by
  funext a
  match a with
  | ⟨0, _⟩ => rfl
  | ⟨1, _⟩ => rfl

/-- Where the product reads its right operand. -/
theorem in_ridx (i : Fin 8192) (j : Fin 7168) (k : Fin 2048) : ridx_main_v1 (ix2 i j) k = ix2 k j := by
  funext a
  match a with
  | ⟨0, _⟩ => rfl
  | ⟨1, _⟩ => rfl

/-- The reference's result is the projection, in every column. -/
theorem result_in (ha : ∀ i j, x0 (ix2 i j) = a i j) (hb : ∀ i j, x1 (ix2 i j) = b i j) : val_main_v2 (F := Ideal) x0 x1 = inArr a b := by
  funext i
  obtain ⟨i, j, rfl⟩ : ∃ R C, i = ix2 R C := ⟨_, _, eq_ix2 i⟩
  rw [val_main_v2_apply, val_main_v1_apply]
  simp only [in_lidx, in_ridx, val_main_v0_apply, ha, hb]
  rfl

end Reference

end Cert.In

end
-- ==== Proof.InWords.lean ====
/-
  The input projection over words: its program is the same text as the one over the extended reals, so that the run told over any
  values is its run too.
-/
module

public import proofs.«01_k».proof.Proof.InRun
public import proofs.«01_k».proof.Proof.Gen.Kernel5
public import proofs.«01_k».proof.Proof.Gen.Kernel5.Launch
public import proofs.«01_k».proof.Defs

@[expose] public section

set_option maxRecDepth 16384

noncomputable section

namespace Cert.In

open Idealize.ShloMosaic Idealize.ShloMosaic.TcCoe Idealize.SL.Sem

/-- The two programs have one table of bodies. -/
theorem same_bodies : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) => rfl

/-- The two programs have one table of definitions. -/
theorem same_defs : Cert.Kernel5.defs (F := Bits) = Cert.Kernel5Ideal.defs (F := Bits) :=
  congrArg (Pipeline.defs (Cert.Kernel5Ideal.pcfgs (F := Bits))) same_bodies

/-- The call over words leaves its arguments as they were and every counter at zero. -/
theorem frame_words (m : (ℓ : Loc Cert.Kernel5.nD Cert.Kernel5.τ Cert.Kernel5.sig) → Buf (Elt Bits) ℓ) (ρ : Dev Cert.Kernel5.nD → PrngReg) :
    θ_run (Cert.Kernel5.defs (F := Bits)) (onTc (τ := Cert.Kernel5.τ) (Cert.Kernel5.main (F := Bits))) ⟨m, fun _ => 0, ρ⟩ (fun r =>
      (∀ c : Dev Cert.Kernel5.nD,
        r.2.mem ((c.tc : Thread Cert.Kernel5.nD Cert.Kernel5.τ).loc Cert.Kernel5.main_arg0) = m ((c.tc : Thread Cert.Kernel5.nD Cert.Kernel5.τ).loc Cert.Kernel5.main_arg0)
        ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0) := by
  rw [same_defs]
  exact frame_in (F := Bits) m ρ

end Cert.In

end
-- ==== Proof.KvForward.lean ====
/-
  The memory's keys and values: what the call leaves, and its reference, over the extended reals.
-/
module

public import proofs.«01_k».proof.Proof.DenseMath
public import proofs.«01_k».proof.Proof.Gen.Kernel6Ideal.Value
public import proofs.«01_k».proof.Proof.Gen.Reference6Ideal.Read
public import Idealize.ShloMosaic.Lib.Pipeline.ReadBack
public import Idealize.ShloMosaic.Lib.Pipeline.ValueKit.Partial
public import Idealize.ShloMosaic.Lib.Pipeline.ValueKit.Tiles
public import Idealize.ShloMosaic.Lib.StableHlo.ReadAt

@[expose] public section

set_option maxRecDepth 16384

noncomputable section

namespace Cert.Dense

open Idealize.ShloMosaic Idealize.ShloMosaic.TcCoe

/-- The memory's keys and values, as an array. -/
def kvArr (a : Fin 256 → Fin 2048 → EReal) (b : Fin 2048 → Fin 1024 → EReal) : Vec Ideal Cert.Kernel6Ideal.S256x1024 .bf16 := fun i => prod a b (i 0) (i 1)

section Call

open Cert.Kernel6Ideal Cert.Kernel6Ideal.Gen

/-- Which blocks the grid point reads or writes. -/
theorem index_kv : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) := by decide +kernel

variable {a : Fin 256 → Fin 2048 → EReal} {b : Fin 2048 → Fin 1024 → EReal}

/-- What the grid point computes is the product of its blocks. -/
theorem kv_apply {A : Vec Ideal S256x2048 .f32} {B : Vec Ideal S2048x1024 .bf16} (hA : ∀ i j, A (ix2 i j) = a i j) (hB : ∀ i j, B (ix2 i j) = b i j)
    (i : Fin 256) (j : Fin 1024) : k0_pay1 (F := Ideal) A B (ix2 i j) = prod a b i j := by
  unfold k0_pay1
  pointwise
  simp only [hA, hB]
  rfl

variable (m : (ℓ : Loc nD τ sig) → Buf (Elt Ideal) ℓ) (c : Dev nD)
variable (ha : ∀ i j, (m ((c : Thread nD τ).loc main_arg0) : Vec Ideal S256x2048 .f32) (ix2 i j) = a i j)
variable (hb : ∀ i j, (m ((c : Thread nD τ).loc main_arg1) : Vec Ideal S2048x1024 .bf16) (ix2 i j) = b i j)
variable (t : Fin cfg0.N)

include ha in
/-- The block the grid point reads, entry by entry. -/
theorem blk_kv_a (i : Fin 256) (j : Fin 2048) : (iblk m c 0 t : Vec Ideal S256x2048 .f32) (ix2 i j) = a i j := by
  unfold iblk
  rw [View.read_apply]
  refine ((congrArg (V m c main_arg0) (funext fun a => Fin.ext ?_)).trans (congrFun (V_main_arg0 m c) (ix2 i j))).trans (ha _ _)
  match a with
  | ⟨0, _⟩ => show win0_0.index t 0 * 256 + 1 * i.val = i.val; rw [(index_kv t).1.1]; omega
  | ⟨1, _⟩ => show win0_0.index t 1 * 2048 + 1 * j.val = j.val; rw [(index_kv t).1.2]; omega

include hb in
/-- The block the grid point reads, entry by entry. -/
theorem blk_kv_b (i : Fin 2048) (j : Fin 1024) : (iblk m c 1 t : Vec Ideal S2048x1024 .bf16) (ix2 i j) = b i j := by
  unfold iblk
  rw [View.read_apply]
  refine ((congrArg (V m c main_arg1) (funext fun a => Fin.ext ?_)).trans (congrFun (V_main_arg1 m c) (ix2 i j))).trans (hb _ _)
  match a with
  | ⟨0, _⟩ => show win0_1.index t 0 * 2048 + 1 * i.val = i.val; rw [(index_kv t).2.1.1]; omega
  | ⟨1, _⟩ => show win0_1.index t 1 * 1024 + 1 * j.val = j.val; rw [(index_kv t).2.1.2]; omega

/-- What the grid point leaves in the result's buffer. -/
theorem point_kv : (dats m 0 c).after 2 t = k0_pay1 (F := Ideal) (iblk m c 0 t) (iblk m c 1 t) := by
  rw [after0_2]
  unfold out0_2
  frame_out

include ha hb in
/-- The call leaves the product of its arguments. -/
theorem array_kv : (dats m 0 c).arrAt 2 cfg0.N = kvArr a b := by
  refine (dats m 0 c).arrAt_eq_of_covers 2 (kvArr a b) (by decide +kernel) fun t hf z => ?_
  blk_simp
  rw [point_kv]
  obtain ⟨i, j, rfl⟩ : ∃ i j, z = ix2 i j := ⟨_, _, eq_ix2 z⟩
  have he : ((cfg0.win 2).blk t).view.emb (ix2 i j) = (ix2 i j : S256x1024.Idx) :=
    funext fun a => Fin.ext <| by
      match a with
      | ⟨0, _⟩ => show win0_2.index t 0 * 256 + 1 * i.val = i.val; rw [(index_kv t).2.2.1]; omega
      | ⟨1, _⟩ => show win0_2.index t 1 * 1024 + 1 * j.val = j.val; rw [(index_kv t).2.2.2]; omega
  have e1 : k0_pay1 (F := Ideal) (iblk m c 0 t) (iblk m c 1 t) (ix2 i j) = kvArr a b (ix2 i j) :=
    kv_apply (blk_kv_a m c ha t) (blk_kv_b m c hb t) i j
  exact e1.trans (congrArg (kvArr a b) he.symm)

end Call

section Reference

open Cert.Reference6Ideal Cert.Reference6Ideal.Read

variable {x0 : (⟨S256x2048, .f32⟩ : BufTy).Contents (Elt Ideal)} {x1 : (⟨S2048x1024, .bf16⟩ : BufTy).Contents (Elt Ideal)}
variable {a : Fin 256 → Fin 2048 → EReal} {b : Fin 2048 → Fin 1024 → EReal}

/-- Where the product reads its left operand. -/
theorem kv_lidx (i : Fin 256) (j : Fin 1024) (k : Fin 2048) : lidx_main_v1 (ix2 i j) k = ix2 i k := by
  funext a
  match a with
  | ⟨0, _⟩ => rfl
  | ⟨1, _⟩ => rfl

/-- Where the product reads its right operand. -/
theorem kv_ridx (i : Fin 256) (j : Fin 1024) (k : Fin 2048) : ridx_main_v1 (ix2 i j) k = ix2 k j := by
  funext a
  match a with
  | ⟨0, _⟩ => rfl
  | ⟨1, _⟩ => rfl

/-- The reference's result is the product of its arguments. -/
theorem result_kv (ha : ∀ i j, x0 (ix2 i j) = a i j) (hb : ∀ i j, x1 (ix2 i j) = b i j) : val_main_v2 (F := Ideal) x0 x1 = kvArr a b := by
  funext i
  obtain ⟨i, j, rfl⟩ : ∃ R C, i = ix2 R C := ⟨_, _, eq_ix2 i⟩
  rw [val_main_v2_apply, val_main_v1_apply]
  simp only [kv_lidx, kv_ridx, val_main_v0_apply, ha, hb]
  rfl

end Reference

end Cert.Dense

end
-- ==== Proof.KvBackward.lean ====
/-
  The gradient of the memory's weights: what the call leaves, and its reference, over the extended reals.
-/
module

public import proofs.«01_k».proof.Proof.DenseMath
public import proofs.«01_k».proof.Proof.Gen.Kernel7Ideal.Value
public import proofs.«01_k».proof.Proof.Gen.Reference7Ideal.Read
public import Idealize.ShloMosaic.Lib.Pipeline.ReadBack
public import Idealize.ShloMosaic.Lib.Pipeline.ValueKit.Partial
public import Idealize.ShloMosaic.Lib.Pipeline.ValueKit.Tiles
public import Idealize.ShloMosaic.Lib.StableHlo.ReadAt

@[expose] public section

set_option maxRecDepth 16384

noncomputable section

namespace Cert.Dense

open Idealize.ShloMosaic Idealize.ShloMosaic.TcCoe

/-- The gradient of the memory's weights, as an array. -/
def dkvArr (a : Fin 256 → Fin 2048 → EReal) (b : Fin 256 → Fin 1024 → EReal) : Vec Ideal Cert.Kernel7Ideal.S2048x1024 .bf16 := fun i => tprod a b (i 0) (i 1)

section Call

open Cert.Kernel7Ideal Cert.Kernel7Ideal.Gen

/-- Row `i` of block `t`. -/
def dkvRow {N : ℕ} (hN : N = 2) (t : Fin N) (i : Fin 1024) : Fin 2048 := ⟨1024 * t.val + i.val, by omega⟩

/-- Which blocks each grid point reads or writes. -/
theorem index_dkv : ∀ t : Fin cfg0.N, (win0_0.index t 0 = 0 ∧ win0_0.index t 1 = t.val) ∧ (win0_1.index t 0 = 0 ∧ win0_1.index t 1 = 0)
    ∧ (win0_2.index t 0 = t.val ∧ win0_2.index t 1 = 0) := by decide +kernel

variable {a : Fin 256 → Fin 2048 → EReal} {b : Fin 256 → Fin 1024 → EReal}

/-- What a grid point computes is the product of its blocks, the first transposed. -/
theorem dkv_apply {ρ : Fin 1024 → Fin 2048} {A B : Vec Ideal S256x1024 .f32} (hA : ∀ i j, A (ix2 i j) = a i (ρ j))
    (hB : ∀ i j, B (ix2 i j) = b i j) (i j : Fin 1024) : k0_pay1 (F := Ideal) A B (ix2 i j) = tprod a b (ρ i) j := by
  unfold k0_pay1
  pointwise
  simp only [hA, hB]
  rfl

variable (m : (ℓ : Loc nD τ sig) → Buf (Elt Ideal) ℓ) (c : Dev nD)
variable (ha : ∀ i j, (m ((c : Thread nD τ).loc main_arg0) : Vec Ideal S256x2048 .f32) (ix2 i j) = a i j)
variable (hb : ∀ i j, (m ((c : Thread nD τ).loc main_arg1) : Vec Ideal S256x1024 .f32) (ix2 i j) = b i j)
variable (t : Fin cfg0.N)

include ha in
/-- The block a grid point reads, entry by entry. -/
theorem blk_dkv_a (i : Fin 256) (j : Fin 1024) : (iblk m c 0 t : Vec Ideal S256x1024 .f32) (ix2 i j) = a i (dkvRow N_0 t j) := by
  unfold iblk
  rw [View.read_apply]
  refine ((congrArg (V m c main_arg0) (funext fun a => Fin.ext ?_)).trans (congrFun (V_main_arg0 m c) (ix2 i (dkvRow N_0 t j)))).trans (ha _ _)
  match a with
  | ⟨0, _⟩ => show win0_0.index t 0 * 256 + 1 * i.val = i.val; rw [(index_dkv t).1.1]; omega
  | ⟨1, _⟩ => show win0_0.index t 1 * 1024 + 1 * j.val = 1024 * t.val + j.val; rw [(index_dkv t).1.2]; omega

include hb in
/-- The block a grid point reads, entry by entry. -/
theorem blk_dkv_b (i : Fin 256) (j : Fin 1024) : (iblk m c 1 t : Vec Ideal S256x1024 .f32) (ix2 i j) = b i j := by
  unfold iblk
  rw [View.read_apply]
  refine ((congrArg (V m c main_arg1) (funext fun a => Fin.ext ?_)).trans (congrFun (V_main_arg1 m c) (ix2 i j))).trans (hb _ _)
  match a with
  | ⟨0, _⟩ => show win0_1.index t 0 * 256 + 1 * i.val = i.val; rw [(index_dkv t).2.1.1]; omega
  | ⟨1, _⟩ => show win0_1.index t 1 * 1024 + 1 * j.val = j.val; rw [(index_dkv t).2.1.2]; omega

/-- What a grid point leaves in the result's buffer. -/
theorem point_dkv : (dats m 0 c).after 2 t = k0_pay1 (F := Ideal) (iblk m c 0 t) (iblk m c 1 t) := by
  rw [after0_2]
  unfold out0_2
  frame_out

include ha hb in
/-- The call leaves the product of its arguments, the first transposed. -/
theorem array_dkv : (dats m 0 c).arrAt 2 cfg0.N = dkvArr a b := by
  refine (dats m 0 c).arrAt_eq_of_covers 2 (dkvArr a b) (by decide +kernel) fun t hf z => ?_
  blk_simp
  rw [point_dkv]
  obtain ⟨i, j, rfl⟩ : ∃ i j, z = ix2 i j := ⟨_, _, eq_ix2 z⟩
  have he : ((cfg0.win 2).blk t).view.emb (ix2 i j) = (ix2 (dkvRow N_0 t i) j : S2048x1024.Idx) :=
    funext fun a => Fin.ext <| by
      match a with
      | ⟨0, _⟩ => show win0_2.index t 0 * 1024 + 1 * i.val = 1024 * t.val + i.val; rw [(index_dkv t).2.2.1]; omega
      | ⟨1, _⟩ => show win0_2.index t 1 * 1024 + 1 * j.val = j.val; rw [(index_dkv t).2.2.2]; omega
  have e1 : k0_pay1 (F := Ideal) (iblk m c 0 t) (iblk m c 1 t) (ix2 i j) = dkvArr a b (ix2 (dkvRow N_0 t i) j) :=
    dkv_apply (blk_dkv_a m c ha t) (blk_dkv_b m c hb t) i j
  refine e1.trans ?_
  rw [← he]

end Call

section Reference

open Cert.Reference7Ideal Cert.Reference7Ideal.Read

variable {x0 : (⟨S256x2048, .f32⟩ : BufTy).Contents (Elt Ideal)} {x1 : (⟨S256x1024, .f32⟩ : BufTy).Contents (Elt Ideal)}
variable {a : Fin 256 → Fin 2048 → EReal} {b : Fin 256 → Fin 1024 → EReal}

/-- Where the product reads its left operand. -/
theorem dkv_lidx (i : Fin 1024) (j : Fin 2048) (k : Fin 256) : lidx_main_v2 (ix2 i j) k = ix2 k i := by
  funext a
  match a with
  | ⟨0, _⟩ => rfl
  | ⟨1, _⟩ => rfl

/-- Where the product reads its right operand. -/
theorem dkv_ridx (i : Fin 1024) (j : Fin 2048) (k : Fin 256) : ridx_main_v2 (ix2 i j) k = ix2 k j := by
  funext a
  match a with
  | ⟨0, _⟩ => rfl
  | ⟨1, _⟩ => rfl

/-- Where the transposition reads. -/
theorem dkv_idx (i : Fin 2048) (j : Fin 1024) : idx_main_v3 (ix2 i j) = ix2 j i := by
  funext a
  match a with
  | ⟨0, _⟩ => rfl
  | ⟨1, _⟩ => rfl

/-- The reference's result is the product of its arguments, the first transposed. -/
theorem result_dkv (ha : ∀ i j, x0 (ix2 i j) = a i j) (hb : ∀ i j, x1 (ix2 i j) = b i j) : val_main_v4 (F := Ideal) x0 x1 = dkvArr a b := by
  funext i
  obtain ⟨i, j, rfl⟩ : ∃ R C, i = ix2 R C := ⟨_, _, eq_ix2 i⟩
  rw [val_main_v4_apply, val_main_v3_apply, dkv_idx, val_main_v2_apply]
  simp only [dkv_lidx, dkv_ridx, ha, hb]
  exact Finset.sum_congr rfl fun k _ => mul_comm _ _

end Reference

end Cert.Dense

end
-- ==== Proof.DxMath.lean ====
/-
  The gradient of a layer's input: a sum over the columns that carry a value, without the padding.
-/
module

public import Idealize.ShloMosaic.Lib.Pointwise
public import Idealize.ShloMosaic.Lib.ValueIdx

@[expose] public section

noncomputable section

namespace Cert.Dx

open Idealize.ShloMosaic

/-- The layer's gradient and the weights, read at a row and a column. -/
abbrev Grad := Fin 8192 → Fin 7168 → EReal
/-- The weights, read at a row and a column. -/
abbrev Weights := Fin 2048 → Fin 7168 → EReal

variable (a : Grad) (b : Weights) (p : Fin 8192) (q : Fin 2048)

/-- The product of the entries in column `k`. -/
def term (k : ℕ) : EReal := if h : k < 7168 then a p ⟨k, h⟩ * b q ⟨k, h⟩ else 0

/-- The product of the entries in a column that there is. -/
theorem term_of_lt {k : ℕ} (h : k < 7168) : a p ⟨k, h⟩ * b q ⟨k, h⟩ = term a b p q k := by
  unfold term
  rw [dif_pos h]

/-- The sum of the products over `n` columns from column `s` on. -/
def part (s n : ℕ) : EReal := ∑ k ∈ Finset.range n, term a b p q (s + k)

/-- The sum over the columns before and after the padding. -/
def live : EReal := part a b p q 0 5760 + part a b p q 6144 1024

/-- Columns that follow one another: their sums add up. -/
theorem part_add (s n n' : ℕ) : part a b p q s n + part a b p q (s + n) n' = part a b p q s (n + n') := by
  unfold part
  rw [Finset.sum_range_add]
  simp only [Nat.add_assoc]

/-- A sum over the columns of a block is a sum over columns. -/
theorem sum_part {n : ℕ} (s : ℕ) (h : s + n ≤ 7168) :
    ∑ k : Fin n, a p ⟨s + k.val, by omega⟩ * b q ⟨s + k.val, by omega⟩ = part a b p q s n := by
  unfold part
  rw [← Fin.sum_univ_eq_sum_range (fun k => term a b p q (s + k)) n]
  exact Finset.sum_congr rfl fun k _ => term_of_lt a b p q (show s + k.val < 7168 by omega)

/-- The column that the `k`th of the columns without the padding is. -/
def column (k : Fin 6784) : Fin 7168 := if h : k.val < 5760 then ⟨k.val, by omega⟩ else ⟨k.val + 384, by omega⟩

/-- The sum over the columns without the padding. -/
theorem sum_live : ∑ k : Fin 6784, a p (column k) * b q (column k) = live a b p q := by
  have e : ∀ k : Fin 6784, a p (column k) * b q (column k) = term a b p q (if k.val < 5760 then k.val else k.val + 384) := fun k => by
    unfold column
    by_cases h : k.val < 5760
    · rw [dif_pos h, if_pos h]
      exact term_of_lt a b p q (show k.val < 7168 by omega)
    · rw [dif_neg h, if_neg h]
      exact term_of_lt a b p q (show k.val + 384 < 7168 by omega)
  rw [Finset.sum_congr rfl fun k _ => e k, Fin.sum_univ_eq_sum_range (fun k => term a b p q (if k < 5760 then k else k + 384)) 6784,
    show (6784 : ℕ) = 5760 + 1024 from rfl, Finset.sum_range_add]
  unfold live part
  refine congrArg₂ (· + ·) (Finset.sum_congr rfl fun k hk => ?_) (Finset.sum_congr rfl fun k _ => ?_)
  · rw [if_pos (Finset.mem_range.mp hk), Nat.zero_add]
  · rw [if_neg (by omega)]
    exact congrArg _ (by omega)

end Cert.Dx

end
-- ==== Proof.DxReference.lean ====
/-
  The gradient of a layer's input: the reference, over the extended reals.
-/
module

public import proofs.«01_k».proof.Proof.DxMath
public import proofs.«01_k».proof.Proof.Gen.Reference8Ideal.Read
public import Idealize.ShloMosaic.Lib.StableHlo.ReadAt

@[expose] public section

set_option maxRecDepth 16384

noncomputable section

namespace Cert.Dx

open Idealize.ShloMosaic Idealize.ShloMosaic.TcCoe
open Cert.Reference8Ideal Cert.Reference8Ideal.Read

/-- The number that scales the residual. -/
def scale : EReal := FloatOps.ofBits (F := Ideal) .f32 0x3FD744FD#32

/-- The gradient of a layer's input, as an array. -/
def dxArr (a : Grad) (b : Weights) (u : Fin 8192 → Fin 2048 → EReal) : Vec Ideal S8192x2048 .f32 :=
  fun i => live a b (i 0) (i 1) + scale * u (i 0) (i 1)

variable {x0 : (⟨S8192x7168, .bf16⟩ : BufTy).Contents (Elt Ideal)} {x1 : (⟨S2048x7168, .bf16⟩ : BufTy).Contents (Elt Ideal)}
variable {x2 : (⟨S8192x2048, .f32⟩ : BufTy).Contents (Elt Ideal)}
variable {a : Grad} {b : Weights} {u : Fin 8192 → Fin 2048 → EReal}

/-- Two columns with the same number hold the same. -/
theorem column_eq {m n : ℕ} {x : Shape.Idx ⟨2, ![m, n]⟩ → EReal} {f : Fin m → Fin n → EReal} (hf : ∀ i j, x (ix2 i j) = f i j)
    (i : Shape.Idx ⟨2, ![m, n]⟩) (p : Fin m) (q : Fin n) (hp : (i 0).val = p.val) (hq : (i 1).val = q.val) : x i = f p q := by
  rw [← hf]
  exact congrArg x (funext fun a => Fin.ext (match a with | ⟨0, _⟩ => hp | ⟨1, _⟩ => hq))

/-- The gradient without its padding. -/
theorem read_grad (ha : ∀ i j, x0 (ix2 i j) = a i j) (p : Fin 8192) (k : Fin 6784) :
    val_main_v10 (F := Ideal) x0 (ix2 p k) = a p (column k) := by
  unfold val_main_v10
  by_cases h : k.val < 5760
  · rw [concatenate_pair_apply_left (s₁ := S8192x5760) (s₂ := S8192x1024) 1 _ _ _ (ix2 p k) rfl (ix2 p ⟨k.val, h⟩)
      (fun b => by match b with | ⟨0, _⟩ => rfl | ⟨1, _⟩ => rfl), val_main_v8_apply]
    exact column_eq ha _ _ _ rfl (by unfold column; rw [dif_pos h]; rfl)
  · rw [concatenate_pair_apply_right (s₁ := S8192x5760) (s₂ := S8192x1024) 1 _ _ _ (ix2 p k) rfl rfl (ix2 p ⟨k.val - 5760, by omega⟩)
      (fun b hb => by match b with | ⟨0, _⟩ => rfl | ⟨1, _⟩ => exact absurd rfl hb) (by show k.val - 5760 + 5760 = k.val; omega), val_main_v9_apply]
    exact column_eq ha _ _ _ rfl (by unfold column; rw [dif_neg h]; show 6144 + (k.val - 5760) = k.val + 384; omega)

/-- The weights without their padding. -/
theorem read_weights (hb : ∀ i j, x1 (ix2 i j) = b i j) (q : Fin 2048) (k : Fin 6784) :
    val_main_v2 (F := Ideal) x1 (ix2 q k) = b q (column k) := by
  unfold val_main_v2
  by_cases h : k.val < 5760
  · rw [concatenate_pair_apply_left (s₁ := S2048x5760) (s₂ := S2048x1024) 1 _ _ _ (ix2 q k) rfl (ix2 q ⟨k.val, h⟩)
      (fun b => by match b with | ⟨0, _⟩ => rfl | ⟨1, _⟩ => rfl), val_main_v0_apply]
    exact column_eq hb _ _ _ rfl (by unfold column; rw [dif_pos h]; rfl)
  · rw [concatenate_pair_apply_right (s₁ := S2048x5760) (s₂ := S2048x1024) 1 _ _ _ (ix2 q k) rfl rfl (ix2 q ⟨k.val - 5760, by omega⟩)
      (fun b hb => by match b with | ⟨0, _⟩ => rfl | ⟨1, _⟩ => exact absurd rfl hb) (by show k.val - 5760 + 5760 = k.val; omega), val_main_v1_apply]
    exact column_eq hb _ _ _ rfl (by unfold column; rw [dif_neg h]; show 6144 + (k.val - 5760) = k.val + 384; omega)

/-- Where the product reads its left operand. -/
theorem dx_lidx (i : Fin 8192) (j : Fin 2048) (k : Fin 6784) : lidx_main_v14 (ix2 i j) k = ix2 i k := by
  funext a
  match a with
  | ⟨0, _⟩ => rfl
  | ⟨1, _⟩ => rfl

/-- Where the product reads its right operand. -/
theorem dx_ridx (i : Fin 8192) (j : Fin 2048) (k : Fin 6784) : ridx_main_v14 (ix2 i j) k = ix2 j k := by
  funext a
  match a with
  | ⟨0, _⟩ => rfl
  | ⟨1, _⟩ => rfl

/-- The reference's result is the gradient. -/
theorem result_dx (ha : ∀ i j, x0 (ix2 i j) = a i j) (hb : ∀ i j, x1 (ix2 i j) = b i j) (hu : ∀ i j, x2 (ix2 i j) = u i j) :
    val_main_v15 (F := Ideal) x0 x1 x2 = dxArr a b u := by
  funext i
  obtain ⟨i, j, rfl⟩ : ∃ R C, i = ix2 R C := ⟨_, _, eq_ix2 i⟩
  rw [val_main_v15_apply, val_main_v14_apply, val_main_v13_apply, val_main_v12_apply, val_main_cst_1_apply, hu]
  simp only [dx_lidx, dx_ridx, val_main_v11_apply, val_main_v3_apply, read_grad ha, read_weights hb]
  refine (add_comm _ _).trans (congrArg₂ (· + ·) (sum_live a b i j) rfl)

end Cert.Dx

end
-- ==== Proof.DxArray.lean ====
/-
  The gradient of a layer's input: what the call leaves, over the extended reals.
-/
module

public import proofs.«01_k».proof.Proof.DxReference
public import proofs.«01_k».proof.Proof.Gen.Kernel8Ideal.Value
public import Idealize.ShloMosaic.Lib.Pipeline.ReadBack
public import Idealize.ShloMosaic.Lib.Pipeline.ValueKit.Partial
public import Idealize.ShloMosaic.Lib.Pipeline.ValueKit.Tiles

@[expose] public section

set_option maxRecDepth 16384

noncomputable section

namespace Cert.Dx

open Idealize.ShloMosaic Idealize.ShloMosaic.TcCoe
open Cert.Kernel8Ideal Cert.Kernel8Ideal.Gen

/-- Which blocks each grid point reads or writes. -/
theorem index_dx : ∀ t : Fin cfg0.N, (win0_0.index t 0 = t.val / 8 ∧ win0_0.index t 1 = t.val % 4)
    ∧ (win0_1.index t 0 = t.val / 4 % 2 ∧ win0_1.index t 1 = t.val % 4)
    ∧ (win0_2.index t 0 = t.val / 8 ∧ win0_2.index t 1 = t.val / 4 % 2)
    ∧ (win0_3.index t 0 = t.val / 8 ∧ win0_3.index t 1 = t.val / 4 % 2) := by decide +kernel

/-- The first columns of the last block, before the padding. -/
abbrev rectLow : Rect S1024x1792 := Rect.unit (s := S1024x1792) ![0, 0] S1024x384.size inb_S1024x1792_S1024x384_0_0
/-- The last columns of the last block, after the padding. -/
abbrev rectHigh : Rect S1024x1792 := Rect.unit (s := S1024x1792) ![0, 768] S1024x1024.size inb_S1024x1792_S1024x1024_0_768

/-- The first columns of the last block, entry by entry. -/
theorem ld_low (X : Vec Ideal S1024x1792 .bf16) (i : Fin 1024) (k : Fin 384) : View.ld X rectLow (ix2 i k) = X (ix2 i ⟨k.val, by omega⟩) :=
  congrArg X <| funext fun a => Fin.ext <| by
    match a with
    | ⟨0, _⟩ => show 0 + 1 * i.val = i.val; omega
    | ⟨1, _⟩ => show 0 + 1 * k.val = k.val; omega

/-- The last columns of the last block, entry by entry. -/
theorem ld_high (X : Vec Ideal S1024x1792 .bf16) (i : Fin 1024) (k : Fin 1024) : View.ld X rectHigh (ix2 i k) = X (ix2 i ⟨768 + k.val, by omega⟩) :=
  congrArg X <| funext fun a => Fin.ext <| by
    match a with
    | ⟨0, _⟩ => show 0 + 1 * i.val = i.val; omega
    | ⟨1, _⟩ => show 768 + 1 * k.val = 768 + k.val; omega

/-- What the first point of a block computes. -/
theorem first_apply (x w : Vec Ideal S1024x1792 .bf16) (i j : Fin 1024) :
    k0_pay1 (F := Ideal) x w (ix2 i j) = ∑ k : Fin 1792, x (ix2 i k) * w (ix2 j k) := by
  unfold k0_pay1
  pointwise

/-- What a middle point of a block computes. -/
theorem next_apply (x w : Vec Ideal S1024x1792 .bf16) (A : Vec Ideal S1024x1024 .f32) (i j : Fin 1024) :
    k0_pay2 (F := Ideal) x w A (ix2 i j) = A (ix2 i j) + ∑ k : Fin 1792, x (ix2 i k) * w (ix2 j k) := by
  unfold k0_pay2
  pointwise

/-- What the last point of a block computes. -/
theorem last_apply (x w : Vec Ideal S1024x384 .bf16) (y v : Vec Ideal S1024x1024 .bf16) (A U : Vec Ideal S1024x1024 .f32) (i j : Fin 1024) :
    k0_pay3 (F := Ideal) x w y v A U (ix2 i j)
      = A (ix2 i j) + (∑ k : Fin 384, x (ix2 i k) * w (ix2 j k) + ∑ k : Fin 1024, y (ix2 i k) * v (ix2 j k)) + scale * U (ix2 i j) := by
  unfold k0_pay3
  pointwise
  rfl

variable (m : (ℓ : Loc nD τ sig) → Buf (Elt Ideal) ℓ) (c : Dev nD)

/-- What the accumulator holds after the first point of a block. -/
theorem acc_first (t : Fin cfg0.N) (h : t.val % 4 = 0) :
    (outsAt0 m c t.val t.isLt).2 = k0_pay1 (F := Ideal) (iblk m c 0 t) (iblk m c 1 t) := by
  rw [outsAt0_A m c t h (by omega) (by omega)]
  dsimp only
  frame_out

/-- What the accumulator holds after a middle point of a block. -/
theorem acc_next (t : Fin cfg0.N) (h : 1 ≤ t.val % 4 ∧ t.val % 4 ≤ 2) :
    (outsAt0 m c t.val t.isLt).2 = k0_pay2 (F := Ideal) (iblk m c 0 t) (iblk m c 1 t)
      (outsAt0 m c (t.val - 1) (Nat.lt_of_le_of_lt (Nat.sub_le _ _) t.isLt)).2 := by
  rw [outsAt0_B m c t (by omega) h (by omega)]
  dsimp only
  frame_out
  rw [read_unread_whole]

/-- What the last point of a block leaves in the result's buffer. -/
theorem out_last (t : Fin cfg0.N) (h : t.val % 4 = 3) :
    (outsAt0 m c t.val t.isLt).1 = k0_pay3 (F := Ideal) (View.ld (iblk m c 0 t : Vec Ideal S1024x1792 .bf16) rectLow)
      (View.ld (iblk m c 1 t : Vec Ideal S1024x1792 .bf16) rectLow) (View.ld (iblk m c 0 t : Vec Ideal S1024x1792 .bf16) rectHigh)
      (View.ld (iblk m c 1 t : Vec Ideal S1024x1792 .bf16) rectHigh)
      (outsAt0 m c (t.val - 1) (Nat.lt_of_le_of_lt (Nat.sub_le _ _) t.isLt)).2 (iblk m c 2 t) := by
  rw [outsAt0_C m c t (by omega) (by omega) h]
  dsimp only
  frame_out
  rw [read_unread_whole]
  rfl

variable {a : Grad} {b : Weights} {u : Fin 8192 → Fin 2048 → EReal}
variable (ha : ∀ i j, (m ((c : Thread nD τ).loc main_arg0) : Vec Ideal S8192x7168 .bf16) (ix2 i j) = a i j)
variable (hb : ∀ i j, (m ((c : Thread nD τ).loc main_arg1) : Vec Ideal S2048x7168 .bf16) (ix2 i j) = b i j)
variable (hu : ∀ i j, (m ((c : Thread nD τ).loc main_arg2) : Vec Ideal S8192x2048 .f32) (ix2 i j) = u i j)

/-- Row `i` of the gradient's block at point `n`. -/
def rowAt (n : ℕ) (h : n < cfg0.N) (i : Fin 1024) : Fin 8192 := ⟨1024 * (n / 8) + i.val, by have : cfg0.N = 64 := N_0; omega⟩
/-- Row `j` of the weights' block at point `n`. -/
def colAt (n : ℕ) (j : Fin 1024) : Fin 2048 := ⟨1024 * (n / 4 % 2) + j.val, by omega⟩

include ha in
/-- The gradient's block, entry by entry. -/
theorem blk_grad (t : Fin cfg0.N) (i : Fin 1024) (k : Fin 1792) :
    (iblk m c 0 t : Vec Ideal S1024x1792 .bf16) (ix2 i k) = a (rowAt t.val t.isLt i) ⟨1792 * (t.val % 4) + k.val, by omega⟩ := by
  unfold iblk
  rw [View.read_apply]
  refine (congrArg (V m c main_arg0) (funext fun a => Fin.ext ?_)).trans (ha (rowAt t.val t.isLt i) ⟨1792 * (t.val % 4) + k.val, by omega⟩)
  match a with
  | ⟨0, _⟩ => show win0_0.index t 0 * 1024 + 1 * i.val = 1024 * (t.val / 8) + i.val; rw [(index_dx t).1.1]; omega
  | ⟨1, _⟩ => show win0_0.index t 1 * 1792 + 1 * k.val = 1792 * (t.val % 4) + k.val; rw [(index_dx t).1.2]; omega

include hb in
/-- The weights' block, entry by entry. -/
theorem blk_weights (t : Fin cfg0.N) (j : Fin 1024) (k : Fin 1792) :
    (iblk m c 1 t : Vec Ideal S1024x1792 .bf16) (ix2 j k) = b (colAt t.val j) ⟨1792 * (t.val % 4) + k.val, by omega⟩ := by
  unfold iblk
  rw [View.read_apply]
  refine (congrArg (V m c main_arg1) (funext fun a => Fin.ext ?_)).trans (hb (colAt t.val j) ⟨1792 * (t.val % 4) + k.val, by omega⟩)
  match a with
  | ⟨0, _⟩ => show win0_1.index t 0 * 1024 + 1 * j.val = 1024 * (t.val / 4 % 2) + j.val; rw [(index_dx t).2.1.1]; omega
  | ⟨1, _⟩ => show win0_1.index t 1 * 1792 + 1 * k.val = 1792 * (t.val % 4) + k.val; rw [(index_dx t).2.1.2]; omega

include hu in
/-- The residual's block, entry by entry. -/
theorem blk_residual (t : Fin cfg0.N) (i j : Fin 1024) :
    (iblk m c 2 t : Vec Ideal S1024x1024 .f32) (ix2 i j) = u (rowAt t.val t.isLt i) (colAt t.val j) := by
  unfold iblk
  rw [View.read_apply]
  refine (congrArg (V m c main_arg2) (funext fun a => Fin.ext ?_)).trans (hu (rowAt t.val t.isLt i) (colAt t.val j))
  match a with
  | ⟨0, _⟩ => show win0_2.index t 0 * 1024 + 1 * i.val = 1024 * (t.val / 8) + i.val; rw [(index_dx t).2.2.1.1]; omega
  | ⟨1, _⟩ => show win0_2.index t 1 * 1024 + 1 * j.val = 1024 * (t.val / 4 % 2) + j.val; rw [(index_dx t).2.2.1.2]; omega

/-- A block's product is the sum over the block's columns. -/
theorem sum_block {X W : Vec Ideal S1024x1792 .bf16} {p : Fin 1024 → Fin 8192} {q : Fin 1024 → Fin 2048} {s : ℕ} (hs : s + 1792 ≤ 7168)
    (hX : ∀ i k, X (ix2 i k) = a (p i) ⟨s + k.val, by omega⟩) (hW : ∀ j k, W (ix2 j k) = b (q j) ⟨s + k.val, by omega⟩) (i j : Fin 1024) :
    ∑ k : Fin 1792, X (ix2 i k) * W (ix2 j k) = part a b (p i) (q j) s 1792 := by
  rw [← sum_part a b (p i) (q j) s hs]
  exact Finset.sum_congr rfl fun k _ => congrArg₂ (· * ·) (hX i k) (hW j k)

include ha hb in
/-- What the accumulator holds before the last point: the sum over the columns read so far. -/
theorem acc_part (n : ℕ) (h : n < cfg0.N) (h3 : n % 4 ≠ 3) (i j : Fin 1024) :
    ((outsAt0 m c n h).2 : Vec Ideal S1024x1024 .f32) (ix2 i j) = part a b (rowAt n h i) (colAt n j) 0 (1792 * (n % 4 + 1)) := by
  induction n with
  | zero => exact (congrFun (acc_first m c ⟨0, h⟩ rfl) _).trans ((first_apply _ _ i j).trans (sum_block (by dsimp only; omega) (blk_grad m c ha ⟨0, h⟩) (blk_weights m c hb ⟨0, h⟩) i j))
  | succ n ih =>
    by_cases h0 : (n + 1) % 4 = 0
    · refine (congrFun (acc_first m c ⟨n + 1, h⟩ h0) _).trans ((first_apply _ _ i j).trans ((sum_block (by dsimp only; omega) (blk_grad m c ha ⟨n + 1, h⟩) (blk_weights m c hb ⟨n + 1, h⟩) i j).trans ?_))
      show part a b _ _ (1792 * ((n + 1) % 4)) 1792 = _
      rw [h0]
    · refine (congrFun (acc_next m c ⟨n + 1, h⟩ (by dsimp only; omega)) _).trans ((next_apply _ _ _ i j).trans ?_)
      have e0 : rowAt n (by omega) i = rowAt (n + 1) h i := Fin.ext (by show 1024 * (n / 8) + i.val = 1024 * ((n + 1) / 8) + i.val; omega)
      have e1 : colAt n j = colAt (n + 1) j := Fin.ext (by show 1024 * (n / 4 % 2) + j.val = 1024 * ((n + 1) / 4 % 2) + j.val; omega)
      have e := ih (by omega) (by omega)
      rw [e0, e1] at e
      refine (congrArg₂ (· + ·) e (sum_block (by dsimp only; omega) (blk_grad m c ha ⟨n + 1, h⟩) (blk_weights m c hb ⟨n + 1, h⟩) i j)).trans ?_
      have en : 1792 * (n % 4 + 1) = 0 + 1792 * ((n + 1) % 4) := by omega
      show part a b _ _ 0 (1792 * (n % 4 + 1)) + part a b _ _ (1792 * ((n + 1) % 4)) 1792 = _
      rw [en, Nat.zero_add]
      have e2 := part_add a b (rowAt (n + 1) h i) (colAt (n + 1) j) 0 (1792 * ((n + 1) % 4)) 1792
      rw [Nat.zero_add] at e2
      exact e2.trans (congrArg _ (by omega))

include ha hb hu in
/-- What the last point of a block leaves, entry by entry. -/
theorem out_apply (t : Fin cfg0.N) (h : t.val % 4 = 3) (i j : Fin 1024) :
    ((outsAt0 m c t.val t.isLt).1 : Vec Ideal S1024x1024 .f32) (ix2 i j)
      = live a b (rowAt t.val t.isLt i) (colAt t.val j) + scale * u (rowAt t.val t.isLt i) (colAt t.val j) := by
  refine (congrFun (out_last m c t h) _).trans ((last_apply _ _ _ _ _ _ i j).trans ?_)
  refine congrArg₂ (· + ·) ?_ (congrArg (scale * ·) (blk_residual m c hu t i j))
  have ht := t.isLt
  have e0 : rowAt (t.val - 1) (by omega) i = rowAt t.val t.isLt i :=
    Fin.ext (by show 1024 * ((t.val - 1) / 8) + i.val = 1024 * (t.val / 8) + i.val; omega)
  have e1 : colAt (t.val - 1) j = colAt t.val j := Fin.ext (by show 1024 * ((t.val - 1) / 4 % 2) + j.val = 1024 * (t.val / 4 % 2) + j.val; omega)
  have eA := acc_part m c ha hb (t.val - 1) (by omega) (by omega) i j
  rw [e0, e1, show 1792 * ((t.val - 1) % 4 + 1) = 5376 by omega] at eA
  have eL := sum_part a b (rowAt t.val t.isLt i) (colAt t.val j) (n := 384) 5376 (by omega)
  have eH := sum_part a b (rowAt t.val t.isLt i) (colAt t.val j) (n := 1024) 6144 (by omega)
  have eP := part_add a b (rowAt t.val t.isLt i) (colAt t.val j) 0 5376 384
  rw [eA]
  refine (congrArg (_ + ·) (congrArg₂ (· + ·) ((Finset.sum_congr rfl fun k _ => congrArg₂ (· * ·) ?_ ?_).trans eL)
    ((Finset.sum_congr rfl fun k _ => congrArg₂ (· * ·) ?_ ?_).trans eH))).trans ?_
  · exact (ld_low _ i k).trans ((blk_grad m c ha t i _).trans (congrArg (a _) (Fin.ext (by show 1792 * (t.val % 4) + k.val = 5376 + k.val; omega))))
  · exact (ld_low _ j k).trans ((blk_weights m c hb t j _).trans (congrArg (b _) (Fin.ext (by show 1792 * (t.val % 4) + k.val = 5376 + k.val; omega))))
  · exact (ld_high _ i k).trans ((blk_grad m c ha t i _).trans
      (congrArg (a _) (Fin.ext (by show 1792 * (t.val % 4) + (768 + k.val) = 6144 + k.val; omega))))
  · exact (ld_high _ j k).trans ((blk_weights m c hb t j _).trans
      (congrArg (b _) (Fin.ext (by show 1792 * (t.val % 4) + (768 + k.val) = 6144 + k.val; omega))))
  · unfold live
    rw [← add_assoc]
    exact congrArg (· + _) eP

include ha hb hu in
/-- The call leaves the gradient of the layer's input. -/
theorem array_dx : (dats m 0 c).arrAt 3 cfg0.N = dxArr a b u := by
  refine (dats m 0 c).arrAt_eq_of_covers 3 (dxArr a b u) (by decide +kernel) fun t hf z => ?_
  blk_simp
  rw [after0_3]
  obtain ⟨i, j, rfl⟩ : ∃ i j, z = ix2 i j := ⟨_, _, eq_ix2 z⟩
  have he : ((cfg0.win 3).blk t).view.emb (ix2 i j) = (ix2 (rowAt t.val t.isLt i) (colAt t.val j) : S8192x2048.Idx) :=
    funext fun a => Fin.ext <| by
      match a with
      | ⟨0, _⟩ => show win0_3.index t 0 * 1024 + 1 * i.val = 1024 * (t.val / 8) + i.val; rw [(index_dx t).2.2.2.1]; omega
      | ⟨1, _⟩ => show win0_3.index t 1 * 1024 + 1 * j.val = 1024 * (t.val / 4 % 2) + j.val; rw [(index_dx t).2.2.2.2]; omega
  have e1 : ((outsAt0 m c t.val t.isLt).1 : Vec Ideal S1024x1024 .f32) (ix2 i j) = dxArr a b u (ix2 (rowAt t.val t.isLt i) (colAt t.val j)) :=
    out_apply m c ha hb hu t ((flush0_3 t).mp hf) i j
  exact e1.trans (congrArg (dxArr a b u) he.symm)

end Cert.Dx

end
-- ==== Proof.DwRun.lean ====
/-
  The run of the weights' gradient, over any values. The call adds up a block of the result over eight grid points and writes it at the
  last of them; of one block of columns in four it adds up and writes the columns beside the padding alone, so what the others hold is
  not said.
-/
module

public import proofs.«01_k».proof.Proof.Gen.Kernel9Ideal.Launch
public import proofs.«01_k».proof.Proof.Gen.Kernel9Ideal.Skeleton
public import proofs.«01_k».proof.Proof.Gen.Kernel9Ideal.Points
public import Idealize.ShloMosaic.Lib.Pipeline.FrameBody
public import Idealize.ShloMosaic.Lib.Pipeline.DatRel
public import Idealize.ShloMosaic.Lib.Pipeline.ArrRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Dw

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-! ## What a grid point leaves -/

/-- The block of the input, whole. -/
abbrev rectX : Rect S1024x1024 := Rect.unit (s := S1024x1024) ![0, 0] S1024x1024.size inb_S1024x1024_S1024x1024_0_0
/-- A block of columns, whole. -/
abbrev rectAll : Rect S1024x1792 := Rect.unit (s := S1024x1792) ![0, 0] S1024x1792.size inb_S1024x1792_S1024x1792_0_0
/-- The columns of a block before the padding. -/
abbrev rectLow : Rect S1024x1792 := Rect.unit (s := S1024x1792) ![0, 0] S1024x384.size inb_S1024x1792_S1024x384_0_0
/-- The columns of a block after the padding. -/
abbrev rectHigh : Rect S1024x1792 := Rect.unit (s := S1024x1792) ![0, 768] S1024x1024.size inb_S1024x1792_S1024x1024_0_768

/-- The first point of a block with padding. -/
abbrev FirstPad (i : grid0.Coords) : Prop := (Scalar.cmpi .ne (Scalar.extui (Scalar.andi (Scalar.cmpi .eq (BitVec.ofNat 32 (i 2).val) 0#32)
  (Scalar.cmpi .eq (BitVec.ofNat 32 (i 1).val) 3#32))) 0#32) = 1#1
/-- The first point of a block without padding. -/
abbrev First (i : grid0.Coords) : Prop := (Scalar.cmpi .ne (Scalar.extui (Scalar.andi (Scalar.cmpi .eq (BitVec.ofNat 32 (i 2).val) 0#32)
  (Scalar.cmpi .ne (BitVec.ofNat 32 (i 1).val) 3#32))) 0#32) = 1#1
/-- A middle point of a block with padding. -/
abbrev NextPad (i : grid0.Coords) : Prop := (Scalar.cmpi .ne (Scalar.extui (Scalar.andi (Scalar.andi (Scalar.cmpi .sgt (BitVec.ofNat 32 (i 2).val) 0#32)
  (Scalar.cmpi .slt (BitVec.ofNat 32 (i 2).val) 7#32)) (Scalar.cmpi .eq (BitVec.ofNat 32 (i 1).val) 3#32))) 0#32) = 1#1
/-- A middle point of a block without padding. -/
abbrev Next (i : grid0.Coords) : Prop := (Scalar.cmpi .ne (Scalar.extui (Scalar.andi (Scalar.andi (Scalar.cmpi .sgt (BitVec.ofNat 32 (i 2).val) 0#32)
  (Scalar.cmpi .slt (BitVec.ofNat 32 (i 2).val) 7#32)) (Scalar.cmpi .ne (BitVec.ofNat 32 (i 1).val) 3#32))) 0#32) = 1#1

/-- What a point that is not a block's last makes of the accumulator `A`. -/
def Step (i : grid0.Coords) (x : Vec F S1024x1024 .f32) (w : Vec F S1024x1792 .bf16) (A A' : Vec F S1024x1792 .f32) : Prop :=
  (FirstPad i → (∀ y, A' (rectLow.emb y) = k0_pay1 (View.ld x rectX) (View.ld w rectLow) y)
      ∧ ∀ y, A' (rectHigh.emb y) = k0_pay2 (View.ld x rectX) (View.ld w rectHigh) y)
    ∧ (First i → ∀ y, A' (rectAll.emb y) = k0_pay3 (View.ld x rectX) (View.ld w rectAll) y)
    ∧ (NextPad i → (∀ y, A' (rectLow.emb y) = k0_pay4 (View.ld x rectX) (View.ld w rectLow) (View.ld A rectLow) y)
      ∧ ∀ y, A' (rectHigh.emb y) = k0_pay5 (View.ld x rectX) (View.ld w rectHigh) (View.ld A rectHigh) y)
    ∧ (Next i → ∀ y, A' (rectAll.emb y) = k0_pay6 (View.ld x rectX) (View.ld w rectAll) (View.ld A rectAll) y)

/-- What the last point of a block leaves in the result, the accumulator being `A`. -/
def Holds (i : grid0.Coords) (x : Vec F S1024x1024 .f32) (w : Vec F S1024x1792 .bf16) (A : Vec F S1024x1792 .f32) (Y : Vec F S1024x1792 .bf16) : Prop :=
  (k0_cond5 i = 1#1 → (∀ y, Y (rectLow.emb y) = k0_pay7 (View.ld x rectX) (View.ld w rectLow) (View.ld A rectLow) y)
      ∧ ∀ y, Y (rectHigh.emb y) = k0_pay8 (View.ld x rectX) (View.ld w rectHigh) (View.ld A rectHigh) y)
    ∧ (k0_cond6 i = 1#1 → ∀ y, Y (rectAll.emb y) = k0_pay9 (View.ld x rectX) (View.ld w rectAll) (View.ld A rectAll) y)

/-- Every point takes one branch and no other. -/
def OneBranch (i : grid0.Coords) : Prop :=
  (FirstPad i ∧ ¬First i ∧ ¬NextPad i ∧ ¬Next i ∧ ¬k0_cond5 i = 1#1 ∧ ¬k0_cond6 i = 1#1)
    ∨ (¬FirstPad i ∧ First i ∧ ¬NextPad i ∧ ¬Next i ∧ ¬k0_cond5 i = 1#1 ∧ ¬k0_cond6 i = 1#1)
    ∨ (¬FirstPad i ∧ ¬First i ∧ NextPad i ∧ ¬Next i ∧ ¬k0_cond5 i = 1#1 ∧ ¬k0_cond6 i = 1#1)
    ∨ (¬FirstPad i ∧ ¬First i ∧ ¬NextPad i ∧ Next i ∧ ¬k0_cond5 i = 1#1 ∧ ¬k0_cond6 i = 1#1)
    ∨ (¬FirstPad i ∧ ¬First i ∧ ¬NextPad i ∧ ¬Next i ∧ k0_cond5 i = 1#1 ∧ ¬k0_cond6 i = 1#1)
    ∨ (¬FirstPad i ∧ ¬First i ∧ ¬NextPad i ∧ ¬Next i ∧ ¬k0_cond5 i = 1#1 ∧ k0_cond6 i = 1#1)

/-- So it is at every point of the grid. -/
theorem branches : ∀ t : Fin grid0.N, OneBranch (grid0.coords t) := by
  unfold OneBranch
  decide +kernel

section Branches

variable {i : grid0.Coords} {x : Vec F S1024x1024 .f32} {w : Vec F S1024x1792 .bf16} {A A' : Vec F S1024x1792 .f32} {Y : Vec F S1024x1792 .bf16}

/-- `Step` at the first point of a block with padding. -/
theorem step_first_pad (h1 : FirstPad i) (h2 : ¬First i) (h3 : ¬NextPad i) (h4 : ¬Next i)
    (hl : ∀ y, A' (rectLow.emb y) = k0_pay1 (View.ld x rectX) (View.ld w rectLow) y)
    (hh : ∀ y, A' (rectHigh.emb y) = k0_pay2 (View.ld x rectX) (View.ld w rectHigh) y) : Step i x w A A' :=
  ⟨fun _ => ⟨hl, hh⟩, fun h => absurd h h2, fun h => absurd h h3, fun h => absurd h h4⟩

/-- `Step` at the first point of a block without padding. -/
theorem step_first (h1 : ¬FirstPad i) (h2 : First i) (h3 : ¬NextPad i) (h4 : ¬Next i)
    (hw : ∀ y, A' (rectAll.emb y) = k0_pay3 (View.ld x rectX) (View.ld w rectAll) y) : Step i x w A A' :=
  ⟨fun h => absurd h h1, fun _ => hw, fun h => absurd h h3, fun h => absurd h h4⟩

/-- `Step` at a middle point of a block with padding. -/
theorem step_next_pad (h1 : ¬FirstPad i) (h2 : ¬First i) (h3 : NextPad i) (h4 : ¬Next i)
    (hl : ∀ y, A' (rectLow.emb y) = k0_pay4 (View.ld x rectX) (View.ld w rectLow) (View.ld A rectLow) y)
    (hh : ∀ y, A' (rectHigh.emb y) = k0_pay5 (View.ld x rectX) (View.ld w rectHigh) (View.ld A rectHigh) y) : Step i x w A A' :=
  ⟨fun h => absurd h h1, fun h => absurd h h2, fun _ => ⟨hl, hh⟩, fun h => absurd h h4⟩

/-- `Step` at a middle point of a block without padding. -/
theorem step_next (h1 : ¬FirstPad i) (h2 : ¬First i) (h3 : ¬NextPad i) (h4 : Next i)
    (hw : ∀ y, A' (rectAll.emb y) = k0_pay6 (View.ld x rectX) (View.ld w rectAll) (View.ld A rectAll) y) : Step i x w A A' :=
  ⟨fun h => absurd h h1, fun h => absurd h h2, fun h => absurd h h3, fun _ => hw⟩

/-- `Holds` at the last point of a block with padding. -/
theorem holds_pad (h5 : k0_cond5 i = 1#1) (h6 : ¬k0_cond6 i = 1#1)
    (hl : ∀ y, Y (rectLow.emb y) = k0_pay7 (View.ld x rectX) (View.ld w rectLow) (View.ld A rectLow) y)
    (hh : ∀ y, Y (rectHigh.emb y) = k0_pay8 (View.ld x rectX) (View.ld w rectHigh) (View.ld A rectHigh) y) : Holds i x w A Y :=
  ⟨fun _ => ⟨hl, hh⟩, fun h => absurd h h6⟩

/-- `Holds` at the last point of a block without padding. -/
theorem holds_all (h5 : ¬k0_cond5 i = 1#1) (h6 : k0_cond6 i = 1#1)
    (hw : ∀ y, Y (rectAll.emb y) = k0_pay9 (View.ld x rectX) (View.ld w rectAll) (View.ld A rectAll) y) : Holds i x w A Y :=
  ⟨fun h => absurd h h5, fun _ => hw⟩

end Branches

section Stores

variable {κ : Kind} {sp : Space} {e : EltTy} (v : View sig κ sp S1024x1792 e) (f : v.ty.Contents (Elt F))

/-- The columns before the padding keep what was stored there when the columns after it are stored. -/
theorem read_low (wl : rectLow.shape.Idx → Elt F e) (wh : rectHigh.shape.Idx → Elt F e) (y : rectLow.shape.Idx) :
    v.read (Elt F) (v.writes (Elt F) f [⟨rectHigh, wh⟩, ⟨rectLow, wl⟩]) (rectLow.emb y) = wl y := by
  have hy : (y 1).val < 384 := (y 1).isLt
  refine (View.read_writes_cons_miss_of_axis v f _ _ _ 1 768 1024 rfl rfl rfl (.inl ?_)).trans (View.read_writes_cons_emb v f _ _ _ _)
  show 0 + 1 * (y 1).val < 768
  omega

end Stores

set_option maxHeartbeats 1000000 in
/-- The body leaves its operands' blocks as they were, an accumulator for which `Step` and a block of the result for which `Holds` is true. -/
theorem sound_kernel (c : Dev nD) (E : Set ℕ) (i : grid0.Coords) (hi : OneBranch i)
    (arg3 : Memref sig .tc .vmem S1024x1024 .f32) (harg3 : arg3.IsWhole) (arg4 : Memref sig .tc .vmem S1024x1792 .bf16) (harg4 : arg4.IsWhole)
    (arg5 : Memref sig .tc .vmem S1024x1792 .bf16) (harg5 : arg5.IsWhole) (arg6 : Memref sig .tc .vmem S1024x1792 .f32) (harg6 : arg6.IsWhole)
    (x0 : Vec F S1024x1024 .f32) (x1 : Vec F S1024x1792 .bf16) (A : Vec F S1024x1792 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare A
        ∗ (iprop(owns (c : Thread nD τ) arg3 fullShare x0 ∗ owns (c : Thread nD τ) arg4 fullShare x1
            ∗ (∃ Y, ⌜Holds i x0 x1 A Y⌝ ∗ owns (c : Thread nD τ) arg5 fullShare Y)
            ∗ (∃ A', ⌜Step i x0 x1 A A'⌝ ∗ owns (c : Thread nD τ) arg6 fullShare A')) -∗ K ⟨⟩))
      ⊢ wp frame (wpE (defs₀ (F := F)) Variants.none c none) E (cc0_d_w_in i arg3 harg3 arg4 harg4 arg5 harg5 arg6 harg6) K := by
  simp only [cc0_d_w_in_eq_skeleton]; unfold cc0_d_w_in_skel
  unfold owns
  iintro ⟨⟨%f0, %hf0, H0⟩, ⟨%f1, %hf1, H1⟩, ⟨%d2, %f2, -, H2⟩, ⟨%f3, %hf3, H3⟩, Hk⟩
  subst hf0 hf1 hf3
  rcases hi with h | h | h | h | h | h <;> obtain ⟨h1, h2, h3, h4, h5, h6⟩ := h <;>
    (sl_exec (disch := first | sl_exact h1 | sl_exact h2 | sl_exact h3 | sl_exact h4 | sl_exact h5 | sl_exact h6)
     sl_step
     iapply Hk
     isplitl [H0]
     · iexists f0; isplitr; · ipureintro; rfl
       iexact H0
     isplitl [H1]
     · iexists f1; isplitr; · ipureintro; rfl
       iexact H1
     isplitl [H2]
     · iexists _; isplitr
       swap
       · iexists _; isplitr
         swap; · iexact H2
         ipureintro; rfl
       ipureintro
       first
         | exact ⟨fun h => absurd h h5, fun h => absurd h h6⟩
         | (refine holds_pad h5 h6 ?_ ?_
            · intro y; exact read_low _ _ _ _ _
            · intro y; exact View.read_writes_cons_emb _ _ _ _ _ _)
         | (refine holds_all h5 h6 ?_
            intro y; exact View.read_writes_cons_emb _ _ _ _ _ _)
     · iexists _; isplitr
       swap
       · iexists _; isplitr
         swap; · iexact H3
         ipureintro; rfl
       ipureintro
       first
         | exact ⟨fun h => absurd h h1, fun h => absurd h h2, fun h => absurd h h3, fun h => absurd h h4⟩
         | (refine step_first_pad h1 h2 h3 h4 ?_ ?_
            · intro y; exact read_low _ _ _ _ _
            · intro y; exact View.read_writes_cons_emb _ _ _ _ _ _)
         | (refine step_first h1 h2 h3 h4 ?_
            intro y; exact View.read_writes_cons_emb _ _ _ _ _ _)
         | (refine step_next_pad h1 h2 h3 h4 ?_ ?_
            · intro y; exact read_low _ _ _ _ _
            · intro y; refine (View.read_writes_cons_emb _ _ _ _ _ _).trans (congrArg (fun B => k0_pay5 _ _ B y) ?_); rfl)
         | (refine step_next h1 h2 h3 h4 ?_
            intro y; exact View.read_writes_cons_emb _ _ _ _ _ _))

/-! ## The run -/

variable (m : (ℓ : Loc nD τ sig) → Buf (Elt F) ℓ) (ρ : Dev nD → PrngReg)

/-- A core's buffers when the call begins: as launched. -/
abbrev V (c : Dev nD) (b : Ref sig .tc) : Buf (Elt F) ((c : Thread nD τ).loc b) := m ((c : Thread nD τ).loc b)

set_option maxHeartbeats 800000 in
/-- The program is the call alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator, as a buffer that the body reads and writes. -/
abbrev accM : Memref sig .tc .vmem S1024x1792 .f32 := Memref.whole cc0_scratch0

/-- What the accumulator may hold before point `n`: anything at first, then what the points before `n` make of it. -/
def Before (c : Dev nD) : ℕ → Vec F S1024x1792 .f32 → Prop
  | 0, _ => True
  | n + 1, A' => ∃ A, Before c n A ∧ ∀ h : n < cfg0.N, Step (grid0.coords ⟨n, h⟩) (iblk m c 0 ⟨n, h⟩) (iblk m c 1 ⟨n, h⟩) A A'

/-- The operands' blocks at each point, and what the accumulator may hold between the points; of the result nothing is named here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => View.canon (s := S1024x1792) []
  Φ t := iprop((∃ A, ⌜Before m c t.val A⌝ ∗ owns (c : Thread nD τ) accM fullShare A) ∗ (∃ r, prngReg c r))
  q _ := fullShare
  owed _ := 0

/-- The arrays are those that the call finds. -/
theorem A_eq (c : Dev nD) (w : Fin cfg0.W) : (dats m 0 c).A w = V m c (Pipeline.arrRef spec0 w) := by
  dsimp only [dats]

/-- The body leaves the operand's block in place. -/
theorem after0_0 (c : Dev nD) (t : Fin cfg0.N) : (dats m 0 c).after 0 t = iblk m c 0 t := by dsimp only [dats]
/-- The body leaves the operand's block in place. -/
theorem after0_1 (c : Dev nD) (t : Fin cfg0.N) : (dats m 0 c).after 1 t = iblk m c 1 t := by dsimp only [dats]

/-- The body finds the operand's block. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; rfl)
/-- The body finds the operand's block. -/
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]) t d).trans
    (by unfold Dat.fetched Dat.blockOf iblk; rw [A_eq]; rfl)

/-- The result alone is held to a predicate. -/
def held : Fin cfg0.W → Bool := fun | 0 => false | 1 => false | 2 => true | ⟨_ + 3, h⟩ => absurd h (Nat.not_lt.2 (Nat.le_add_left _ _))

/-- The predicate: where the point writes the block, it is what `Holds` says of an accumulator that there may be. -/
def Leaves (c : Dev nD) (w : Fin cfg0.W) (t : Fin cfg0.N) : ((cfg0.win w).block.Idx → Elt F (cfg0.win w).elt) → Prop :=
  match w with
  | ⟨0, _⟩ => fun _ => True
  | ⟨1, _⟩ => fun _ => True
  | ⟨2, _⟩ => fun Y => ∃ A, Before m c t.val A ∧ Holds (grid0.coords t) (iblk m c 0 t) (iblk m c 1 t) A Y

/-- What the run says of each array. -/
abbrev rdat (c : Dev nD) : RDat τ (Elt F) Unit ℕ (UR sig nD τ) ℕ cfg0 c := (dats m 0 c).toRRel held (Leaves m c)

/-- What the points share: the accumulator and the generator. -/
theorem Phi_eq (c : Dev nD) (t : Fin (cfg0.N + 1)) : (dats m 0 c).Φ t
    = iprop((∃ A, ⌜Before m c t.val A⌝ ∗ owns (c : Thread nD τ) accM fullShare A) ∗ (∃ r, prngReg c r)) := by dsimp only [dats]

/-- What the call hands the points and takes back from them. -/
theorem PhiA_eq (c : Dev nD) : (Pipeline.ΦA spec0 c : sProp 𝕄)
    = iprop((∃ d, owns (c : Thread nD τ) accM fullShare d) ∗ (∃ r, prngReg c r)) := by
  unfold Pipeline.ΦA
  rw [scopedRest0_eq]
  simp only [accM, owns_whole]
  rfl

/-- Before the first point the accumulator may hold anything. -/
theorem Phi_in (c : Dev nD) : Pipeline.ΦA spec0 c ⊢ (dats m 0 c).Φ 0 := by
  rw [Phi_eq, PhiA_eq]
  iintro ⟨⟨%A, HA⟩, Hg⟩
  isplitl [HA]
  · iexists A; isplitr
    · ipureintro; exact trivial
    iexact HA
  iexact Hg

/-- After the last point what the accumulator holds is forgotten. -/
theorem Phi_out (c : Dev nD) : (dats m 0 c).Φ (Fin.last cfg0.N) ⊢ Pipeline.ΦA spec0 c := by
  rw [Phi_eq, PhiA_eq]
  iintro ⟨⟨%A, -, HA⟩, Hg⟩
  isplitl [HA]
  · iexists A; iexact HA
  iexact Hg

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ Y, ⌜(rdat m c).Finds 2 t Y⌝ ∗ owns (c : Thread nD τ) (st0_2 t) fullShare Y))

/-- What the body returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ X, ⌜Leaves m c 2 t X⌝ ∗ owns (c : Thread nD τ) (st0_2 t) fullShare X))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, after0_0, after0_1, Phi_eq, Phi_eq]
  iintro ⟨⟨⟨%A, %hA, HA⟩, Hg⟩, Ho, ⟨%d0, H0⟩, ⟨%d1, H1⟩, ⟨%d2, -, H2⟩⟩
  iapply (sound_kernel c Set.univ (grid0.coords t) (branches t) _ _ _ _ _ _ _ _ (iblk m c 0 t) (iblk m c 1 t) A _)
  isplitl [H0]; · iexact H0
  isplitl [H1]; · iexact H1
  isplitl [H2]; · iexists _; iexact H2
  isplitl [HA]; · iexact HA
  iintro ⟨H0, H1, ⟨%Y, %hY, H2⟩, ⟨%A', %hA', HA⟩⟩
  isplitl [HA Hg]
  · isplitl [HA]
    · iexists A'; isplitr
      · ipureintro; exact ⟨A, hA, fun _ => hA'⟩
      iexact HA
    iexact Hg
  isplitl [Ho]; · iexact Ho
  isplitl [H0]; · iexact H0
  isplitl [H1]; · iexact H1
  iexists Y; isplitr
  · ipureintro; exact ⟨A, hA, hY⟩
  iexact H2

/-- The row of the body table at a point is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) :
    BodyObligationRel (dats (F := F) m 0 c) (defs₀ (F := F)) Variants.none () Set.univ held (Leaves m c) := fun t => by
  rw [bigSep_W0, bigSep_W0, defs₀_row]
  exact triple_restated (sound_body m c t) rfl .rfl fun _ => .rfl

set_option backward.isDefEq.respectTransparency.types false in
set_option maxHeartbeats 800000 in
/-- Every fair execution ends, with the arrays as `rdat` says, every other buffer as launched and every counter at zero. -/
theorem run_main : θ_run defs (onTc (τ := τ) (main (F := F))) (s₀ m ρ)
    (fun r => RDat.FramePost cfg0 (rdat m) (V m) r ∧ r.2.sem = fun _ => 0) :=
  RDat.θ_run_frame_track cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := Phi_in m) (hout := Phi_out m) (Q' := _) (hQ' := fun _ h => h)

/-- The call leaves its arguments as they were and every counter at zero. -/
theorem frame_dw : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(RDat.FramePost.arr_in h.1 c 0 rfl).trans (A_eq m c 0),
    (RDat.FramePost.arr_in h.1 c 1 rfl).trans (A_eq m c 1)⟩, h.2⟩) (run_main m ρ)

end Cert.Dw

end
-- ==== Proof.DwArray.lean ====
/-
  The gradient of the input projection's weights: what the call leaves in the columns that it writes, and its reference, over the
  extended reals.
-/
module

public import proofs.«01_k».proof.Proof.DwRun
public import Idealize.ShloMosaic.Lib.Pointwise
public import Idealize.ShloMosaic.Lib.ValueIdx
public import proofs.«01_k».proof.Proof.Gen.Reference9Ideal.Read
public import proofs.«01_k».proof.Proof.Gen.On_live9
public import Idealize.ShloMosaic.Lib.Pipeline.ReadBack
public import Idealize.ShloMosaic.Lib.Pipeline.ValueKit.Partial
public import Idealize.ShloMosaic.Lib.Pipeline.ValueKit.Tiles
public import Idealize.ShloMosaic.Lib.StableHlo.ReadAt
public import Idealize.ShloMosaic.Lib.WordCmp

@[expose] public section

set_option maxRecDepth 16384

noncomputable section

namespace Cert.Dw

open Idealize.ShloMosaic Idealize.ShloMosaic.TcCoe
open Idealize.ShloMosaic.Pipeline (Dat RDat Cfg Window)

/-- The columns that the gradient fills: all but the padding between the gated recurrence's and the memory's. -/
def Live (j : ℕ) : Prop := j < 5760 ∨ 6144 ≤ j

section Sums

/-- The input, read at a row and a column. -/
abbrev Input := Fin 8192 → Fin 2048 → EReal
/-- The gradient of the projection, read at a row and a column. -/
abbrev Grad := Fin 8192 → Fin 7168 → EReal

variable (x : Input) (g : Grad) (p : Fin 2048) (q : Fin 7168)

/-- The weights' gradient, as an array. -/
def dwArr : Vec Ideal Cert.Kernel9Ideal.S2048x7168 .bf16 := fun i => ∑ r : Fin 8192, x r (i 0) * g r (i 1)

/-- What row `r` adds to an entry of the gradient. -/
def rowTerm (r : ℕ) : EReal := if h : r < 8192 then x ⟨r, h⟩ p * g ⟨r, h⟩ q else 0

/-- What the first `n` blocks of rows add up to. -/
def upTo (n : ℕ) : EReal := ∑ r ∈ Finset.range (1024 * n), rowTerm x g p q r

/-- One more block of rows. -/
theorem upTo_succ {n : ℕ} (h : n < 8) :
    upTo x g p q n + ∑ k : Fin 1024, x ⟨1024 * n + k.val, by omega⟩ p * g ⟨1024 * n + k.val, by omega⟩ q = upTo x g p q (n + 1) := by
  unfold upTo
  rw [Nat.mul_succ, Finset.sum_range_add, ← Fin.sum_univ_eq_sum_range (fun k => rowTerm x g p q (1024 * n + k)) 1024]
  refine congrArg (_ + ·) (Finset.sum_congr rfl fun k _ => ?_)
  unfold rowTerm
  rw [dif_pos (show 1024 * n + k.val < 8192 by omega)]

/-- No block of rows adds up to nothing. -/
theorem upTo_zero : upTo x g p q 0 = 0 := rfl

/-- All eight blocks are all the rows. -/
theorem upTo_all : upTo x g p q 8 = ∑ r : Fin 8192, x r p * g r q := by
  unfold upTo
  rw [← Fin.sum_univ_eq_sum_range (fun r => rowTerm x g p q r) (1024 * 8)]
  refine Finset.sum_congr rfl fun r _ => ?_
  unfold rowTerm
  rw [dif_pos r.isLt]

end Sums

section Call

open Cert.Kernel9Ideal Cert.Kernel9Ideal.Gen

/-- Which blocks each grid point reads or writes. -/
theorem index_dw : ∀ t : Fin cfg0.N, (win0_0.index t 0 = t.val % 8 ∧ win0_0.index t 1 = t.val / 32)
    ∧ (win0_1.index t 0 = t.val % 8 ∧ win0_1.index t 1 = t.val / 8 % 4)
    ∧ (win0_2.index t 0 = t.val / 32 ∧ win0_2.index t 1 = t.val / 8 % 4) := by decide +kernel

/-- Which branch each grid point takes. -/
theorem branch_dw : ∀ t : Fin cfg0.N, (t.val % 8 = 0 → t.val / 8 % 4 = 3 → FirstPad (grid0.coords t))
    ∧ (t.val % 8 = 0 → t.val / 8 % 4 ≠ 3 → First (grid0.coords t))
    ∧ (t.val % 8 ≠ 0 → t.val % 8 ≠ 7 → t.val / 8 % 4 = 3 → NextPad (grid0.coords t))
    ∧ (t.val % 8 ≠ 0 → t.val % 8 ≠ 7 → t.val / 8 % 4 ≠ 3 → Next (grid0.coords t))
    ∧ (t.val % 8 = 7 → t.val / 8 % 4 = 3 → k0_cond5 (grid0.coords t) = 1#1)
    ∧ (t.val % 8 = 7 → t.val / 8 % 4 ≠ 3 → k0_cond6 (grid0.coords t) = 1#1) := by decide +kernel

section Block

variable {e : EltTy}

/-- An index of a whole block is itself. -/
theorem emb_all (p : Fin 1024) (q : Fin 1792) : rectAll.emb (ix2 p q) = (ix2 p q : S1024x1792.Idx) :=
  funext fun a => Fin.ext <| by
    match a with
    | ⟨0, _⟩ => show 0 + 1 * p.val = p.val; omega
    | ⟨1, _⟩ => show 0 + 1 * q.val = q.val; omega

/-- An index of the columns before the padding, in the block. -/
theorem emb_low (p : Fin 1024) (q : Fin 384) : rectLow.emb (ix2 p q) = (ix2 p ⟨q.val, by omega⟩ : S1024x1792.Idx) :=
  funext fun a => Fin.ext <| by
    match a with
    | ⟨0, _⟩ => show 0 + 1 * p.val = p.val; omega
    | ⟨1, _⟩ => show 0 + 1 * q.val = q.val; omega

/-- An index of the columns after the padding, in the block. -/
theorem emb_high (p q : Fin 1024) : rectHigh.emb (ix2 p q) = (ix2 p ⟨768 + q.val, by omega⟩ : S1024x1792.Idx) :=
  funext fun a => Fin.ext <| by
    match a with
    | ⟨0, _⟩ => show 0 + 1 * p.val = p.val; omega
    | ⟨1, _⟩ => show 768 + 1 * q.val = 768 + q.val; omega

/-- The input's block, read whole. -/
theorem ld_x (X : Vec Ideal S1024x1024 .f32) (k p : Fin 1024) : View.ld X rectX (ix2 k p) = X (ix2 k p) :=
  congrArg X <| funext fun a => Fin.ext <| by
    match a with
    | ⟨0, _⟩ => show 0 + 1 * k.val = k.val; omega
    | ⟨1, _⟩ => show 0 + 1 * p.val = p.val; omega

/-- A block of columns, read whole. -/
theorem ld_all (B : Vec Ideal S1024x1792 e) (k : Fin 1024) (q : Fin 1792) : View.ld B rectAll (ix2 k q) = B (ix2 k q) := congrArg B (emb_all k q)

/-- A block of columns, those before the padding read. -/
theorem ld_low (B : Vec Ideal S1024x1792 e) (k : Fin 1024) (q : Fin 384) : View.ld B rectLow (ix2 k q) = B (ix2 k ⟨q.val, by omega⟩) :=
  congrArg B (emb_low k q)

/-- A block of columns, those after the padding read. -/
theorem ld_high (B : Vec Ideal S1024x1792 e) (k q : Fin 1024) : View.ld B rectHigh (ix2 k q) = B (ix2 k ⟨768 + q.val, by omega⟩) :=
  congrArg B (emb_high k q)

/-- An entry of the product of two blocks, over their rows. -/
def cross (X : Vec Ideal S1024x1024 .f32) (W : Vec Ideal S1024x1792 .bf16) (p : Fin 1024) (q : Fin 1792) : EReal :=
  ∑ k : Fin 1024, X (ix2 k p) * W (ix2 k q)

variable (x : Vec Ideal S1024x1024 .f32)

/-- What the first point computes before the padding. -/
theorem first_low (w : Vec Ideal S1024x384 .bf16) (p : Fin 1024) (q : Fin 384) :
    k0_pay1 (F := Ideal) x w (ix2 p q) = ∑ k : Fin 1024, x (ix2 k p) * w (ix2 k q) := by
  unfold k0_pay1
  pointwise

/-- What the first point computes after the padding. -/
theorem first_high (w : Vec Ideal S1024x1024 .bf16) (p q : Fin 1024) :
    k0_pay2 (F := Ideal) x w (ix2 p q) = ∑ k : Fin 1024, x (ix2 k p) * w (ix2 k q) := by
  unfold k0_pay2
  pointwise

/-- What the first point computes of a whole block. -/
theorem first_all (w : Vec Ideal S1024x1792 .bf16) (p : Fin 1024) (q : Fin 1792) :
    k0_pay3 (F := Ideal) x w (ix2 p q) = ∑ k : Fin 1024, x (ix2 k p) * w (ix2 k q) := by
  unfold k0_pay3
  pointwise

/-- What a middle point computes before the padding. -/
theorem next_low (w : Vec Ideal S1024x384 .bf16) (A : Vec Ideal S1024x384 .f32) (p : Fin 1024) (q : Fin 384) :
    k0_pay4 (F := Ideal) x w A (ix2 p q) = A (ix2 p q) + ∑ k : Fin 1024, x (ix2 k p) * w (ix2 k q) := by
  unfold k0_pay4
  pointwise

/-- What a middle point computes after the padding. -/
theorem next_high (w : Vec Ideal S1024x1024 .bf16) (A : Vec Ideal S1024x1024 .f32) (p q : Fin 1024) :
    k0_pay5 (F := Ideal) x w A (ix2 p q) = A (ix2 p q) + ∑ k : Fin 1024, x (ix2 k p) * w (ix2 k q) := by
  unfold k0_pay5
  pointwise

/-- What a middle point computes of a whole block. -/
theorem next_all (w : Vec Ideal S1024x1792 .bf16) (A : Vec Ideal S1024x1792 .f32) (p : Fin 1024) (q : Fin 1792) :
    k0_pay6 (F := Ideal) x w A (ix2 p q) = A (ix2 p q) + ∑ k : Fin 1024, x (ix2 k p) * w (ix2 k q) := by
  unfold k0_pay6
  pointwise

/-- What the last point computes before the padding. -/
theorem last_low (w : Vec Ideal S1024x384 .bf16) (A : Vec Ideal S1024x384 .f32) (p : Fin 1024) (q : Fin 384) :
    k0_pay7 (F := Ideal) x w A (ix2 p q) = A (ix2 p q) + ∑ k : Fin 1024, x (ix2 k p) * w (ix2 k q) := by
  unfold k0_pay7
  pointwise

/-- What the last point computes after the padding. -/
theorem last_high (w : Vec Ideal S1024x1024 .bf16) (A : Vec Ideal S1024x1024 .f32) (p q : Fin 1024) :
    k0_pay8 (F := Ideal) x w A (ix2 p q) = A (ix2 p q) + ∑ k : Fin 1024, x (ix2 k p) * w (ix2 k q) := by
  unfold k0_pay8
  pointwise

/-- What the last point computes of a whole block. -/
theorem last_all (w : Vec Ideal S1024x1792 .bf16) (A : Vec Ideal S1024x1792 .f32) (p : Fin 1024) (q : Fin 1792) :
    k0_pay9 (F := Ideal) x w A (ix2 p q) = A (ix2 p q) + ∑ k : Fin 1024, x (ix2 k p) * w (ix2 k q) := by
  unfold k0_pay9
  pointwise

variable {x} {w : Vec Ideal S1024x1792 .bf16} {A A' : Vec Ideal S1024x1792 .f32} {Y : Vec Ideal S1024x1792 .bf16}

/-- The product of the blocks as the columns before the padding are read. -/
theorem cross_low (p : Fin 1024) (q : Fin 384) :
    ∑ k : Fin 1024, View.ld x rectX (ix2 k p) * View.ld w rectLow (ix2 k q) = cross x w p ⟨q.val, by omega⟩ :=
  Finset.sum_congr rfl fun k _ => congrArg₂ (· * ·) (ld_x x k p) (ld_low w k q)

/-- The product of the blocks as the columns after the padding are read. -/
theorem cross_high (p q : Fin 1024) :
    ∑ k : Fin 1024, View.ld x rectX (ix2 k p) * View.ld w rectHigh (ix2 k q) = cross x w p ⟨768 + q.val, by omega⟩ :=
  Finset.sum_congr rfl fun k _ => congrArg₂ (· * ·) (ld_x x k p) (ld_high w k q)

/-- The product of the blocks as a whole block is read. -/
theorem cross_all (p : Fin 1024) (q : Fin 1792) :
    ∑ k : Fin 1024, View.ld x rectX (ix2 k p) * View.ld w rectAll (ix2 k q) = cross x w p q :=
  Finset.sum_congr rfl fun k _ => congrArg₂ (· * ·) (ld_x x k p) (ld_all w k q)

/-- The columns of a point's block beside the padding. -/
def LiveAt (n : ℕ) (q : Fin 1792) : Prop := n / 8 % 4 = 3 → q.val < 384 ∨ 768 ≤ q.val

/-- What is so of the columns before the padding, of those after it and of whole blocks is so of every column beside the padding. -/
theorem of_parts {P : Fin 1792 → Prop} {n : ℕ} (hl : n / 8 % 4 = 3 → ∀ q : Fin 384, P ⟨q.val, by omega⟩)
    (hh : n / 8 % 4 = 3 → ∀ q : Fin 1024, P ⟨768 + q.val, by omega⟩) (hw : n / 8 % 4 ≠ 3 → ∀ q, P q) (q : Fin 1792) (hq : LiveAt n q) : P q := by
  by_cases h : n / 8 % 4 = 3
  · rcases hq h with h' | h'
    · exact hl h ⟨q.val, h'⟩
    · have e := hh h ⟨q.val - 768, by omega⟩
      rwa [show (⟨768 + (q.val - 768), by omega⟩ : Fin 1792) = q from Fin.ext (by show 768 + (q.val - 768) = q.val; omega)] at e
  · exact hw h q

/-- The accumulator after the first point of a block. -/
theorem acc_first (t : Fin cfg0.N) (h0 : t.val % 8 = 0) (h : Step (grid0.coords t) x w A A') (p : Fin 1024) (q : Fin 1792) (hq : LiveAt t.val q) :
    A' (ix2 p q) = cross x w p q := by
  obtain ⟨b1, b2, -, -, -, -⟩ := branch_dw t
  refine of_parts (P := fun q => A' (ix2 p q) = cross x w p q) (fun h3 q => ?_) (fun h3 q => ?_) (fun h3 q => ?_) q hq
  · rw [← emb_low]
    exact ((h.1 (b1 h0 h3)).1 _).trans ((first_low _ _ p q).trans (cross_low p q))
  · rw [← emb_high]
    exact ((h.1 (b1 h0 h3)).2 _).trans ((first_high _ _ p q).trans (cross_high p q))
  · rw [← emb_all]
    exact (h.2.1 (b2 h0 h3) _).trans ((first_all _ _ p q).trans (cross_all p q))

/-- The accumulator after a middle point of a block. -/
theorem acc_next (t : Fin cfg0.N) (h0 : t.val % 8 ≠ 0) (h7 : t.val % 8 ≠ 7) (h : Step (grid0.coords t) x w A A') (p : Fin 1024) (q : Fin 1792)
    (hq : LiveAt t.val q) : A' (ix2 p q) = A (ix2 p q) + cross x w p q := by
  obtain ⟨-, -, b3, b4, -, -⟩ := branch_dw t
  refine of_parts (P := fun q => A' (ix2 p q) = A (ix2 p q) + cross x w p q) (fun h3 q => ?_) (fun h3 q => ?_) (fun h3 q => ?_) q hq
  · refine (congrArg A' (emb_low p q).symm).trans (((h.2.2.1 (b3 h0 h7 h3)).1 _).trans ((next_low _ _ _ p q).trans ?_))
    exact congrArg₂ (· + ·) (ld_low A p q) (cross_low p q)
  · refine (congrArg A' (emb_high p q).symm).trans (((h.2.2.1 (b3 h0 h7 h3)).2 _).trans ((next_high _ _ _ p q).trans ?_))
    exact congrArg₂ (· + ·) (ld_high A p q) (cross_high p q)
  · refine (congrArg A' (emb_all p q).symm).trans ((h.2.2.2 (b4 h0 h7 h3) _).trans ((next_all _ _ _ p q).trans ?_))
    exact congrArg₂ (· + ·) (ld_all A p q) (cross_all p q)

/-- The result's block after the last point. -/
theorem out_last (t : Fin cfg0.N) (h7 : t.val % 8 = 7) (h : Holds (grid0.coords t) x w A Y) (p : Fin 1024) (q : Fin 1792)
    (hq : LiveAt t.val q) : Y (ix2 p q) = A (ix2 p q) + cross x w p q := by
  obtain ⟨-, -, -, -, b5, b6⟩ := branch_dw t
  refine of_parts (P := fun q => Y (ix2 p q) = A (ix2 p q) + cross x w p q) (fun h3 q => ?_) (fun h3 q => ?_) (fun h3 q => ?_) q hq
  · refine (congrArg Y (emb_low p q).symm).trans (((h.1 (b5 h7 h3)).1 _).trans ((last_low _ _ _ p q).trans ?_))
    exact congrArg₂ (· + ·) (ld_low A p q) (cross_low p q)
  · refine (congrArg Y (emb_high p q).symm).trans (((h.1 (b5 h7 h3)).2 _).trans ((last_high _ _ _ p q).trans ?_))
    exact congrArg₂ (· + ·) (ld_high A p q) (cross_high p q)
  · refine (congrArg Y (emb_all p q).symm).trans ((h.2 (b6 h7 h3) _).trans ((last_all _ _ _ p q).trans ?_))
    exact congrArg₂ (· + ·) (ld_all A p q) (cross_all p q)

end Block

variable {x : Input} {g : Grad}
variable (m : (ℓ : Loc nD τ sig) → Buf (Elt Ideal) ℓ) (c : Dev nD)
variable (hx : ∀ i j, (m ((c : Thread nD τ).loc main_arg0) : Vec Ideal S8192x2048 .f32) (ix2 i j) = x i j)
variable (hg : ∀ i j, (m ((c : Thread nD τ).loc main_arg1) : Vec Ideal S8192x7168 .bf16) (ix2 i j) = g i j)

/-- Row `p` of the result's block at point `n`. -/
def rowAt (n : ℕ) (h : n < cfg0.N) (p : Fin 1024) : Fin 2048 := ⟨1024 * (n / 32) + p.val, by have : cfg0.N = 64 := N_0; omega⟩
/-- Column `q` of the result's block at point `n`. -/
def colAt (n : ℕ) (q : Fin 1792) : Fin 7168 := ⟨1792 * (n / 8 % 4) + q.val, by omega⟩

include hx in
/-- The input's block, entry by entry. -/
theorem blk_input (t : Fin cfg0.N) (k p : Fin 1024) :
    (iblk m c 0 t : Vec Ideal S1024x1024 .f32) (ix2 k p) = x ⟨1024 * (t.val % 8) + k.val, by omega⟩ (rowAt t.val t.isLt p) := by
  unfold iblk
  rw [View.read_apply]
  refine (congrArg (V m c main_arg0) (funext fun a => Fin.ext ?_)).trans (hx ⟨1024 * (t.val % 8) + k.val, by omega⟩ (rowAt t.val t.isLt p))
  match a with
  | ⟨0, _⟩ => show win0_0.index t 0 * 1024 + 1 * k.val = 1024 * (t.val % 8) + k.val; rw [(index_dw t).1.1]; omega
  | ⟨1, _⟩ => show win0_0.index t 1 * 1024 + 1 * p.val = 1024 * (t.val / 32) + p.val; rw [(index_dw t).1.2]; omega

include hg in
/-- The gradient's block, entry by entry. -/
theorem blk_grad (t : Fin cfg0.N) (k : Fin 1024) (q : Fin 1792) :
    (iblk m c 1 t : Vec Ideal S1024x1792 .bf16) (ix2 k q) = g ⟨1024 * (t.val % 8) + k.val, by omega⟩ (colAt t.val q) := by
  unfold iblk
  rw [View.read_apply]
  refine (congrArg (V m c main_arg1) (funext fun a => Fin.ext ?_)).trans (hg ⟨1024 * (t.val % 8) + k.val, by omega⟩ (colAt t.val q))
  match a with
  | ⟨0, _⟩ => show win0_1.index t 0 * 1024 + 1 * k.val = 1024 * (t.val % 8) + k.val; rw [(index_dw t).2.1.1]; omega
  | ⟨1, _⟩ => show win0_1.index t 1 * 1792 + 1 * q.val = 1792 * (t.val / 8 % 4) + q.val; rw [(index_dw t).2.1.2]; omega

include hx hg in
/-- A point adds the product of its block of rows. -/
theorem add_block (t : Fin cfg0.N) (p : Fin 1024) (q : Fin 1792) :
    upTo x g (rowAt t.val t.isLt p) (colAt t.val q) (t.val % 8) + cross (iblk m c 0 t) (iblk m c 1 t) p q
      = upTo x g (rowAt t.val t.isLt p) (colAt t.val q) (t.val % 8 + 1) := by
  rw [← upTo_succ x g _ _ (show t.val % 8 < 8 by omega)]
  exact congrArg (_ + ·) (Finset.sum_congr rfl fun k _ => congrArg₂ (· * ·) (blk_input m c hx t k p) (blk_grad m c hg t k q))

include hx hg in
/-- Whatever the accumulator may hold inside a block, beside the padding it is the sum over the rows read so far. -/
theorem before_dw (n : ℕ) (h : n < cfg0.N) (h7 : n % 8 ≠ 7) (A' : Vec Ideal S1024x1792 .f32) (hA : Before m c (n + 1) A') (p : Fin 1024)
    (q : Fin 1792) (hq : LiveAt n q) : A' (ix2 p q) = upTo x g (rowAt n h p) (colAt n q) (n % 8 + 1) := by
  induction n generalizing A' with
  | zero =>
    obtain ⟨A, -, hS⟩ := hA
    refine (acc_first ⟨0, h⟩ rfl (hS h) p q hq).trans (Eq.trans ?_ (add_block m c hx hg ⟨0, h⟩ p q))
    exact (zero_add _).symm
  | succ n ih =>
    obtain ⟨A, hA, hS⟩ := hA
    by_cases h0 : (n + 1) % 8 = 0
    · refine (acc_first ⟨n + 1, h⟩ h0 (hS h) p q hq).trans (Eq.trans ?_ (add_block m c hx hg ⟨n + 1, h⟩ p q))
      dsimp only
      rw [h0, upTo_zero, zero_add]
    · refine (acc_next ⟨n + 1, h⟩ h0 h7 (hS h) p q hq).trans (Eq.trans ?_ (add_block m c hx hg ⟨n + 1, h⟩ p q))
      refine congrArg (· + _) ((ih (by omega) (by omega) A hA (fun h3 => hq (by omega))).trans ?_)
      have e0 : rowAt n (by omega) p = rowAt (n + 1) h p := Fin.ext (by show 1024 * (n / 32) + p.val = 1024 * ((n + 1) / 32) + p.val; omega)
      have e1 : colAt n q = colAt (n + 1) q := Fin.ext (by show 1792 * (n / 8 % 4) + q.val = 1792 * ((n + 1) / 8 % 4) + q.val; omega)
      rw [e0, e1, show n % 8 + 1 = (n + 1) % 8 by omega]

include hx hg in
/-- What the last point of a block leaves beside the padding: the sum over all rows. -/
theorem leaves_dw (t : Fin cfg0.N) (h7 : t.val % 8 = 7) {Y : Vec Ideal S1024x1792 .bf16} (hY : Leaves m c 2 t Y) (p : Fin 1024) (q : Fin 1792)
    (hq : LiveAt t.val q) : Y (ix2 p q) = ∑ r : Fin 8192, x r (rowAt t.val t.isLt p) * g r (colAt t.val q) := by
  obtain ⟨A, hA, hH⟩ := hY
  have ht := t.isLt
  refine (out_last t h7 hH p q hq).trans ?_
  rw [← upTo_all, show (8 : ℕ) = t.val % 8 + 1 by omega, ← add_block m c hx hg t p q]
  refine congrArg (· + _) ?_
  rw [show t.val = (t.val - 1) + 1 by omega] at hA
  refine (before_dw m c hx hg (t.val - 1) (by omega) (by omega) A hA p q (fun h3 => hq (by omega))).trans ?_
  have e0 : rowAt (t.val - 1) (by omega) p = rowAt t.val t.isLt p := Fin.ext (by show 1024 * ((t.val - 1) / 32) + p.val = 1024 * (t.val / 32) + p.val; omega)
  have e1 : colAt (t.val - 1) q = colAt t.val q := Fin.ext (by show 1792 * ((t.val - 1) / 8 % 4) + q.val = 1792 * (t.val / 8 % 4) + q.val; omega)
  rw [e0, e1, show (t.val - 1) % 8 + 1 = t.val % 8 by omega]

/-- Where an entry of a point's block lies in the result. -/
theorem emb_dw (t : Fin cfg0.N) (p : Fin 1024) (q : Fin 1792) :
    ((cfg0.win 2).blk t).view.emb (ix2 p q) = (ix2 (rowAt t.val t.isLt p) (colAt t.val q) : S2048x7168.Idx) :=
  funext fun a => Fin.ext <| by
    match a with
    | ⟨0, _⟩ => show win0_2.index t 0 * 1024 + 1 * p.val = 1024 * (t.val / 32) + p.val; rw [(index_dw t).2.2.1]; omega
    | ⟨1, _⟩ => show win0_2.index t 1 * 1792 + 1 * q.val = 1792 * (t.val / 8 % 4) + q.val; rw [(index_dw t).2.2.2]; omega

/-- A filled column lies beside the padding of its block. -/
theorem live_at (n : ℕ) (q : Fin 1792) (hl : Live (colAt n q).val) : LiveAt n q := by
  have hl' : 1792 * (n / 8 % 4) + q.val < 5760 ∨ 6144 ≤ 1792 * (n / 8 % 4) + q.val := hl
  intro h3
  omega

/-- Whatever the points leave, if `Leaves` is true of it, the array holds the gradient in every filled column. -/
theorem array_dw (after : (w' : Fin cfg0.W) → Fin cfg0.N → (cfg0.win w').block.Idx → Elt Ideal (cfg0.win w').elt)
    (hx : ∀ i j, (m ((c : Thread nD τ).loc main_arg0) : Vec Ideal S8192x2048 .f32) (ix2 i j) = x i j)
    (hg : ∀ i j, (m ((c : Thread nD τ).loc main_arg1) : Vec Ideal S8192x7168 .bf16) (ix2 i j) = g i j)
    (hL : ∀ t : Fin cfg0.N, (cfg0.win 2).flush t = true → Leaves m c 2 t (after 2 t)) (i : S2048x7168.Idx) (hi : Live (i 1).val) :
    (((rdat m c).withAfter after).arrAt 2 cfg0.N : Vec Ideal S2048x7168 .bf16) i = dwArr x g i := by
  refine (((rdat m c).withAfter after).arrAt_forall_of_coversWhere 2
    (fun (i : S2048x7168.Idx) (v : EReal) => Live (i 1).val → v = dwArr x g i) (fun _ => True) (by decide +kernel)
    (fun t hf z => ?_) (fun j h => absurd trivial h) i) hi
  rw [RDat.withAfter_after]
  obtain ⟨p, q, rfl⟩ : ∃ p q, z = ix2 p q := ⟨_, _, eq_ix2 z⟩
  rw [emb_dw]
  intro hl
  exact leaves_dw m c hx hg t ((flush0_2 t).mp hf) (hL t hf) p q (live_at t.val q hl)

variable (ρ : Dev nD → PrngReg)

/-- The call ends with the gradient in every filled column, its arguments as they were. -/
theorem run_dw (x : Dev nD → Input) (g : Dev nD → Grad)
    (hx : ∀ c i j, (m ((c.tc : Thread nD τ).loc main_arg0) : Vec Ideal S8192x2048 .f32) (ix2 i j) = x c i j)
    (hg : ∀ c i j, (m ((c.tc : Thread nD τ).loc main_arg1) : Vec Ideal S8192x7168 .bf16) (ix2 i j) = g c i j) :
    θ_run defs (onTc (τ := τ) (main (F := Ideal))) ⟨m, fun _ => 0, ρ⟩ (fun r => ∀ c : Dev nD,
      (∀ i : S2048x7168.Idx, Live (i 1).val → (r.2.mem ((c.tc : Thread nD τ).loc main_v0) : Vec Ideal S2048x7168 .bf16) i = dwArr (x c) (g c) i)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => by
    obtain ⟨after, hL, hA⟩ := RDat.FramePost.exists_exact h.1 c
    refine ⟨fun i hi => ?_, (RDat.FramePost.arr_in h.1 c 0 rfl).trans (A_eq m c 0), (RDat.FramePost.arr_in h.1 c 1 rfl).trans (A_eq m c 1)⟩
    exact (congrFun (hA 2) i).trans (array_dw m c after (hx c) (hg c)
      (fun t hf => Dat.toRRel_leaves (dats m 0 c) (h := rfl) (hL 2 t hf)) i hi)) (run_main m ρ)

end Call

/-- The mask of the claim selects filled columns alone. -/
theorem live_mask (x : FVec Ideal Cert.On_live9.S8192x2048 .f32) (g : FVec Ideal Cert.On_live9.S8192x7168 .bf16) (i : Cert.On_live9.S2048x7168.Idx)
    (h : Cert.On_live9.fn (F := Ideal) x g i = 1#1) : Live (i 1).val := by
  have hb : (i 1).val < 7168 := (i 1).isLt
  have h' : IntOp.ori (IntOp.cmpi .slt (BitVec.ofNat 32 (i 1).val) (BitVec.ofNat 32 5760)) (IntOp.cmpi .sge (BitVec.ofNat 32 (i 1).val) (BitVec.ofNat 32 6144))
      = 1#1 := h
  rw [WordCmp.cmpi_slt_ofNat (by omega) (by omega), WordCmp.cmpi_sge_ofNat (by omega) (by omega), WordCmp.ori_ofBool, WordCmp.ofBool_eq_one_iff] at h'
  simpa [Live] using h'

section Reference

open Cert.Reference9Ideal Cert.Reference9Ideal.Read

variable {x0 : (⟨S8192x2048, .f32⟩ : BufTy).Contents (Elt Ideal)} {x1 : (⟨S8192x7168, .bf16⟩ : BufTy).Contents (Elt Ideal)}
variable {a : Input} {b : Grad}

/-- Where the product reads the gradient. -/
theorem dw_lidx (i : Fin 2048) (j : Fin 7168) (r : Fin 8192) : lidx_main_v3 (idx_main_v4 (ix2 i j)) r = ix2 r j := by
  funext a
  match a with
  | ⟨0, _⟩ => rfl
  | ⟨1, _⟩ => rfl

/-- Where the product reads the input. -/
theorem dw_ridx (i : Fin 2048) (j : Fin 7168) (r : Fin 8192) : ridx_main_v3 (idx_main_v4 (ix2 i j)) r = ix2 r i := by
  funext a
  match a with
  | ⟨0, _⟩ => rfl
  | ⟨1, _⟩ => rfl

/-- The reference's result is the gradient, in every column. -/
theorem result_dw (ha : ∀ i j, x0 (ix2 i j) = a i j) (hb : ∀ i j, x1 (ix2 i j) = b i j) : val_main_v5 (F := Ideal) x0 x1 = dwArr a b := by
  funext i
  obtain ⟨i, j, rfl⟩ : ∃ R C, i = ix2 R C := ⟨_, _, eq_ix2 i⟩
  rw [val_main_v5_apply, val_main_v4_apply, val_main_v3_apply]
  simp only [dw_lidx, dw_ridx, val_main_v2_apply, ha, hb]
  exact Finset.sum_congr rfl fun r _ => mul_comm _ _

end Reference

end Cert.Dw

end
-- ==== Proof.DwWords.lean ====
/-
  The weights' gradient over words: its program is the same text as the one over the extended reals, so that the run told over any
  values is its run too.
-/
module

public import proofs.«01_k».proof.Proof.DwRun
public import proofs.«01_k».proof.Proof.Gen.Kernel9
public import proofs.«01_k».proof.Proof.Gen.Kernel9.Launch
public import proofs.«01_k».proof.Defs

@[expose] public section

set_option maxRecDepth 16384

noncomputable section

namespace Cert.Dw

open Idealize.ShloMosaic Idealize.ShloMosaic.TcCoe Idealize.SL.Sem

/-- The two programs have one table of bodies. -/
theorem same_bodies : Cert.Kernel9.defs₀ (F := Bits) = Cert.Kernel9Ideal.defs₀ (F := Bits) := by
  unfold Cert.Kernel9.defs₀ Cert.Kernel9Ideal.defs₀
  refine congrArg Defs.onTc (funext fun l => funext fun a => ?_)
  match l, a with
  | 0, (t, s) => rfl

/-- The two programs have one table of definitions. -/
theorem same_defs : Cert.Kernel9.defs (F := Bits) = Cert.Kernel9Ideal.defs (F := Bits) :=
  congrArg (Pipeline.defs (Cert.Kernel9Ideal.pcfgs (F := Bits))) same_bodies

/-- The call over words leaves its arguments as they were and every counter at zero. -/
theorem frame_words (m : (ℓ : Loc Cert.Kernel9.nD Cert.Kernel9.τ Cert.Kernel9.sig) → Buf (Elt Bits) ℓ) (ρ : Dev Cert.Kernel9.nD → PrngReg) :
    θ_run (Cert.Kernel9.defs (F := Bits)) (onTc (τ := Cert.Kernel9.τ) (Cert.Kernel9.main (F := Bits))) ⟨m, fun _ => 0, ρ⟩ (fun r =>
      (∀ c : Dev Cert.Kernel9.nD,
        r.2.mem ((c.tc : Thread Cert.Kernel9.nD Cert.Kernel9.τ).loc Cert.Kernel9.main_arg0) = m ((c.tc : Thread Cert.Kernel9.nD Cert.Kernel9.τ).loc Cert.Kernel9.main_arg0)
        ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0) := by
  rw [same_defs]
  exact frame_dw (F := Bits) m ρ

end Cert.Dw

end
-- ==== Proof.lean ====
/-
  The certificate: the frames of the kernel and of the reference, the named constants, and the equation of the kernel's
  results with the reference's, put together from the modules beside it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Reference9Ideal
public import proofs.«01_k».proof.Proof.Gen.Reference9Ideal.Run
public import proofs.«01_k».proof.Proof.Gen.Reference9Ideal.Read
public import proofs.«01_k».proof.Proof.Gen.On_live9
public import proofs.«01_k».proof.Proof.Gen.Pre_finite
public import proofs.«01_k».proof.Proof.Gen.Pre_finite2
public import proofs.«01_k».proof.Proof.Gen.On_live
public import proofs.«01_k».proof.Proof.MemRun
public import proofs.«01_k».proof.Proof.MemReference
public import proofs.«01_k».proof.Proof.MemFinite
public import proofs.«01_k».proof.Proof.NormReference
public import proofs.«01_k».proof.Proof.NormDw
public import proofs.«01_k».proof.Proof.NormFinite
public import proofs.«01_k».proof.Proof.ProjReference
public import proofs.«01_k».proof.Proof.LossReference
public import proofs.«01_k».proof.Proof.InArray
public import proofs.«01_k».proof.Proof.InWords
public import proofs.«01_k».proof.Proof.KvForward
public import proofs.«01_k».proof.Proof.KvBackward
public import proofs.«01_k».proof.Proof.DxArray
public import proofs.«01_k».proof.Proof.DwArray
public import proofs.«01_k».proof.Proof.DwWords
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel over words runs, leaves its arguments as they were and every counter at zero. -/
theorem frame_kernel : Cert.quiescent_Kernel := fun m g _ => Cert.Kernel.Gen.frame m g

/-- The kernel over the extended reals runs, leaves its arguments as they were and every counter at zero. -/
theorem frame_ideal : Cert.quiescent_KernelIdeal := fun m g _ => Cert.KernelIdeal.Gen.frame m g

/-- The same under the precondition. -/
theorem frame_ideal_pre : Cert.quiescent_KernelIdeal_pre_finite := fun m g _ => Cert.KernelIdeal.Gen.frame m g

/-- The reference runs, leaves its arguments as they were, and has no counter. -/
theorem frame_reference : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

/-- The same under the precondition. -/
theorem frame_reference_pre : Cert.quiescent_ReferenceIdeal_pre_finite := fun m g _ => frame_reference m g trivial

/-- Each named constant is its stated real number. -/
theorem constants : Cert.preserves_Kernel_KernelIdeal :=
  ⟨IdealRules.named_const.statement Cert.KernelIdeal.κ "scale2" .f32 0x3E0293EE#32 _ rfl,
   IdealRules.named_const.statement Cert.KernelIdeal.κ "scale" .f32 0x3DB504F3#32 _ rfl⟩

/-- The kernel's three results equal the reference's. -/
theorem equation : Cert.algebraic_KernelIdeal_ReferenceIdeal_pre_finite := by
  intro m g m' g' hpre hagree
  let H : Dev Cert.KernelIdeal.nD → Fin 8192 → Fin 7168 → ℝ := fun c R C =>
    ((m ((c.tc : Thread Cert.KernelIdeal.nD Cert.KernelIdeal.τ).loc Cert.KernelIdeal.main_arg0) : Vec Ideal Cert.KernelIdeal.S8192x7168 .bf16) (ix2 R C) : EReal).toReal
  let M : Dev Cert.KernelIdeal.nD → Fin 256 → Fin 1024 → ℝ := fun c R C =>
    ((m ((c.tc : Thread Cert.KernelIdeal.nD Cert.KernelIdeal.τ).loc Cert.KernelIdeal.main_arg2) : Vec Ideal Cert.KernelIdeal.S256x1024 .bf16) (ix2 R C) : EReal).toReal
  let D : Dev Cert.KernelIdeal.nD → Fin 8192 → Fin 2048 → ℝ := fun c R C =>
    ((m ((c.tc : Thread Cert.KernelIdeal.nD Cert.KernelIdeal.τ).loc Cert.KernelIdeal.main_arg3) : Vec Ideal Cert.KernelIdeal.S8192x2048 .bf16) (ix2 R C) : EReal).toReal
  have hf := fun c => Cert.Mem.finite_of_pre _ _ _ _ _ (hpre c)
  refine ⟨fun c => Cert.Mem.mixArr (m ((c.tc : Thread Cert.KernelIdeal.nD Cert.KernelIdeal.τ).loc Cert.KernelIdeal.main_arg1)) (H c) (M c),
    fun c => Cert.Mem.dhArr (m ((c.tc : Thread Cert.KernelIdeal.nD Cert.KernelIdeal.τ).loc Cert.KernelIdeal.main_arg4)) (H c) (D c) (M c),
    fun c => Cert.Mem.gradArr (H c) (D c) (M c), ?_, ?_⟩
  · refine (θ_run Cert.KernelIdeal.defs _ _).mono (fun _ h c => ?_) (Cert.Mem.run_results (F := Ideal) m g)
    obtain ⟨e0, e1, e2, ea⟩ := h c
    obtain ⟨f0, f2, f3⟩ := hf c
    exact ⟨e0.trans (Cert.Mem.final_mix m g c f0 f2), e1.trans (Cert.Mem.final_dh m g c f0 f2 f3),
      e2.trans (Cert.Mem.final_grad m g c f0 f2 f3), ea⟩
  · refine (θ_run Cert.ReferenceIdeal.defs _ _).mono (fun _ h c => ?_) (Cert.ReferenceIdeal.Value.run (F := Ideal) m' g')
    obtain ⟨e0, e1, e2, ea⟩ := h c
    obtain ⟨f0, f2, f3⟩ := hf c
    obtain ⟨a0, a1, a2, a3, a4⟩ := hagree c
    refine ⟨e0.trans ?_, e1.trans ?_, e2.trans ?_, ea⟩
    · rw [Cert.ReferenceIdeal.Read.val_main_v104_eq, a0, a1, a2]
      exact Cert.Mem.result_mix f0 f2 _
    · rw [Cert.ReferenceIdeal.Read.val_main_v108_eq, a0, a2, a3, a4]
      exact Cert.Mem.result_dh f0 f2 f3 _
    · rw [Cert.ReferenceIdeal.Read.val_main_v101_eq, a0, a2, a3]
      exact Cert.Mem.result_grad f0 f2 f3

/-! ## The layer norm's backward call -/

/-- The layer norm's backward call over words runs, leaves its arguments as they were and every counter at zero. -/
theorem norm_frame_kernel : Cert.quiescent_Kernel2 := fun m g _ => Cert.Kernel2.Gen.frame m g

/-- The layer norm's backward call over the extended reals runs, leaves its arguments as they were and every counter at zero. -/
theorem norm_frame_ideal : Cert.quiescent_Kernel2Ideal := fun m g _ => Cert.Kernel2Ideal.Gen.frame m g

/-- The same under the precondition. -/
theorem norm_frame_ideal_pre : Cert.quiescent_Kernel2Ideal_pre_finite2 := fun m g _ => Cert.Kernel2Ideal.Gen.frame m g

/-- The layer norm's reference runs, leaves its arguments as they were, and has no counter. -/
theorem norm_frame_reference : Cert.quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run (F := Ideal) m g)

/-- The same under the precondition. -/
theorem norm_frame_reference_pre : Cert.quiescent_Reference2Ideal_pre_finite2 := fun m g _ => norm_frame_reference m g trivial

/-- The layer norm's backward call and the reference leave equal results. -/
theorem norm_equation : Cert.algebraic_Kernel2Ideal_Reference2Ideal_pre_finite2 := by
  intro m g m' g' hpre hagree
  let G : Dev Cert.Kernel2Ideal.nD → Fin 8192 → Fin 2048 → ℝ := fun c R C =>
    ((m ((c.tc : Thread Cert.Kernel2Ideal.nD Cert.Kernel2Ideal.τ).loc Cert.Kernel2Ideal.main_arg0) : Vec Ideal Cert.Kernel2Ideal.S8192x2048 .f32) (ix2 R C) : EReal).toReal
  let X : Dev Cert.Kernel2Ideal.nD → Fin 8192 → Fin 2048 → ℝ := fun c R C =>
    ((m ((c.tc : Thread Cert.Kernel2Ideal.nD Cert.Kernel2Ideal.τ).loc Cert.Kernel2Ideal.main_arg1) : Vec Ideal Cert.Kernel2Ideal.S8192x2048 .f32) (ix2 R C) : EReal).toReal
  let Y : Dev Cert.Kernel2Ideal.nD → Fin 8192 → Fin 2048 → ℝ := fun c R C =>
    ((m ((c.tc : Thread Cert.Kernel2Ideal.nD Cert.Kernel2Ideal.τ).loc Cert.Kernel2Ideal.main_arg2) : Vec Ideal Cert.Kernel2Ideal.S8192x2048 .bf16) (ix2 R C) : EReal).toReal
  let W : Dev Cert.Kernel2Ideal.nD → Fin 2048 → Fin 2048 → ℝ := fun c R C =>
    ((m ((c.tc : Thread Cert.Kernel2Ideal.nD Cert.Kernel2Ideal.τ).loc Cert.Kernel2Ideal.main_arg3) : Vec Ideal Cert.Kernel2Ideal.S2048x2048 .bf16) (ix2 R C) : EReal).toReal
  let L : Dev Cert.Kernel2Ideal.nD → Fin 2048 → ℝ := fun c C =>
    ((m ((c.tc : Thread Cert.Kernel2Ideal.nD Cert.Kernel2Ideal.τ).loc Cert.Kernel2Ideal.main_arg4) : Vec Ideal Cert.Kernel2Ideal.S2048 .f32) (ix1 C) : EReal).toReal
  have hf := fun c => Cert.Norm.finite_of_pre _ _ _ _ _ (hpre c)
  refine ⟨fun c => Cert.Norm.dyArr (G c) (X c) (Y c) (W c) (L c), fun c => Cert.Norm.duArr (G c) (X c) (Y c) (W c) (L c),
    fun c => Cert.Norm.dgArr (G c) (X c) (Y c) (W c), fun c => Cert.Norm.dbArr (G c),
    fun c => Cert.Norm.dwArr (G c) (X c) (Y c) (W c) (L c), ?_, ?_⟩
  · exact Cert.Norm.run_named m (fun c => (hf c).1) (fun c => (hf c).2.1) (fun c => (hf c).2.2.1) (fun c => (hf c).2.2.2.1) (fun c => (hf c).2.2.2.2) g
  · refine (θ_run Cert.Reference2Ideal.defs _ _).mono (fun _ h c => ?_) (Cert.Reference2Ideal.Value.run (F := Ideal) m' g')
    obtain ⟨e0, e1, e2, e3, e4, ea⟩ := h c
    obtain ⟨f0, f1, f2, f3, f4⟩ := hf c
    obtain ⟨a0, a1, a2, a3, a4⟩ := hagree c
    refine ⟨e0.trans ?_, e1.trans ?_, e2.trans ?_, e3.trans ?_, e4.trans ?_, ea⟩
    · rw [Cert.Reference2Ideal.Read.val_main_v74_eq, a0, a1, a2, a3, a4]
      exact Cert.Norm.dy_val f0 f1 f2 f3 f4
    · rw [Cert.Reference2Ideal.Read.val_main_v69_eq, a0, a1, a2, a3, a4]
      exact Cert.Norm.du_val f0 f1 f2 f3 f4
    · rw [Cert.Reference2Ideal.Read.val_main_v75_eq, a0, a1, a2, a3]
      exact Cert.Norm.dg_val f0 f1 f2 f3
    · rw [Cert.Reference2Ideal.Read.val_main_v76_eq, a0]
      exact Cert.Norm.db_val f0
    · rw [Cert.Reference2Ideal.Read.val_main_v77_eq, a0, a1, a2, a3, a4]
      exact Cert.Norm.dw_val f0 f1 f2 f3 f4

/-! ## The output projection -/

/-- The output projection over words runs, leaves its arguments as they were and every counter at zero. -/
theorem proj_frame_kernel : Cert.quiescent_Kernel3 := fun m g _ => Cert.Kernel3.Gen.frame m g

/-- The output projection over the extended reals runs, leaves its arguments as they were and every counter at zero. -/
theorem proj_frame_ideal : Cert.quiescent_Kernel3Ideal := fun m g _ => Cert.Kernel3Ideal.Gen.frame m g

/-- Its reference runs, leaves its arguments as they were, and has no counter. -/
theorem proj_frame_reference : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

/-- The output projection and its reference leave equal results. -/
theorem proj_equation : Cert.algebraic_Kernel3Ideal_Reference3Ideal := by
  intro m g m' g' _ hagree
  let H : Dev Cert.Kernel3Ideal.nD → Fin 8192 → Fin 7168 → EReal := fun c i j =>
    (m ((c.tc : Thread Cert.Kernel3Ideal.nD Cert.Kernel3Ideal.τ).loc Cert.Kernel3Ideal.main_arg0) : Vec Ideal Cert.Kernel3Ideal.S8192x7168 .bf16) (ix2 i j)
  let Q : Dev Cert.Kernel3Ideal.nD → Fin 8192 → Fin 2048 → EReal := fun c i j =>
    (m ((c.tc : Thread Cert.Kernel3Ideal.nD Cert.Kernel3Ideal.τ).loc Cert.Kernel3Ideal.main_arg1) : Vec Ideal Cert.Kernel3Ideal.S8192x2048 .bf16) (ix2 i j)
  let W : Dev Cert.Kernel3Ideal.nD → Fin 2048 → Fin 2048 → EReal := fun c i j =>
    (m ((c.tc : Thread Cert.Kernel3Ideal.nD Cert.Kernel3Ideal.τ).loc Cert.Kernel3Ideal.main_arg2) : Vec Ideal Cert.Kernel3Ideal.S2048x2048 .bf16) (ix2 i j)
  let X : Dev Cert.Kernel3Ideal.nD → Fin 8192 → Fin 2048 → EReal := fun c i j =>
    (m ((c.tc : Thread Cert.Kernel3Ideal.nD Cert.Kernel3Ideal.τ).loc Cert.Kernel3Ideal.main_arg3) : Vec Ideal Cert.Kernel3Ideal.S8192x2048 .f32) (ix2 i j)
  let G : Dev Cert.Kernel3Ideal.nD → Fin 2048 → EReal := fun c j =>
    (m ((c.tc : Thread Cert.Kernel3Ideal.nD Cert.Kernel3Ideal.τ).loc Cert.Kernel3Ideal.main_arg4) : Vec Ideal Cert.Kernel3Ideal.S2048 .f32) (ix1 j)
  let B : Dev Cert.Kernel3Ideal.nD → Fin 2048 → EReal := fun c j =>
    (m ((c.tc : Thread Cert.Kernel3Ideal.nD Cert.Kernel3Ideal.τ).loc Cert.Kernel3Ideal.main_arg5) : Vec Ideal Cert.Kernel3Ideal.S2048 .f32) (ix1 j)
  refine ⟨fun c => Cert.Proj.normArr (H c) (Q c) (X c) (W c) (G c) (B c), fun c => Cert.Proj.unitArr (H c) (Q c) (X c) (W c),
    fun c => Cert.Proj.rootArr (H c) (Q c) (X c) (W c), fun c => Cert.Proj.gatedArr (H c) (Q c), ?_, ?_⟩
  · refine (θ_run Cert.Kernel3Ideal.defs _ _).mono (fun _ h c => ?_) (Cert.Kernel3Ideal.Value.run_blocks (F := Ideal) m g)
    obtain ⟨e0, e1, e2, e3, ea⟩ := h c
    exact ⟨e0.trans (Cert.Proj.array_norm m c (fun _ _ => rfl) (fun _ _ => rfl) (fun _ _ => rfl) (fun _ _ => rfl) (fun _ => rfl) (fun _ => rfl)), e1.trans (Cert.Proj.array_unit m c (fun _ _ => rfl) (fun _ _ => rfl) (fun _ _ => rfl) (fun _ _ => rfl)),
      e2.trans (Cert.Proj.array_root m c (fun _ _ => rfl) (fun _ _ => rfl) (fun _ _ => rfl) (fun _ _ => rfl)), e3.trans (Cert.Proj.array_gated m c (fun _ _ => rfl) (fun _ _ => rfl)), ea⟩
  · refine (θ_run Cert.Reference3Ideal.defs _ _).mono (fun _ h c => ?_) (Cert.Reference3Ideal.Value.run (F := Ideal) m' g')
    obtain ⟨e0, e1, e2, e3, ea⟩ := h c
    obtain ⟨a0, a1, a2, a3, a4, a5⟩ := hagree c
    refine ⟨e0.trans ?_, e1.trans ?_, e2.trans ?_, e3.trans ?_, ea⟩
    · rw [Cert.Reference3Ideal.Read.val_main_v43_eq, a0, a1, a2, a3, a4, a5]
      exact Cert.Proj.result_norm (fun _ _ => rfl) (fun _ _ => rfl) (fun _ _ => rfl) (fun _ _ => rfl) (fun _ => rfl) (fun _ => rfl)
    · rw [Cert.Reference3Ideal.Read.val_main_v37_eq, a0, a1, a2, a3]
      exact Cert.Proj.result_unit (fun _ _ => rfl) (fun _ _ => rfl) (fun _ _ => rfl) (fun _ _ => rfl)
    · rw [Cert.Reference3Ideal.Read.val_main_v33_eq, a0, a1, a2, a3]
      exact Cert.Proj.result_root (fun _ _ => rfl) (fun _ _ => rfl) (fun _ _ => rfl) (fun _ _ => rfl)
    · rw [Cert.Reference3Ideal.Read.val_main_v44_eq, a0, a1]
      exact Cert.Proj.result_gated (fun _ _ => rfl) (fun _ _ => rfl)

/-! ## The last layer's output projection -/

/-- The last layer's output projection over words runs, leaves its arguments as they were and every counter at zero. -/
theorem loss_frame_kernel : Cert.quiescent_Kernel4 := fun m g _ => Cert.Kernel4.Gen.frame m g

/-- The last layer's output projection over the extended reals runs, leaves its arguments as they were and every counter at zero. -/
theorem loss_frame_ideal : Cert.quiescent_Kernel4Ideal := fun m g _ => Cert.Kernel4Ideal.Gen.frame m g

/-- Its reference runs, leaves its arguments as they were, and has no counter. -/
theorem loss_frame_reference : Cert.quiescent_Reference4Ideal := fun m g _ =>
  (θ_run Cert.Reference4Ideal.defs _ _).mono (fun r h => ⟨fun c => (h c).2.2.2.2.2, sem_eq_zero_of_no_sems (by decide) r.2⟩)
    (Cert.Reference4Ideal.Value.run (F := Ideal) m g)

/-- The last layer's output projection and its reference leave equal results. -/
theorem loss_equation : Cert.algebraic_Kernel4Ideal_Reference4Ideal := by
  intro m g m' g' _ hagree
  let H : Dev Cert.Kernel4Ideal.nD → Fin 8192 → Fin 7168 → EReal := fun c i j =>
    (m ((c.tc : Thread Cert.Kernel4Ideal.nD Cert.Kernel4Ideal.τ).loc Cert.Kernel4Ideal.main_arg0) : Vec Ideal Cert.Kernel4Ideal.S8192x7168 .bf16) (ix2 i j)
  let Q : Dev Cert.Kernel4Ideal.nD → Fin 8192 → Fin 2048 → EReal := fun c i j =>
    (m ((c.tc : Thread Cert.Kernel4Ideal.nD Cert.Kernel4Ideal.τ).loc Cert.Kernel4Ideal.main_arg1) : Vec Ideal Cert.Kernel4Ideal.S8192x2048 .bf16) (ix2 i j)
  let W : Dev Cert.Kernel4Ideal.nD → Fin 2048 → Fin 2048 → EReal := fun c i j =>
    (m ((c.tc : Thread Cert.Kernel4Ideal.nD Cert.Kernel4Ideal.τ).loc Cert.Kernel4Ideal.main_arg2) : Vec Ideal Cert.Kernel4Ideal.S2048x2048 .bf16) (ix2 i j)
  let X : Dev Cert.Kernel4Ideal.nD → Fin 8192 → Fin 2048 → EReal := fun c i j =>
    (m ((c.tc : Thread Cert.Kernel4Ideal.nD Cert.Kernel4Ideal.τ).loc Cert.Kernel4Ideal.main_arg3) : Vec Ideal Cert.Kernel4Ideal.S8192x2048 .f32) (ix2 i j)
  let S : Dev Cert.Kernel4Ideal.nD → Fin 8192 → Fin 2048 → EReal := fun c i j =>
    (m ((c.tc : Thread Cert.Kernel4Ideal.nD Cert.Kernel4Ideal.τ).loc Cert.Kernel4Ideal.main_arg6) : Vec Ideal Cert.Kernel4Ideal.S8192x2048 .f32) (ix2 i j)
  let G : Dev Cert.Kernel4Ideal.nD → Fin 2048 → EReal := fun c j =>
    (m ((c.tc : Thread Cert.Kernel4Ideal.nD Cert.Kernel4Ideal.τ).loc Cert.Kernel4Ideal.main_arg4) : Vec Ideal Cert.Kernel4Ideal.S2048 .f32) (ix1 j)
  let B : Dev Cert.Kernel4Ideal.nD → Fin 2048 → EReal := fun c j =>
    (m ((c.tc : Thread Cert.Kernel4Ideal.nD Cert.Kernel4Ideal.τ).loc Cert.Kernel4Ideal.main_arg5) : Vec Ideal Cert.Kernel4Ideal.S2048 .f32) (ix1 j)
  refine ⟨fun c => Cert.Loss.slopeArr (H c) (Q c) (X c) (S c) (W c) (G c) (B c), fun c => Cert.Proj.unitArr (H c) (Q c) (X c) (W c),
    fun c => Cert.Proj.rootArr (H c) (Q c) (X c) (W c), fun c => Cert.Proj.gatedArr (H c) (Q c),
    fun c => Cert.Loss.lossArr (H c) (Q c) (X c) (S c) (W c) (G c) (B c), ?_, ?_⟩
  · refine (θ_run Cert.Kernel4Ideal.defs _ _).mono (fun _ h c => ?_) (Cert.Kernel4Ideal.Value.run_blocks (F := Ideal) m g)
    obtain ⟨e0, e1, e2, e3, e4, ea⟩ := h c
    exact ⟨e0.trans (Cert.Loss.array_slope m c (fun _ _ => rfl) (fun _ _ => rfl) (fun _ _ => rfl) (fun _ _ => rfl) (fun _ => rfl) (fun _ => rfl) (fun _ _ => rfl)), e1.trans (Cert.Loss.array_unit m c (fun _ _ => rfl) (fun _ _ => rfl) (fun _ _ => rfl) (fun _ _ => rfl)),
      e2.trans (Cert.Loss.array_root m c (fun _ _ => rfl) (fun _ _ => rfl) (fun _ _ => rfl) (fun _ _ => rfl)), e3.trans (Cert.Loss.array_gated m c (fun _ _ => rfl) (fun _ _ => rfl)),
      e4.trans (Cert.Loss.array_loss m c (fun _ _ => rfl) (fun _ _ => rfl) (fun _ _ => rfl) (fun _ _ => rfl) (fun _ => rfl) (fun _ => rfl) (fun _ _ => rfl)), ea⟩
  · refine (θ_run Cert.Reference4Ideal.defs _ _).mono (fun _ h c => ?_) (Cert.Reference4Ideal.Value.run (F := Ideal) m' g')
    obtain ⟨e0, e1, e2, e3, e4, ea⟩ := h c
    obtain ⟨a0, a1, a2, a3, a4, a5, a6⟩ := hagree c
    refine ⟨e0.trans ?_, e1.trans ?_, e2.trans ?_, e3.trans ?_, e4.trans ?_, ea⟩
    · rw [Cert.Reference4Ideal.Read.val_main_v58_eq, a0, a1, a2, a3, a4, a5, a6]
      exact Cert.Loss.last_slope (fun _ _ => rfl) (fun _ _ => rfl) (fun _ _ => rfl) (fun _ _ => rfl) (fun _ => rfl) (fun _ => rfl) (fun _ _ => rfl)
    · rw [Cert.Reference4Ideal.Read.val_main_v37_eq, a0, a1, a2, a3]
      exact Cert.Loss.last_unit (fun _ _ => rfl) (fun _ _ => rfl) (fun _ _ => rfl) (fun _ _ => rfl)
    · rw [Cert.Reference4Ideal.Read.val_main_v33_eq, a0, a1, a2, a3]
      exact Cert.Loss.last_root (fun _ _ => rfl) (fun _ _ => rfl) (fun _ _ => rfl) (fun _ _ => rfl)
    · rw [Cert.Reference4Ideal.Read.val_main_v59_eq, a0, a1]
      exact Cert.Loss.last_gated (fun _ _ => rfl) (fun _ _ => rfl)
    · rw [Cert.Reference4Ideal.Read.val_main_v60_eq, a0, a1, a2, a3, a4, a5, a6]
      exact Cert.Loss.last_loss (fun _ _ => rfl) (fun _ _ => rfl) (fun _ _ => rfl) (fun _ _ => rfl) (fun _ => rfl) (fun _ => rfl) (fun _ _ => rfl)

/-! ## The last layer's input projection -/

/-- The last layer's input projection over words runs, leaves its arguments as they were and every counter at zero. -/
theorem in_frame_kernel : Cert.quiescent_Kernel5 := fun m g _ => Cert.In.frame_words m g

/-- The last layer's input projection over the extended reals runs, leaves its arguments as they were and every counter at zero. -/
theorem in_frame_ideal : Cert.quiescent_Kernel5Ideal := fun m g _ => Cert.In.frame_in m g

/-- Its reference runs, leaves its arguments as they were, and has no counter. -/
theorem in_frame_reference : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

/-- The last layer's input projection and its reference leave equal results in every column but the padding. -/
theorem in_equation : Cert.algebraic_Kernel5Ideal_Reference5Ideal_on_live := by
  intro m g m' g' _ hagree
  let X : Dev Cert.Kernel5Ideal.nD → Fin 8192 → Fin 2048 → EReal := fun c i j =>
    (m ((c.tc : Thread Cert.Kernel5Ideal.nD Cert.Kernel5Ideal.τ).loc Cert.Kernel5Ideal.main_arg0) : Vec Ideal Cert.Kernel5Ideal.S8192x2048 .f32) (ix2 i j)
  let W : Dev Cert.Kernel5Ideal.nD → Fin 2048 → Fin 7168 → EReal := fun c i j =>
    (m ((c.tc : Thread Cert.Kernel5Ideal.nD Cert.Kernel5Ideal.τ).loc Cert.Kernel5Ideal.main_arg1) : Vec Ideal Cert.Kernel5Ideal.S2048x7168 .bf16) (ix2 i j)
  refine ⟨fun c => Cert.In.inArr (X c) (W c), ?_, ?_⟩
  · refine (θ_run Cert.Kernel5Ideal.defs _ _).mono (fun _ h c => ?_) (Cert.In.run_in m g X W (fun _ _ _ => rfl) (fun _ _ _ => rfl))
    exact ⟨fun i hi => (h c).1 i (Cert.In.live_mask _ _ i hi), (h c).2⟩
  · refine (θ_run Cert.Reference5Ideal.defs _ _).mono (fun _ h c => ?_) (Cert.Reference5Ideal.Value.run (F := Ideal) m' g')
    obtain ⟨e0, ea⟩ := h c
    obtain ⟨a0, a1⟩ := hagree c
    refine ⟨fun i _ => congrFun (e0.trans ?_) i, ea⟩
    rw [Cert.Reference5Ideal.Read.val_main_v2_eq, a0, a1]
    exact Cert.In.result_in (fun _ _ => rfl) (fun _ _ => rfl)

/-! ## The memory's keys and values -/

/-- The product of the memory's keys and values over words runs, leaves its arguments as they were and every counter at zero. -/
theorem kv_frame_kernel : Cert.quiescent_Kernel6 := fun m g _ => Cert.Kernel6.Gen.frame m g

/-- The product of the memory's keys and values over the extended reals runs, leaves its arguments as they were and every counter at zero. -/
theorem kv_frame_ideal : Cert.quiescent_Kernel6Ideal := fun m g _ => Cert.Kernel6Ideal.Gen.frame m g

/-- Its reference runs, leaves its arguments as they were, and has no counter. -/
theorem kv_frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The product of the memory's keys and values and its reference leave equal results. -/
theorem kv_equation : Cert.algebraic_Kernel6Ideal_Reference6Ideal := by
  intro m g m' g' _ hagree
  let A : Dev Cert.Kernel6Ideal.nD → Fin 256 → Fin 2048 → EReal := fun c i j =>
    (m ((c.tc : Thread Cert.Kernel6Ideal.nD Cert.Kernel6Ideal.τ).loc Cert.Kernel6Ideal.main_arg0) : Vec Ideal Cert.Kernel6Ideal.S256x2048 .f32) (ix2 i j)
  let B : Dev Cert.Kernel6Ideal.nD → Fin 2048 → Fin 1024 → EReal := fun c i j =>
    (m ((c.tc : Thread Cert.Kernel6Ideal.nD Cert.Kernel6Ideal.τ).loc Cert.Kernel6Ideal.main_arg1) : Vec Ideal Cert.Kernel6Ideal.S2048x1024 .bf16) (ix2 i j)
  refine ⟨fun c => Cert.Dense.kvArr (A c) (B c), ?_, ?_⟩
  · refine (θ_run Cert.Kernel6Ideal.defs _ _).mono (fun _ h c => ?_) (Cert.Kernel6Ideal.Value.run_blocks (F := Ideal) m g)
    obtain ⟨e0, ea⟩ := h c
    exact ⟨e0.trans (Cert.Dense.array_kv m c (fun _ _ => rfl) (fun _ _ => rfl)), ea⟩
  · refine (θ_run Cert.Reference6Ideal.defs _ _).mono (fun _ h c => ?_) (Cert.Reference6Ideal.Value.run (F := Ideal) m' g')
    obtain ⟨e0, ea⟩ := h c
    obtain ⟨a0, a1⟩ := hagree c
    refine ⟨e0.trans ?_, ea⟩
    rw [Cert.Reference6Ideal.Read.val_main_v2_eq, a0, a1]
    exact Cert.Dense.result_kv (fun _ _ => rfl) (fun _ _ => rfl)

/-! ## The gradient of the memory's weights -/

/-- The product of the gradient of the memory's weights over words runs, leaves its arguments as they were and every counter at zero. -/
theorem dkv_frame_kernel : Cert.quiescent_Kernel7 := fun m g _ => Cert.Kernel7.Gen.frame m g

/-- The product of the gradient of the memory's weights over the extended reals runs, leaves its arguments as they were and every counter at zero. -/
theorem dkv_frame_ideal : Cert.quiescent_Kernel7Ideal := fun m g _ => Cert.Kernel7Ideal.Gen.frame m g

/-- Its reference runs, leaves its arguments as they were, and has no counter. -/
theorem dkv_frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

/-- The product of the gradient of the memory's weights and its reference leave equal results. -/
theorem dkv_equation : Cert.algebraic_Kernel7Ideal_Reference7Ideal := by
  intro m g m' g' _ hagree
  let A : Dev Cert.Kernel7Ideal.nD → Fin 256 → Fin 2048 → EReal := fun c i j =>
    (m ((c.tc : Thread Cert.Kernel7Ideal.nD Cert.Kernel7Ideal.τ).loc Cert.Kernel7Ideal.main_arg0) : Vec Ideal Cert.Kernel7Ideal.S256x2048 .f32) (ix2 i j)
  let B : Dev Cert.Kernel7Ideal.nD → Fin 256 → Fin 1024 → EReal := fun c i j =>
    (m ((c.tc : Thread Cert.Kernel7Ideal.nD Cert.Kernel7Ideal.τ).loc Cert.Kernel7Ideal.main_arg1) : Vec Ideal Cert.Kernel7Ideal.S256x1024 .f32) (ix2 i j)
  refine ⟨fun c => Cert.Dense.dkvArr (A c) (B c), ?_, ?_⟩
  · refine (θ_run Cert.Kernel7Ideal.defs _ _).mono (fun _ h c => ?_) (Cert.Kernel7Ideal.Value.run_blocks (F := Ideal) m g)
    obtain ⟨e0, ea⟩ := h c
    exact ⟨e0.trans (Cert.Dense.array_dkv m c (fun _ _ => rfl) (fun _ _ => rfl)), ea⟩
  · refine (θ_run Cert.Reference7Ideal.defs _ _).mono (fun _ h c => ?_) (Cert.Reference7Ideal.Value.run (F := Ideal) m' g')
    obtain ⟨e0, ea⟩ := h c
    obtain ⟨a0, a1⟩ := hagree c
    refine ⟨e0.trans ?_, ea⟩
    rw [Cert.Reference7Ideal.Read.val_main_v4_eq, a0, a1]
    exact Cert.Dense.result_dkv (fun _ _ => rfl) (fun _ _ => rfl)

/-! ## The gradient of a layer's input -/

/-- The call over words runs, leaves its arguments as they were and every counter at zero. -/
theorem dx_frame_kernel : Cert.quiescent_Kernel8 := fun m g _ => Cert.Kernel8.Gen.frame m g

/-- The call over the extended reals runs, leaves its arguments as they were and every counter at zero. -/
theorem dx_frame_ideal : Cert.quiescent_Kernel8Ideal := fun m g _ => Cert.Kernel8Ideal.Gen.frame m g

/-- Its reference runs, leaves its arguments as they were, and has no counter. -/
theorem dx_frame_reference : Cert.quiescent_Reference8Ideal := fun m g _ =>
  (θ_run Cert.Reference8Ideal.defs _ _).mono (fun r h => ⟨fun c => (h c).2, sem_eq_zero_of_no_sems (by decide) r.2⟩)
    (Cert.Reference8Ideal.Value.run (F := Ideal) m g)

/-- The call for a layer's input's gradient and its reference leave equal results. -/
theorem dx_equation : Cert.algebraic_Kernel8Ideal_Reference8Ideal := by
  intro m g m' g' _ hagree
  let A : Dev Cert.Kernel8Ideal.nD → Fin 8192 → Fin 7168 → EReal := fun c i j =>
    (m ((c.tc : Thread Cert.Kernel8Ideal.nD Cert.Kernel8Ideal.τ).loc Cert.Kernel8Ideal.main_arg0) : Vec Ideal Cert.Kernel8Ideal.S8192x7168 .bf16) (ix2 i j)
  let B : Dev Cert.Kernel8Ideal.nD → Fin 2048 → Fin 7168 → EReal := fun c i j =>
    (m ((c.tc : Thread Cert.Kernel8Ideal.nD Cert.Kernel8Ideal.τ).loc Cert.Kernel8Ideal.main_arg1) : Vec Ideal Cert.Kernel8Ideal.S2048x7168 .bf16) (ix2 i j)
  let U : Dev Cert.Kernel8Ideal.nD → Fin 8192 → Fin 2048 → EReal := fun c i j =>
    (m ((c.tc : Thread Cert.Kernel8Ideal.nD Cert.Kernel8Ideal.τ).loc Cert.Kernel8Ideal.main_arg2) : Vec Ideal Cert.Kernel8Ideal.S8192x2048 .f32) (ix2 i j)
  refine ⟨fun c => Cert.Dx.dxArr (A c) (B c) (U c), ?_, ?_⟩
  · refine (θ_run Cert.Kernel8Ideal.defs _ _).mono (fun _ h c => ?_) (Cert.Kernel8Ideal.Value.run_blocks (F := Ideal) m g)
    obtain ⟨e0, ea⟩ := h c
    exact ⟨e0.trans (Cert.Dx.array_dx m c (fun _ _ => rfl) (fun _ _ => rfl) (fun _ _ => rfl)), ea⟩
  · refine (θ_run Cert.Reference8Ideal.defs _ _).mono (fun _ h c => ?_) (Cert.Reference8Ideal.Value.run (F := Ideal) m' g')
    obtain ⟨e0, ea⟩ := h c
    obtain ⟨a0, a1, a2⟩ := hagree c
    refine ⟨e0.trans ?_, ea⟩
    rw [Cert.Reference8Ideal.Read.val_main_v15_eq, a0, a1, a2]
    exact Cert.Dx.result_dx (fun _ _ => rfl) (fun _ _ => rfl) (fun _ _ => rfl)

/-! ## The gradient of the input projection's weights -/

/-- The call over words runs, leaves its arguments as they were and every counter at zero. -/
theorem dw_frame_kernel : Cert.quiescent_Kernel9 := fun m g _ => Cert.Dw.frame_words m g

/-- The call over the extended reals runs, leaves its arguments as they were and every counter at zero. -/
theorem dw_frame_ideal : Cert.quiescent_Kernel9Ideal := fun m g _ => Cert.Dw.frame_dw m g

/-- Its reference runs, leaves its arguments as they were, and has no counter. -/
theorem dw_frame_reference : Cert.quiescent_Reference9Ideal := fun m g _ =>
  (θ_run Cert.Reference9Ideal.defs _ _).mono (fun r h => ⟨fun c => (h c).2, sem_eq_zero_of_no_sems (by decide) r.2⟩)
    (Cert.Reference9Ideal.Value.run (F := Ideal) m g)

/-- The call for the weights' gradient and its reference leave equal results in every column but the padding. -/
theorem dw_equation : Cert.algebraic_Kernel9Ideal_Reference9Ideal_on_live9 := by
  intro m g m' g' _ hagree
  let X : Dev Cert.Kernel9Ideal.nD → Cert.Dw.Input := fun c i j =>
    (m ((c.tc : Thread Cert.Kernel9Ideal.nD Cert.Kernel9Ideal.τ).loc Cert.Kernel9Ideal.main_arg0) : Vec Ideal Cert.Kernel9Ideal.S8192x2048 .f32) (ix2 i j)
  let G : Dev Cert.Kernel9Ideal.nD → Cert.Dw.Grad := fun c i j =>
    (m ((c.tc : Thread Cert.Kernel9Ideal.nD Cert.Kernel9Ideal.τ).loc Cert.Kernel9Ideal.main_arg1) : Vec Ideal Cert.Kernel9Ideal.S8192x7168 .bf16) (ix2 i j)
  refine ⟨fun c => Cert.Dw.dwArr (X c) (G c), ?_, ?_⟩
  · refine (θ_run Cert.Kernel9Ideal.defs _ _).mono (fun _ h c => ?_) (Cert.Dw.run_dw m g X G (fun _ _ _ => rfl) (fun _ _ _ => rfl))
    exact ⟨fun i hi => (h c).1 i (Cert.Dw.live_mask _ _ i hi), (h c).2⟩
  · refine (θ_run Cert.Reference9Ideal.defs _ _).mono (fun _ h c => ?_) (Cert.Reference9Ideal.Value.run (F := Ideal) m' g')
    obtain ⟨e0, ea⟩ := h c
    obtain ⟨a0, a1⟩ := hagree c
    refine ⟨fun i _ => congrFun (e0.trans ?_) i, ea⟩
    rw [Cert.Reference9Ideal.Read.val_main_v5_eq, a0, a1]
    exact Cert.Dw.result_dw (fun _ _ => rfl) (fun _ _ => rfl)

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_finite.Gen.facts, Cert.Pre_finite2.Gen.facts, Cert.On_live.Gen.facts, Cert.On_live9.Gen.facts,
  frame_kernel, frame_ideal, frame_ideal_pre, frame_reference, frame_reference_pre,
  norm_frame_kernel, norm_frame_ideal, norm_frame_ideal_pre, norm_frame_reference, norm_frame_reference_pre,
  proj_frame_kernel, proj_frame_ideal, proj_frame_reference, loss_frame_kernel, loss_frame_ideal, loss_frame_reference,
  in_frame_kernel, in_frame_ideal, in_frame_reference, kv_frame_kernel, kv_frame_ideal, kv_frame_reference,
  dkv_frame_kernel, dkv_frame_ideal, dkv_frame_reference, dx_frame_kernel, dx_frame_ideal, dx_frame_reference,
  dw_frame_kernel, dw_frame_ideal, dw_frame_reference,
  constants, equation, trivial, norm_equation, trivial, proj_equation, trivial, loss_equation,
  trivial, in_equation, trivial, kv_equation, trivial, dkv_equation, trivial, dx_equation,
  trivial, dw_equation⟩

end Cert.Proof

end
